-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x50x51x2 : Shape := ⟨4, ![256, 50, 51, 2]⟩
abbrev S4x64x2 : Shape := ⟨3, ![4, 64, 2]⟩
abbrev S4x1x128 : Shape := ⟨3, ![4, 1, 128]⟩
abbrev S128x256 : Shape := ⟨2, ![128, 256]⟩
abbrev S1x256 : Shape := ⟨2, ![1, 256]⟩
abbrev S128x51 : Shape := ⟨2, ![128, 51]⟩
abbrev S128x32 : Shape := ⟨2, ![128, 32]⟩
abbrev S128 : Shape := ⟨1, ![128]⟩
abbrev S8x1600 : Shape := ⟨2, ![8, 1600]⟩
abbrev S8 : Shape := ⟨1, ![8]⟩
abbrev S_ : Shape := ⟨0, ![]⟩

class Facts : Prop where
  bcast_S_S256x50x51x2 : S_.BroadcastsInDim S256x50x51x2 (![] : Fin 0 → Fin S256x50x51x2.rank)
  reducesTo_S256x50x51x2_S_d0_1_2_3 : S256x50x51x2.ReducesTo [0, 1, 2, 3] S_
  h_S_ : 0 < S_.numel
  bcast_S_S4x64x2 : S_.BroadcastsInDim S4x64x2 (![] : Fin 0 → Fin S4x64x2.rank)
  reducesTo_S4x64x2_S_d0_1_2 : S4x64x2.ReducesTo [0, 1, 2] S_
  bcast_S_S4x1x128 : S_.BroadcastsInDim S4x1x128 (![] : Fin 0 → Fin S4x1x128.rank)
  reducesTo_S4x1x128_S_d0_1_2 : S4x1x128.ReducesTo [0, 1, 2] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S256x50x51x2 .f32) (main_arg1 : FVec F S4x64x2 .f32) (main_arg2 : FVec F S4x1x128 .f32) (main_arg3 : FVec F S128x256 .f32) (main_arg4 : FVec F S1x256 .f32) (main_arg5 : FVec F S128x51 .f32) (main_arg6 : FVec F S128x32 .f32) (main_arg7 : FVec F S128 .f32) (main_arg8 : FVec F S128 .f32) (main_arg9 : FVec F S128x32 .f32) (main_arg10 : FVec F S128x32 .f32) (main_arg11 : FVec F S128 .f32) (main_arg12 : FVec F S128 .f32) (main_arg13 : FVec F S8x1600 .f32) (main_arg14 : FVec F S8 .f32) : IVec S_ 1 :=
  let main_v0 : FVec F S256x50x51x2 .f32 := Host.absf main_arg0
  let main_cst : FVec F S_ .f32 := constant S_ .f32 0x7F800000#32
  let main_v1 : FVec F S256x50x51x2 .f32 := broadcastInDim S256x50x51x2 ![] bcast_S_S256x50x51x2 main_cst
  let main_v2 : IVec S256x50x51x2 1 := cmpf .olt main_v0 main_v1
  let main_c : IVec S_ 1 := constantI S_ 1 1#1
  let main_v3 : IVec S_ 1 := (fun x v => Host.reduce IntOp.andi x v reducesTo_S256x50x51x2_S_d0_1_2_3 h_S_) main_v2 main_c
  let main_v4 : FVec F S4x64x2 .f32 := Host.absf main_arg1
  let main_cst_0 : FVec F S_ .f32 := constant S_ .f32 0x7F800000#32
  let main_v5 : FVec F S4x64x2 .f32 := broadcastInDim S4x64x2 ![] bcast_S_S4x64x2 main_cst_0
  let main_v6 : IVec S4x64x2 1 := cmpf .olt main_v4 main_v5
  let main_c_1 : IVec S_ 1 := constantI S_ 1 1#1
  let main_v7 : IVec S_ 1 := (fun x v => Host.reduce IntOp.andi x v reducesTo_S4x64x2_S_d0_1_2 h_S_) main_v6 main_c_1
  let main_v8 : IVec S_ 1 := andi main_v3 main_v7
  let main_v9 : FVec F S4x1x128 .f32 := Host.absf main_arg2
  let main_cst_2 : FVec F S_ .f32 := constant S_ .f32 0x7F800000#32
  let main_v10 : FVec F S4x1x128 .f32 := broadcastInDim S4x1x128 ![] bcast_S_S4x1x128 main_cst_2
  let main_v11 : IVec S4x1x128 1 := cmpf .olt main_v9 main_v10
  let main_c_3 : IVec S_ 1 := constantI S_ 1 1#1
  let main_v12 : IVec S_ 1 := (fun x v => Host.reduce IntOp.andi x v reducesTo_S4x1x128_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S256x50x51x2 : Shape := ⟨4, ![256, 50, 51, 2]⟩
abbrev S4x64x2 : Shape := ⟨3, ![4, 64, 2]⟩
abbrev S4x1x128 : Shape := ⟨3, ![4, 1, 128]⟩
abbrev S128x256 : Shape := ⟨2, ![128, 256]⟩
abbrev S1x256 : Shape := ⟨2, ![1, 256]⟩
abbrev S128x51 : Shape := ⟨2, ![128, 51]⟩
abbrev S128x32 : Shape := ⟨2, ![128, 32]⟩
abbrev S128 : Shape := ⟨1, ![128]⟩
abbrev S8x1600 : Shape := ⟨2, ![8, 1600]⟩
abbrev S8 : Shape := ⟨1, ![8]⟩
abbrev S12800x51x2 : Shape := ⟨3, ![12800, 51, 2]⟩
abbrev S_ : Shape := ⟨0, ![]⟩
abbrev S12800x51x1 : Shape := ⟨3, ![12800, 51, 1]⟩
abbrev S12800x51x3 : Shape := ⟨3, ![12800, 51, 3]⟩
abbrev S12800x2x51 : Shape := ⟨3, ![12800, 2, 51]⟩
abbrev S4x1x64 : Shape := ⟨3, ![4, 1, 64]⟩
abbrev S4x64 : Shape := ⟨2, ![4, 64]⟩
abbrev S4x2 : Shape := ⟨2, ![4, 2]⟩
abbrev S4x4 : Shape := ⟨2, ![4, 4]⟩
abbrev S8x256 : Shape := ⟨2, ![8, 256]⟩
abbrev S1x64x2 : Shape := ⟨3, ![1, 64, 2]⟩
abbrev S64x2 : Shape := ⟨2, ![64, 2]⟩
abbrev S2x64 : Shape := ⟨2, ![2, 64]⟩
abbrev S1 : Shape := ⟨1, ![1]⟩
abbrev S2 : Shape := ⟨1, ![2]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x130 : Shape := ⟨2, ![256, 130]⟩
abbrev S12800x51 : Shape := ⟨2, ![12800, 51]⟩
abbrev S32x51x3 : Shape := ⟨3, ![32, 51, 3]⟩
abbrev S32x2x51 : Shape := ⟨3, ![32, 2, 51]⟩
abbrev S32x51 : Shape := ⟨2, ![32, 51]⟩
abbrev S51x51 : Shape := ⟨2, ![51, 51]⟩
abbrev S32x51x1 : Shape := ⟨3, ![32, 51, 1]⟩
abbrev S32x1x51 : Shape := ⟨3, ![32, 1, 51]⟩
abbrev S1x1 : Shape := ⟨2, ![1, 1]⟩
abbrev S32x51x2 : Shape := ⟨3, ![32, 51, 2]⟩
abbrev S32x1x51x2 : Shape := ⟨4, ![32, 1, 51, 2]⟩
abbrev S32x4x51x2 : Shape := ⟨4, ![32, 4, 51, 2]⟩
abbrev S128x51x2 : Shape := ⟨3, ![128, 51, 2]⟩
abbrev S32x1x2x51 : Shape := ⟨4, ![32, 1, 2, 51]⟩
abbrev S32x4x2x51 : Shape := ⟨4, ![32, 4, 2, 51]⟩
abbrev S128x2x51 : Shape := ⟨3, ![128, 2, 51]⟩
abbrev S128x51x51 : Shape := ⟨3, ![128, 51, 51]⟩
abbrev S1x51x51 : Shape := ⟨3, ![1, 51, 51]⟩
abbrev S32x1x51x3 : Shape := ⟨4, ![32, 1, 51, 3]⟩
abbrev S32x4x51x3 : Shape := ⟨4, ![32, 4, 51, 3]⟩
abbrev S128x51x3 : Shape := ⟨3, ![128, 51, 3]⟩
abbrev S128x51x1 : Shape := ⟨3, ![128, 51, 1]⟩
abbrev S32x51x8 : Shape := ⟨3, ![32, 51, 8]⟩
abbrev S32x51x256 : Shape := ⟨3, ![32, 51, 256]⟩
abbrev S32x51x130 : Shape := ⟨3, ![32, 51, 130]⟩
abbrev S32x51x51 : Shape := ⟨3, ![32, 51, 51]⟩
abbrev S32x51x128 : Shape := ⟨3, ![32, 51, 128]⟩
abbrev S32x51x129 : Shape := ⟨3, ![32, 51, 129]⟩
abbrev S256x50x51 : Shape := ⟨3, ![256, 50, 51]⟩
abbrev S8x50x32 : Shape := ⟨3, ![8, 50, 32]⟩
abbrev S1x8 : Shape := ⟨2, ![1, 8]⟩
abbrev S51x128 : Shape := ⟨2, ![51, 128]⟩
abbrev S32x128 : Shape := ⟨2, ![32, 128]⟩
abbrev S256x8 : Shape := ⟨2, ![256, 8]⟩
abbrev S256x50x32 : Shape := ⟨3, ![256, 50, 32]⟩
abbrev S50x32 : Shape := ⟨2, ![50, 32]⟩
abbrev S1x50x51 : Shape := ⟨3, ![1, 50, 51]⟩
abbrev S50x51 : Shape := ⟨2, ![50, 51]⟩
abbrev S50x128 : Shape := ⟨2, ![50, 128]⟩
abbrev S1x50x32 : Shape := ⟨3, ![1, 50, 32]⟩
abbrev S50x256x8 : Shape := ⟨3, ![50, 256, 8]⟩

abbrev nBuf : Space → Nat
  | .hbm => 88
  | .vmem => 19
  | .smem => 1
  | _ => 0

abbrev bufTy : (tb : Table) → Fin (tcTables nBuf tb) → BufTy
  | .hbm, ⟨0, _⟩ => ⟨S256x50x51x2, .f32⟩
  | .hbm, ⟨1, _⟩ => ⟨S4x64x2, .f32⟩
  | .hbm, ⟨2, _⟩ => ⟨S4x1x128, .f32⟩
  | .hbm, ⟨3, _⟩ => ⟨S128x256, .f32⟩
  | .hbm, ⟨4, _⟩ => ⟨S1x256, .f32⟩
  | .hbm, ⟨5, _⟩ => ⟨S128x51, .f32⟩
  | .hbm, ⟨6, _⟩ => ⟨S128x32, .f32⟩
  | .hbm, ⟨7, _⟩ => ⟨S128, .f32⟩
  | .hbm, ⟨8, _⟩ => ⟨S128, .f32⟩
  | .hbm, ⟨9, _⟩ => ⟨S128x32, .f32⟩
  | .hbm, ⟨10, _⟩ => ⟨S128x32, .f32⟩
  | .hbm, ⟨11, _⟩ => ⟨S128, .f32⟩
  | .hbm, ⟨12, _⟩ => ⟨S128, .f32⟩
  | .hbm, ⟨13, _⟩ => ⟨S8x1600, .f32⟩
  | .hbm, ⟨14, _⟩ => ⟨S8, .f32⟩
  | .hbm, ⟨15, _⟩ => ⟨S12800x51x2, .f32⟩
  | .hbm, ⟨16, _⟩ => ⟨S_, .f32⟩
  | .hbm, ⟨17, _⟩ => ⟨S12800x51x1, .f32⟩
  | .hbm, ⟨18, _⟩ => ⟨S12800x51x3, .f32⟩
  | .hbm, ⟨19, _⟩ => ⟨S12800x2x51, .f32⟩
  | .hbm, ⟨20, _⟩ => ⟨S4x1x64, .f32⟩
  | .hbm, ⟨21, _⟩ => ⟨S4x64, .f32⟩
  | .hbm, ⟨22, _⟩ => ⟨S4x1x64, .f32⟩
  | .hbm, ⟨23, _⟩ => ⟨S4x64, .f32⟩
  | .hbm, ⟨24, _⟩ => ⟨S4x2, .f32⟩
  | .hbm, ⟨25, _⟩ => ⟨S4x2, .f32⟩
  | .hbm, ⟨26, _⟩ => ⟨S4x4, .f32⟩
  | .hbm, ⟨27, _⟩ => ⟨S_, .f32⟩
  | .hbm, ⟨28, _⟩ => ⟨S8x256, .f32⟩
  | .hbm, ⟨29, _⟩ => ⟨S1x64x2, .f32⟩
  | .hbm, ⟨30, _⟩ => ⟨S64x2, .f32⟩
  | .hbm, ⟨31, _⟩ => ⟨S2x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S8x256, .f32⟩
  | .hbm, ⟨38, _⟩ => ⟨S1x64x2, .f32⟩
  | .hbm, ⟨39, _⟩ => ⟨S64x2, .f32⟩
  | .hbm, ⟨40, _⟩ => ⟨S2x64, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S8x256, .f32⟩
  | .hbm, ⟨47, _⟩ => ⟨S1x64x2, .f32⟩
  | .hbm, ⟨48, _⟩ => ⟨S64x2, .f32⟩
  | .hbm, ⟨49, _⟩ => ⟨S2x64, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S8x256, .f32⟩
  | .hbm, ⟨56, _⟩ => ⟨S1x64x2, .f32⟩
  | .hbm, ⟨57, _⟩ => ⟨S64x2, .f32⟩
  | .hbm, ⟨58, _⟩ => ⟨S2x64, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S8x256, .f32⟩
  | .hbm, ⟨65, _⟩ => ⟨S256x128, .f32⟩
  | .hbm, ⟨66, _⟩ => ⟨S1x128, .f32⟩
  | .hbm, ⟨67, _⟩ => ⟨S128, .f32⟩
  | .hbm, ⟨68, _⟩ => ⟨S256, .f32⟩
  | .hbm, ⟨69, _⟩ => ⟨S256x1, .f32⟩
  | .hbm, ⟨70, _⟩ => ⟨S1x128, .f32⟩
  | .hbm, ⟨71, _⟩ => ⟨S128, .f32⟩
  | .hbm, ⟨72, _⟩ => ⟨S256, .f32⟩
  | .hbm, ⟨73, _⟩ => ⟨S256x1, .f32⟩
  | .hbm, ⟨74, _⟩ => ⟨S256x130, .f32⟩
  | .hbm, ⟨75, _⟩ => ⟨S12800x51, .f32⟩
  | .hbm, ⟨76, _⟩ => ⟨S256x50x51, .f32⟩
  | .hbm, ⟨77, _⟩ => ⟨S128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S8x50x32, .f32⟩
  | .hbm, ⟨82, _⟩ => ⟨S1x8, .f32⟩
  | .hbm, ⟨83, _⟩ => ⟨S51x128, .f32⟩
  | .hbm, ⟨84, _⟩ => ⟨S32x128, .f32⟩
  | .hbm, ⟨85, _⟩ => ⟨S32x128, .f32⟩
  | .hbm, ⟨86, _⟩ => ⟨S32x128, .f32⟩
  | .hbm, ⟨87, _⟩ => ⟨S256x8, .f32⟩
  | .local _ .vmem, ⟨0, _⟩ => ⟨S32x51x3, .f32⟩
  | .local _ .vmem, ⟨1, _⟩ => ⟨S32x51x3, .f32⟩
  | .local _ .vmem, ⟨2, _⟩ => ⟨S32x2x51, .f32⟩
  | .local _ .vmem, ⟨3, _⟩ => ⟨S32x2x51, .f32⟩
  | .local _ .vmem, ⟨4, _⟩ => ⟨S8x256, .f32⟩
  | .local _ .vmem, ⟨5, _⟩ => ⟨S256x130, .f32⟩
  | .local _ .vmem, ⟨6, _⟩ => ⟨S32x51, .f32⟩
  | .local _ .vmem, ⟨7, _⟩ => ⟨S32x51, .f32⟩
  | .local _ .vmem, ⟨8, _⟩ => ⟨S256x50x51, .f32⟩
  | .local _ .vmem, ⟨9, _⟩ => ⟨S51x128, .f32⟩
  | .local _ .vmem, ⟨10, _⟩ => ⟨S32x128, .f32⟩
  | .local _ .vmem, ⟨11, _⟩ => ⟨S1x128, .f32⟩
  | .local _ .vmem, ⟨12, _⟩ => ⟨S32x128, .f32⟩
  | .local _ .vmem, ⟨13, _⟩ => ⟨S32x128, .f32⟩
  | .local _ .vmem, ⟨14, _⟩ => ⟨S1x128, .f32⟩
  | .local _ .vmem, ⟨15, _⟩ => ⟨S8x50x32, .f32⟩
  | .local _ .vmem, ⟨16, _⟩ => ⟨S1x8, .f32⟩
  | .local _ .vmem, ⟨17, _⟩ => ⟨S256x8, .f32⟩
  | .local _ .vmem, ⟨18, _⟩ => ⟨S256x50x32, .f32⟩
  | .local _ .smem, ⟨0, _⟩ => ⟨S4x4, .f32⟩
  | _, _ => ⟨S256x50x51x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_scratch0 : Ref sig .tc := ⟨.vmem, 18, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18

abbrev nD : Nat := 1
abbrev τ : Topo := Topo.v7x

variable {F : FTy → Type} [FloatOps F]

abbrev grid0 : Pipeline.Grid := ⟨1, ![400], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x51x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2x51 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x130 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x51 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c256_i32 : BitVec 32 := 256#32
  let v13 : BitVec 32 := Scalar.addi c0_i32 c256_i32
  let c1_i32 : BitVec 32 := 1#32
  ⟨c0_i32, v13, c1_i32⟩
def k1_off1 (k1_t1 : Fin k1_t1_loop.trips) : Fin 3 → Nat :=
  let c0_i32 : BitVec 32 := 0#32
  let c1_i32 : BitVec 32 := 1#32
  let arg11 : BitVec 32 := Scf.iv c0_i32 c1_i32 k1_t1
  let v25 : Index := Scalar.indexCast arg11
  let c0_24 : Index := 0#32
  let c0_25 : Index := 0#32
  ![v25.toNat, 0, 0]
def k1_off2 (k1_t1 : Fin k1_t1_loop.trips) : Fin 3 → Nat :=
  let c0_i32 : BitVec 32 := 0#32
  let c1_i32 : BitVec 32 := 1#32
  let arg11 : BitVec 32 := Scf.iv c0_i32 c1_i32 k1_t1
  let v64 : Index := Scalar.indexCast arg11
  let c0_30 : Index := 0#32
  let c0_31 : Index := 0#32
  ![v64.toNat, 0, 0]
abbrev stage1_0 : Fin 1 → Memref sig .tc .vmem S256x50x51 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S51x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x50x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S256x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S256x50x51x2 : Shape := ⟨4, ![256, 50, 51, 2]⟩
abbrev S4x64x2 : Shape := ⟨3, ![4, 64, 2]⟩
abbrev S4x1x128 : Shape := ⟨3, ![4, 1, 128]⟩
abbrev S128x256 : Shape := ⟨2, ![128, 256]⟩
abbrev S1x256 : Shape := ⟨2, ![1, 256]⟩
abbrev S128x51 : Shape := ⟨2, ![128, 51]⟩
abbrev S128x32 : Shape := ⟨2, ![128, 32]⟩
abbrev S128 : Shape := ⟨1, ![128]⟩
abbrev S8x1600 : Shape := ⟨2, ![8, 1600]⟩
abbrev S8 : Shape := ⟨1, ![8]⟩
abbrev S4x2x64 : Shape := ⟨3, ![4, 2, 64]⟩
abbrev S256x50x51x4x64 : Shape := ⟨5, ![256, 50, 51, 4, 64]⟩
abbrev S4x1x64 : Shape := ⟨3, ![4, 1, 64]⟩
abbrev S4x64 : Shape := ⟨2, ![4, 64]⟩
abbrev S4x256x50x51 : Shape := ⟨4, ![4, 256, 50, 51]⟩
abbrev S256x50x4x51 : Shape := ⟨4, ![256, 50, 4, 51]⟩
abbrev S256x50x4x51x1 : Shape := ⟨5, ![256, 50, 4, 51, 1]⟩
abbrev S256x50x4x1x51 : Shape := ⟨5, ![256, 50, 4, 1, 51]⟩
abbrev S256x50x4x51x51 : Shape := ⟨5, ![256, 50, 4, 51, 51]⟩
abbrev S_ : Shape := ⟨0, ![]⟩
abbrev S51x51 : Shape := ⟨2, ![51, 51]⟩
abbrev S4x51x51 : Shape := ⟨3, ![4, 51, 51]⟩
abbrev S50x4x51x51 : Shape := ⟨4, ![50, 4, 51, 51]⟩
abbrev S256x50x4x51x64 : Shape := ⟨5, ![256, 50, 4, 51, 64]⟩
abbrev S256x50x51x256 : Shape := ⟨4, ![256, 50, 51, 256]⟩
abbrev S51x256 : Shape := ⟨2, ![51, 256]⟩
abbrev S50x51x256 : Shape := ⟨3, ![50, 51, 256]⟩
abbrev S256x128 : Shape := ⟨2, ![256, 128]⟩
abbrev S256x50x51x128 : Shape := ⟨4, ![256, 50, 51, 128]⟩
abbrev S1x128 : Shape := ⟨2, ![1, 128]⟩
abbrev S256x50x51 : Shape := ⟨3, ![256, 50, 51]⟩
abbrev S256x50x51x1 : Shape := ⟨4, ![256, 50, 51, 1]⟩
abbrev S256x50x1x51 : Shape := ⟨4, ![256, 50, 1, 51]⟩
abbrev S256x50x51x51 : Shape := ⟨4, ![256, 50, 51, 51]⟩
abbrev S50x51x51 : Shape := ⟨3, ![50, 51, 51]⟩
abbrev S50x256x51 : Shape := ⟨3, ![50, 256, 51]⟩
abbrev S50x32 : Shape := ⟨2, ![50, 32]⟩
abbrev S256x50x32 : Shape := ⟨3, ![256, 50, 32]⟩
abbrev S1x50x51 : Shape := ⟨3, ![1, 50, 51]⟩
abbrev S50x51 : Shape := ⟨2, ![50, 51]⟩
abbrev S51x128 : Shape := ⟨2, ![51, 128]⟩
abbrev S50x128 : Shape := ⟨2, ![50, 128]⟩
abbrev S32x128 : Shape := ⟨2, ![32, 128]⟩
abbrev S1x50x32 : Shape := ⟨3, ![1, 50, 32]⟩
abbrev S50x256x32 : Shape := ⟨3, ![50, 256, 32]⟩
abbrev S256x1600 : Shape := ⟨2, ![256, 1600]⟩
abbrev S1600x8 : Shape := ⟨2, ![1600, 8]⟩
abbrev S256x8 : Shape := ⟨2, ![256, 8]⟩
abbrev S1x8 : Shape := ⟨2, ![1, 8]⟩

abbrev nBuf : Space → Nat
  | .hbm => 303
  | .vmem => 0
  | .smem => 0
  | _ => 0

abbrev hbmTy0_0 (i : Nat) : BufTy := match i % 128 with
  | 0 => ⟨S256x50x51x2, .f32⟩
  | 1 => ⟨S4x64x2, .f32⟩
  | 2 => ⟨S4x1x128, .f32⟩
  | 3 => ⟨S128x256, .f32⟩
  | 4 => ⟨S1x256, .f32⟩
  | 5 => ⟨S128x51, .f32⟩
  | 6 => ⟨S128x32, .f32⟩
  | 7 => ⟨S128, .f32⟩
  | 8 => ⟨S128, .f32⟩
  | 9 => ⟨S128x32, .f32⟩
  | 10 => ⟨S128x32, .f32⟩
  | 11 => ⟨S128, .f32⟩
  | 12 => ⟨S128, .f32⟩
  | 13 => ⟨S8x1600, .f32⟩
  | 14 => ⟨S8, .f32⟩
  | 15 => ⟨S4x2x64, .f32⟩
  | 16 => ⟨S256x50x51x4x64, .f32⟩
  | 17 => ⟨S4x1x64, .f32⟩
  | 18 => ⟨S4x64, .f32⟩
  | 19 => ⟨S4x256x50x51, .f32⟩
  | 20 => ⟨S4x1x64, .f32⟩
  | 21 => ⟨S4x64, .f32⟩
  | 22 => ⟨S4x256x50x51, .f32⟩
  | 23 => ⟨S256x50x4x51, .f32⟩
  | 24 => ⟨S256x50x4x51x1, .f32⟩
  | 25 => ⟨S256x50x4x51, .f32⟩
  | 26 => ⟨S256x50x4x1x51, .f32⟩
  | 27 => ⟨S256x50x4x51x51, .f32⟩
  | 28 => ⟨S256x50x4x51x51, .f32⟩
  | 29 => ⟨S256x50x4x51x51, .f32⟩
  | 30 => ⟨S_, .f32⟩
  | 31 => ⟨S_, .f32⟩
  | 32 => ⟨S256x50x4x51x51, .f32⟩
  | 33 => ⟨S256x50x4x51x51, .i1⟩
  | 34 => ⟨S_, .f32⟩
  | 35 => ⟨S256x50x4x51x51, .f32⟩
  | 36 => ⟨S256x50x4x51x51, .f32⟩
  | 37 => ⟨S256x50x4x51x51, .f32⟩
  | 38 => ⟨S51x51, .i32⟩
  | 39 => ⟨S51x51, .i32⟩
  | 40 => ⟨S_, .i32⟩
  | 41 => ⟨S51x51, .i32⟩
  | 42 => ⟨S51x51, .i32⟩
  | 43 => ⟨S51x51, .i1⟩
  | 44 => ⟨S_, .f32⟩
  | 45 => ⟨S_, .f32⟩
  | 46 => ⟨S51x51, .f32⟩
  | 47 => ⟨S4x51x51, .i1⟩
  | 48 => ⟨S4x51x51, .f32⟩
  | 49 => ⟨S50x4x51x51, .i1⟩
  | 50 => ⟨S50x4x51x51, .f32⟩
  | 51 => ⟨S256x50x4x51x51, .i1⟩
  | 52 => ⟨S256x50x4x51x51, .f32⟩
  | 53 => ⟨S256x50x4x51x51, .f32⟩
  | 54 => ⟨S_, .f32⟩
  | 55 => ⟨S256x50x4x51, .f32⟩
  | 56 => ⟨S_, .f32⟩
  | 57 => ⟨S256x50x4x51, .f32⟩
  | 58 => ⟨S256x50x4x51, .f32⟩
  | 59 => ⟨S256x50x4x1x51, .f32⟩
  | 60 => ⟨S256x50x4x51x51, .f32⟩
  | 61 => ⟨S256x50x4x51x51, .f32⟩
  | 62 => ⟨S256x50x4x51x51, .f32⟩
  | 63 => ⟨S_, .f32⟩
  | 64 => ⟨S256x50x4x51, .f32⟩
  | 65 => ⟨S256x50x4x1x51, .f32⟩
  | 66 => ⟨S256x50x4x51x51, .f32⟩
  | 67 => ⟨S256x50x4x51x51, .f32⟩
  | 68 => ⟨S256x50x4x51x51, .f32⟩
  | 69 => ⟨S256x50x4x51x64, .f32⟩
  | 70 => ⟨S256x50x51x4x64, .f32⟩
  | 71 => ⟨S256x50x51x256, .f32⟩
  | 72 => ⟨S_, .f32⟩
  | 73 => ⟨S256x50x51x256, .f32⟩
  | 74 => ⟨S256x50x51x256, .i1⟩
  | 75 => ⟨S_, .f32⟩
  | 76 => ⟨S256x50x51x256, .f32⟩
  | 77 => ⟨S256x50x51x256, .i1⟩
  | 78 => ⟨S_, .f32⟩
  | 79 => ⟨S_, .f32⟩
  | 80 => ⟨S51x256, .f32⟩
  | 81 => ⟨S50x51x256, .f32⟩
  | 82 => ⟨S256x50x51x256, .f32⟩
  | 83 => ⟨S256x50x51x256, .f32⟩
  | 84 => ⟨S256x50x51x256, .f32⟩
  | 85 => ⟨S_, .f32⟩
  | 86 => ⟨S256x50x51x256, .f32⟩
  | 87 => ⟨S256x50x51x256, .f32⟩
  | 88 => ⟨S256x50x51x256, .f32⟩
  | 89 => ⟨S256x128, .f32⟩
  | 90 => ⟨S256x50x51x128, .f32⟩
  | 91 => ⟨S1x128, .f32⟩
  | 92 => ⟨S128, .f32⟩
  | 93 => ⟨S256x50x51, .f32⟩
  | 94 => ⟨S1x128, .f32⟩
  | 95 => ⟨S128, .f32⟩
  | 96 => ⟨S256x50x51, .f32⟩
  | 97 => ⟨S256x50x51x1, .f32⟩
  | 98 => ⟨S256x50x1x51, .f32⟩
  | 99 => ⟨S256x50x51x51, .f32⟩
  | 100 => ⟨S256x50x51x51, .f32⟩
  | 101 => ⟨S256x50x51x51, .f32⟩
  | 102 => ⟨S_, .f32⟩
  | 103 => ⟨S_, .f32⟩
  | 104 => ⟨S256x50x51x51, .f32⟩
  | 105 => ⟨S256x50x51x51, .i1⟩
  | 106 => ⟨S_, .f32⟩
  | 107 => ⟨S256x50x51x51, .f32⟩
  | 108 => ⟨S256x50x51x51, .f32⟩
  | 109 => ⟨S256x50x51x51, .f32⟩
  | 110 => ⟨S51x51, .i32⟩
  | 111 => ⟨S51x51, .i32⟩
  | 112 => ⟨S_, .i32⟩
  | 113 => ⟨S51x51, .i32⟩
  | 114 => ⟨S51x51, .i32⟩
  | 115 => ⟨S51x51, .i1⟩
  | 116 => ⟨S_, .f32⟩
  | 117 => ⟨S_, .f32⟩
  | 118 => ⟨S51x51, .f32⟩
  | 119 => ⟨S50x51x51, .i1⟩
  | 120 => ⟨S50x51x51, .f32⟩
  | 121 => ⟨S256x50x51x51, .i1⟩
  | 122 => ⟨S256x50x51x51, .f32⟩
  | 123 => ⟨S256x50x51x51, .f32⟩
  | 124 => ⟨S_, .f32⟩
  | 125 => ⟨S256x50x51, .f32⟩
  | 126 => ⟨S_, .f32⟩
  | 127 => ⟨S256x50x51, .f32⟩
  | _ => ⟨S256x50x51x2, .f32⟩

abbrev hbmTy0_1 (i : Nat) : BufTy := match i % 128 with
  | 0 => ⟨S256x50x51, .f32⟩
  | 1 => ⟨S256x50x1x51, .f32⟩
  | 2 => ⟨S256x50x51x51, .f32⟩
  | 3 => ⟨S256x50x51x51, .f32⟩
  | 4 => ⟨S256x50x51x51, .f32⟩
  | 5 => ⟨S_, .f32⟩
  | 6 => ⟨S256x50x51, .f32⟩
  | 7 => ⟨S256x50x1x51, .f32⟩
  | 8 => ⟨S256x50x51x51, .f32⟩
  | 9 => ⟨S256x50x51x51, .f32⟩
  | 10 => ⟨S256x50x51x51, .f32⟩
  | 11 => ⟨S256x50x51x128, .f32⟩
  | 12 => ⟨S_, .f32⟩
  | 13 => ⟨S256x50x51, .f32⟩
  | 14 => ⟨S_, .f32⟩
  | 15 => ⟨S256x50x51, .f32⟩
  | 16 => ⟨S256x50x51, .f32⟩
  | 17 => ⟨S50x256x51, .f32⟩
  | 18 => ⟨S_, .f32⟩
  | 19 => ⟨S50x32, .f32⟩
  | 20 => ⟨S_, .f32⟩
  | 21 => ⟨S50x32, .f32⟩
  | 22 => ⟨S256x50x51, .f32⟩
  | 23 => ⟨S_, .f32⟩
  | 24 => ⟨S256x50x32, .f32⟩
  | 25 => ⟨S_, .i32⟩
  | 26 => ⟨S256x50x51, .f32⟩
  | 27 => ⟨S128x51, .f32⟩
  | 28 => ⟨S128x32, .f32⟩
  | 29 => ⟨S128, .f32⟩
  | 30 => ⟨S128, .f32⟩
  | 31 => ⟨S_, .i32⟩
  | 32 => ⟨S50x32, .f32⟩
  | 33 => ⟨S50x32, .f32⟩
  | 34 => ⟨S256x50x32, .f32⟩
  | 35 => ⟨S_, .i32⟩
  | 36 => ⟨S_, .i1⟩
  | 37 => ⟨S_, .i32⟩
  | 38 => ⟨S_, .i32⟩
  | 39 => ⟨S1x50x51, .f32⟩
  | 40 => ⟨S50x51, .f32⟩
  | 41 => ⟨S51x128, .f32⟩
  | 42 => ⟨S50x128, .f32⟩
  | 43 => ⟨S32x128, .f32⟩
  | 44 => ⟨S50x128, .f32⟩
  | 45 => ⟨S50x128, .f32⟩
  | 46 => ⟨S1x128, .f32⟩
  | 47 => ⟨S50x128, .f32⟩
  | 48 => ⟨S50x128, .f32⟩
  | 49 => ⟨S1x128, .f32⟩
  | 50 => ⟨S50x128, .f32⟩
  | 51 => ⟨S50x128, .f32⟩
  | 52 => ⟨S50x32, .f32⟩
  | 53 => ⟨S50x32, .f32⟩
  | 54 => ⟨S50x32, .f32⟩
  | 55 => ⟨S50x32, .f32⟩
  | 56 => ⟨S50x32, .f32⟩
  | 57 => ⟨S50x32, .f32⟩
  | 58 => ⟨S_, .f32⟩
  | 59 => ⟨S50x32, .f32⟩
  | 60 => ⟨S50x32, .f32⟩
  | 61 => ⟨S_, .f32⟩
  | 62 => ⟨S50x32, .f32⟩
  | 63 => ⟨S50x32, .f32⟩
  | 64 => ⟨S50x32, .f32⟩
  | 65 => ⟨S50x32, .f32⟩
  | 66 => ⟨S_, .f32⟩
  | 67 => ⟨S50x32, .f32⟩
  | 68 => ⟨S50x32, .f32⟩
  | 69 => ⟨S_, .f32⟩
  | 70 => ⟨S50x32, .f32⟩
  | 71 => ⟨S50x32, .f32⟩
  | 72 => ⟨S50x32, .f32⟩
  | 73 => ⟨S50x32, .f32⟩
  | 74 => ⟨S50x32, .f32⟩
  | 75 => ⟨S_, .f32⟩
  | 76 => ⟨S50x32, .f32⟩
  | 77 => ⟨S50x32, .f32⟩
  | 78 => ⟨S_, .f32⟩
  | 79 => ⟨S50x32, .f32⟩
  | 80 => ⟨S50x32, .f32⟩
  | 81 => ⟨S50x32, .f32⟩
  | 82 => ⟨S50x32, .f32⟩
  | 83 => ⟨S50x32, .f32⟩
  | 84 => ⟨S50x32, .f32⟩
  | 85 => ⟨S50x32, .f32⟩
  | 86 => ⟨S1x50x32, .f32⟩
  | 87 => ⟨S_, .i32⟩
  | 88 => ⟨S_, .i32⟩
  | 89 => ⟨S256x50x32, .f32⟩
  | 90 => ⟨S_, .i32⟩
  | 91 => ⟨S_, .i32⟩
  | 92 => ⟨S50x256x32, .f32⟩
  | 93 => ⟨S_, .f32⟩
  | 94 => ⟨S50x32, .f32⟩
  | 95 => ⟨S_, .f32⟩
  | 96 => ⟨S50x32, .f32⟩
  | 97 => ⟨S256x50x32, .f32⟩
  | 98 => ⟨S_, .f32⟩
  | 99 => ⟨S256x50x32, .f32⟩
  | 100 => ⟨S_, .i32⟩
  | 101 => ⟨S256x50x32, .f32⟩
  | 102 => ⟨S128x32, .f32⟩
  | 103 => ⟨S128x32, .f32⟩
  | 104 => ⟨S128, .f32⟩
  | 105 => ⟨S128, .f32⟩
  | 106 => ⟨S_, .i32⟩
  | 107 => ⟨S50x32, .f32⟩
  | 108 => ⟨S50x32, .f32⟩
  | 109 => ⟨S256x50x32, .f32⟩
  | 110 => ⟨S_, .i32⟩
  | 111 => ⟨S_, .i1⟩
  | 112 => ⟨S_, .i32⟩
  | 113 => ⟨S_, .i32⟩
  | 114 => ⟨S1x50x32, .f32⟩
  | 115 => ⟨S50x32, .f32⟩
  | 116 => ⟨S32x128, .f32⟩
  | 117 => ⟨S50x128, .f32⟩
  | 118 => ⟨S32x128, .f32⟩
  | 119 => ⟨S50x128, .f32⟩
  | 120 => ⟨S50x128, .f32⟩
  | 121 => ⟨S1x128, .f32⟩
  | 122 => ⟨S50x128, .f32⟩
  | 123 => ⟨S50x128, .f32⟩
  | 124 => ⟨S1x128, .f32⟩
  | 125 => ⟨S50x128, .f32⟩
  | 126 => ⟨S50x128, .f32⟩
  | 127 => ⟨S50x32, .f32⟩
  | _ => ⟨S256x50x51x2, .f32⟩

abbrev hbmTy0_2 (i : Nat) : BufTy := match i % 128 with
  | 0 => ⟨S50x32, .f32⟩
  | 1 => ⟨S50x32, .f32⟩
  | 2 => ⟨S50x32, .f32⟩
  | 3 => ⟨S50x32, .f32⟩
  | 4 => ⟨S50x32, .f32⟩
  | 5 => ⟨S_, .f32⟩
  | 6 => ⟨S50x32, .f32⟩
  | 7 => ⟨S50x32, .f32⟩
  | 8 => ⟨S_, .f32⟩
  | 9 => ⟨S50x32, .f32⟩
  | 10 => ⟨S50x32, .f32⟩
  | 11 => ⟨S50x32, .f32⟩
  | 12 => ⟨S50x32, .f32⟩
  | 13 => ⟨S_, .f32⟩
  | 14 => ⟨S50x32, .f32⟩
  | 15 => ⟨S50x32, .f32⟩
  | 16 => ⟨S_, .f32⟩
  | 17 => ⟨S50x32, .f32⟩
  | 18 => ⟨S50x32, .f32⟩
  | 19 => ⟨S50x32, .f32⟩
  | 20 => ⟨S50x32, .f32⟩
  | 21 => ⟨S50x32, .f32⟩
  | 22 => ⟨S_, .f32⟩
  | 23 => ⟨S50x32, .f32⟩
  | 24 => ⟨S50x32, .f32⟩
  | 25 => ⟨S_, .f32⟩
  | 26 => ⟨S50x32, .f32⟩
  | 27 => ⟨S50x32, .f32⟩
  | 28 => ⟨S50x32, .f32⟩
  | 29 => ⟨S50x32, .f32⟩
  | 30 => ⟨S50x32, .f32⟩
  | 31 => ⟨S50x32, .f32⟩
  | 32 => ⟨S50x32, .f32⟩
  | 33 => ⟨S1x50x32, .f32⟩
  | 34 => ⟨S_, .i32⟩
  | 35 => ⟨S_, .i32⟩
  | 36 => ⟨S256x50x32, .f32⟩
  | 37 => ⟨S_, .i32⟩
  | 38 => ⟨S_, .i32⟩
  | 39 => ⟨S50x256x32, .f32⟩
  | 40 => ⟨S256x50x32, .f32⟩
  | 41 => ⟨S256x1600, .f32⟩
  | 42 => ⟨S1600x8, .f32⟩
  | 43 => ⟨S256x8, .f32⟩
  | 44 => ⟨S1x8, .f32⟩
  | 45 => ⟨S256x8, .f32⟩
  | 46 => ⟨S256x8, .f32⟩
  | _ => ⟨S256x50x51x2, .f32⟩

abbrev hbmTy (i : Nat) : BufTy := match i / 128 with
  | 0 => hbmTy0_0 i
  | 1 => hbmTy0_1 i
  | 2 => hbmTy0_2 i
  | _ => ⟨S256x50x51x2, .f32⟩

abbrev bufTy : (tb : Table) → Fin (tcTables nBuf tb) → BufTy
  | .hbm, ⟨i, _⟩ => hbmTy i
  | _, _ => ⟨S256x50x51x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_cst_1 : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_v4 : Ref sig .tc := ⟨.hbm, 83, rfl⟩
abbrev main_call2_v5 : Ref sig .tc := ⟨.hbm, 84, rfl⟩
abbrev main_call2_cst_2 : Ref sig .tc := ⟨.hbm, 85, rfl⟩
abbrev main_call2_v6 : Ref sig .tc := ⟨.hbm, 86, rfl⟩
abbrev main_call2_v7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_4 : Ref sig .tc := ⟨.hbm, 102, rfl⟩
abbrev main_call3_cst : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_c_5 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_cst_6 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_v57 : Ref sig .tc := ⟨.hbm, 123, rfl⟩
abbrev main_cst_7 : Ref sig .tc := ⟨.hbm, 124, rfl⟩
abbrev main_v58 : Ref sig .tc := ⟨.hbm, 125, rfl⟩
abbrev main_cst_8 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_9 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_10 : Ref sig .tc := ⟨.hbm, 140, rfl⟩
abbrev main_v71 : Ref sig .tc := ⟨.hbm, 141, rfl⟩
abbrev main_cst_11 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_12 : Ref sig .tc := ⟨.hbm, 146, rfl⟩
abbrev main_v75 : Ref sig .tc := ⟨.hbm, 147, rfl⟩
abbrev main_cst_13 : Ref sig .tc := ⟨.hbm, 148, rfl⟩
abbrev main_v76 : Ref sig .tc := ⟨.hbm, 149, rfl⟩
abbrev main_v77 : Ref sig .tc := ⟨.hbm, 150, rfl⟩
abbrev main_cst_14 : Ref sig .tc := ⟨.hbm, 151, rfl⟩
abbrev main_v78 : Ref sig .tc := ⟨.hbm, 152, rfl⟩
abbrev main_c_15 : Ref sig .tc := ⟨.hbm, 153, rfl⟩
abbrev main_v79_0 : Ref sig .tc := ⟨.hbm, 154, rfl⟩
abbrev main_v79_1 : Ref sig .tc := ⟨.hbm, 155, rfl⟩
abbrev main_v79_2 : Ref sig .tc := ⟨.hbm, 156, rfl⟩
abbrev main_v79_3 : Ref sig .tc := ⟨.hbm, 157, rfl⟩
abbrev main_v79_4 : Ref sig .tc := ⟨.hbm, 158, rfl⟩
abbrev main_v79_5 : Ref sig .tc := ⟨.hbm, 159, rfl⟩
abbrev main_v79_6 : Ref sig .tc := ⟨.hbm, 160, rfl⟩
abbrev main_v79_7 : Ref sig .tc := ⟨.hbm, 161, rfl⟩
abbrev main_v79_8 : Ref sig .tc := ⟨.hbm, 162, rfl⟩
abbrev main_while0c_c_28 : Ref sig .tc := ⟨.hbm, 163, rfl⟩
abbrev main_while0c_v94 : Ref sig .tc := ⟨.hbm, 164, rfl⟩
abbrev main_while0b_call5_c : Ref sig .tc := ⟨.hbm, 165, rfl⟩
abbrev main_while0b_call5_c_0 : Ref sig .tc := ⟨.hbm, 166, rfl⟩
abbrev main_while0b_call5_v0 : Ref sig .tc := ⟨.hbm, 167, rfl⟩
abbrev main_while0b_v94 : Ref sig .tc := ⟨.hbm, 168, rfl⟩
abbrev main_while0b_v95 : Ref sig .tc := ⟨.hbm, 169, rfl⟩
abbrev main_while0b_v96 : Ref sig .tc := ⟨.hbm, 170, rfl⟩
abbrev main_while0b_v97 : Ref sig .tc := ⟨.hbm, 171, rfl⟩
abbrev main_while0b_v98 : Ref sig .tc := ⟨.hbm, 172, rfl⟩
abbrev main_while0b_v99 : Ref sig .tc := ⟨.hbm, 173, rfl⟩
abbrev main_while0b_v100 : Ref sig .tc := ⟨.hbm, 174, rfl⟩
abbrev main_while0b_v101 : Ref sig .tc := ⟨.hbm, 175, rfl⟩
abbrev main_while0b_v102 : Ref sig .tc := ⟨.hbm, 176, rfl⟩
abbrev main_while0b_v103 : Ref sig .tc := ⟨.hbm, 177, rfl⟩
abbrev main_while0b_v104 : Ref sig .tc := ⟨.hbm, 178, rfl⟩
abbrev main_while0b_v105 : Ref sig .tc := ⟨.hbm, 179, rfl⟩
abbrev main_while0b_v106 : Ref sig .tc := ⟨.hbm, 180, rfl⟩
abbrev main_while0b_v107 : Ref sig .tc := ⟨.hbm, 181, rfl⟩
abbrev main_while0b_v108 : Ref sig .tc := ⟨.hbm, 182, rfl⟩
abbrev main_while0b_v109 : Ref sig .tc := ⟨.hbm, 183, rfl⟩
abbrev main_while0b_v110 : Ref sig .tc := ⟨.hbm, 184, rfl⟩
abbrev main_while0b_v111 : Ref sig .tc := ⟨.hbm, 185, rfl⟩
abbrev main_while0b_cst_28 : Ref sig .tc := ⟨.hbm, 186, rfl⟩
abbrev main_while0b_v112 : Ref sig .tc := ⟨.hbm, 187, rfl⟩
abbrev main_while0b_v113 : Ref sig .tc := ⟨.hbm, 188, rfl⟩
abbrev main_while0b_cst_29 : Ref sig .tc := ⟨.hbm, 189, rfl⟩
abbrev main_while0b_v114 : Ref sig .tc := ⟨.hbm, 190, rfl⟩
abbrev main_while0b_v115 : Ref sig .tc := ⟨.hbm, 191, rfl⟩
abbrev main_while0b_v116 : Ref sig .tc := ⟨.hbm, 192, rfl⟩
abbrev main_while0b_v117 : Ref sig .tc := ⟨.hbm, 193, rfl⟩
abbrev main_while0b_cst_30 : Ref sig .tc := ⟨.hbm, 194, rfl⟩
abbrev main_while0b_v118 : Ref sig .tc := ⟨.hbm, 195, rfl⟩
abbrev main_while0b_v119 : Ref sig .tc := ⟨.hbm, 196, rfl⟩
abbrev main_while0b_cst_31 : Ref sig .tc := ⟨.hbm, 197, rfl⟩
abbrev main_while0b_v120 : Ref sig .tc := ⟨.hbm, 198, rfl⟩
abbrev main_while0b_v121 : Ref sig .tc := ⟨.hbm, 199, rfl⟩
abbrev main_while0b_v122 : Ref sig .tc := ⟨.hbm, 200, rfl⟩
abbrev main_while0b_v123 : Ref sig .tc := ⟨.hbm, 201, rfl⟩
abbrev main_while0b_v124 : Ref sig .tc := ⟨.hbm, 202, rfl⟩
abbrev main_while0b_cst_32 : Ref sig .tc := ⟨.hbm, 203, rfl⟩
abbrev main_while0b_v125 : Ref sig .tc := ⟨.hbm, 204, rfl⟩
abbrev main_while0b_v126 : Ref sig .tc := ⟨.hbm, 205, rfl⟩
abbrev main_while0b_cst_33 : Ref sig .tc := ⟨.hbm, 206, rfl⟩
abbrev main_while0b_v127 : Ref sig .tc := ⟨.hbm, 207, rfl⟩
abbrev main_while0b_v128 : Ref sig .tc := ⟨.hbm, 208, rfl⟩
abbrev main_while0b_v129 : Ref sig .tc := ⟨.hbm, 209, rfl⟩
abbrev main_while0b_v130 : Ref sig .tc := ⟨.hbm, 210, rfl⟩
abbrev main_while0b_v131 : Ref sig .tc := ⟨.hbm, 211, rfl⟩
abbrev main_while0b_v132 : Ref sig .tc := ⟨.hbm, 212, rfl⟩
abbrev main_while0b_v133 : Ref sig .tc := ⟨.hbm, 213, rfl⟩
abbrev main_while0b_call6_v0 : Ref sig .tc := ⟨.hbm, 214, rfl⟩
abbrev main_while0b_call6_c : Ref sig .tc := ⟨.hbm, 215, rfl⟩
abbrev main_while0b_call6_c_0 : Ref sig .tc := ⟨.hbm, 216, rfl⟩
abbrev main_while0b_v134 : Ref sig .tc := ⟨.hbm, 217, rfl⟩
abbrev main_while0b_c_34 : Ref sig .tc := ⟨.hbm, 218, rfl⟩
abbrev main_while0b_v135 : Ref sig .tc := ⟨.hbm, 219, rfl⟩
abbrev main_v80 : Ref sig .tc := ⟨.hbm, 220, rfl⟩
abbrev main_cst_16 : Ref sig .tc := ⟨.hbm, 221, rfl⟩
abbrev main_v81 : Ref sig .tc := ⟨.hbm, 222, rfl⟩
abbrev main_cst_17 : Ref sig .tc := ⟨.hbm, 223, rfl⟩
abbrev main_v82 : Ref sig .tc := ⟨.hbm, 224, rfl⟩
abbrev main_v83 : Ref sig .tc := ⟨.hbm, 225, rfl⟩
abbrev main_cst_18 : Ref sig .tc := ⟨.hbm, 226, rfl⟩
abbrev main_v84 : Ref sig .tc := ⟨.hbm, 227, rfl⟩
abbrev main_c_19 : Ref sig .tc := ⟨.hbm, 228, rfl⟩
abbrev main_v85_0 : Ref sig .tc := ⟨.hbm, 229, rfl⟩
abbrev main_v85_1 : Ref sig .tc := ⟨.hbm, 230, rfl⟩
abbrev main_v85_2 : Ref sig .tc := ⟨.hbm, 231, rfl⟩
abbrev main_v85_3 : Ref sig .tc := ⟨.hbm, 232, rfl⟩
abbrev main_v85_4 : Ref sig .tc := ⟨.hbm, 233, rfl⟩
abbrev main_v85_5 : Ref sig .tc := ⟨.hbm, 234, rfl⟩
abbrev main_v85_6 : Ref sig .tc := ⟨.hbm, 235, rfl⟩
abbrev main_v85_7 : Ref sig .tc := ⟨.hbm, 236, rfl⟩
abbrev main_v85_8 : Ref sig .tc := ⟨.hbm, 237, rfl⟩
abbrev main_while1c_c_28 : Ref sig .tc := ⟨.hbm, 238, rfl⟩
abbrev main_while1c_v94 : Ref sig .tc := ⟨.hbm, 239, rfl⟩
abbrev main_while1b_call7_c : Ref sig .tc := ⟨.hbm, 240, rfl⟩
abbrev main_while1b_call7_c_0 : Ref sig .tc := ⟨.hbm, 241, rfl⟩
abbrev main_while1b_call7_v0 : Ref sig .tc := ⟨.hbm, 242, rfl⟩
abbrev main_while1b_v94 : Ref sig .tc := ⟨.hbm, 243, rfl⟩
abbrev main_while1b_v95 : Ref sig .tc := ⟨.hbm, 244, rfl⟩
abbrev main_while1b_v96 : Ref sig .tc := ⟨.hbm, 245, rfl⟩
abbrev main_while1b_v97 : Ref sig .tc := ⟨.hbm, 246, rfl⟩
abbrev main_while1b_v98 : Ref sig .tc := ⟨.hbm, 247, rfl⟩
abbrev main_while1b_v99 : Ref sig .tc := ⟨.hbm, 248, rfl⟩
abbrev main_while1b_v100 : Ref sig .tc := ⟨.hbm, 249, rfl⟩
abbrev main_while1b_v101 : Ref sig .tc := ⟨.hbm, 250, rfl⟩
abbrev main_while1b_v102 : Ref sig .tc := ⟨.hbm, 251, rfl⟩
abbrev main_while1b_v103 : Ref sig .tc := ⟨.hbm, 252, rfl⟩
abbrev main_while1b_v104 : Ref sig .tc := ⟨.hbm, 253, rfl⟩
abbrev main_while1b_v105 : Ref sig .tc := ⟨.hbm, 254, rfl⟩
abbrev main_while1b_v106 : Ref sig .tc := ⟨.hbm, 255, rfl⟩
abbrev main_while1b_v107 : Ref sig .tc := ⟨.hbm, 256, rfl⟩
abbrev main_while1b_v108 : Ref sig .tc := ⟨.hbm, 257, rfl⟩
abbrev main_while1b_v109 : Ref sig .tc := ⟨.hbm, 258, rfl⟩
abbrev main_while1b_v110 : Ref sig .tc := ⟨.hbm, 259, rfl⟩
abbrev main_while1b_v111 : Ref sig .tc := ⟨.hbm, 260, rfl⟩
abbrev main_while1b_cst_28 : Ref sig .tc := ⟨.hbm, 261, rfl⟩
abbrev main_while1b_v112 : Ref sig .tc := ⟨.hbm, 262, rfl⟩
abbrev main_while1b_v113 : Ref sig .tc := ⟨.hbm, 263, rfl⟩
abbrev main_while1b_cst_29 : Ref sig .tc := ⟨.hbm, 264, rfl⟩
abbrev main_while1b_v114 : Ref sig .tc := ⟨.hbm, 265, rfl⟩
abbrev main_while1b_v115 : Ref sig .tc := ⟨.hbm, 266, rfl⟩
abbrev main_while1b_v116 : Ref sig .tc := ⟨.hbm, 267, rfl⟩
abbrev main_while1b_v117 : Ref sig .tc := ⟨.hbm, 268, rfl⟩
abbrev main_while1b_cst_30 : Ref sig .tc := ⟨.hbm, 269, rfl⟩
abbrev main_while1b_v118 : Ref sig .tc := ⟨.hbm, 270, rfl⟩
abbrev main_while1b_v119 : Ref sig .tc := ⟨.hbm, 271, rfl⟩
abbrev main_while1b_cst_31 : Ref sig .tc := ⟨.hbm, 272, rfl⟩
abbrev main_while1b_v120 : Ref sig .tc := ⟨.hbm, 273, rfl⟩
abbrev main_while1b_v121 : Ref sig .tc := ⟨.hbm, 274, rfl⟩
abbrev main_while1b_v122 : Ref sig .tc := ⟨.hbm, 275, rfl⟩
abbrev main_while1b_v123 : Ref sig .tc := ⟨.hbm, 276, rfl⟩
abbrev main_while1b_v124 : Ref sig .tc := ⟨.hbm, 277, rfl⟩
abbrev main_while1b_cst_32 : Ref sig .tc := ⟨.hbm, 278, rfl⟩
abbrev main_while1b_v125 : Ref sig .tc := ⟨.hbm, 279, rfl⟩
abbrev main_while1b_v126 : Ref sig .tc := ⟨.hbm, 280, rfl⟩
abbrev main_while1b_cst_33 : Ref sig .tc := ⟨.hbm, 281, rfl⟩
abbrev main_while1b_v127 : Ref sig .tc := ⟨.hbm, 282, rfl⟩
abbrev main_while1b_v128 : Ref sig .tc := ⟨.hbm, 283, rfl⟩
abbrev main_while1b_v129 : Ref sig .tc := ⟨.hbm, 284, rfl⟩
abbrev main_while1b_v130 : Ref sig .tc := ⟨.hbm, 285, rfl⟩
abbrev main_while1b_v131 : Ref sig .tc := ⟨.hbm, 286, rfl⟩
abbrev main_while1b_v132 : Ref sig .tc := ⟨.hbm, 287, rfl⟩
abbrev main_while1b_v133 : Ref sig .tc := ⟨.hbm, 288, rfl⟩
abbrev main_while1b_call8_v0 : Ref sig .tc := ⟨.hbm, 289, rfl⟩
abbrev main_while1b_call8_c : Ref sig .tc := ⟨.hbm, 290, rfl⟩
abbrev main_while1b_call8_c_0 : Ref sig .tc := ⟨.hbm, 291, rfl⟩
abbrev main_while1b_v134 : Ref sig .tc := ⟨.hbm, 292, rfl⟩
abbrev main_while1b_c_34 : Ref sig .tc := ⟨.hbm, 293, rfl⟩
abbrev main_while1b_v135 : Ref sig .tc := ⟨.hbm, 294, rfl⟩
abbrev main_v86 : Ref sig .tc := ⟨.hbm, 295, rfl⟩
abbrev main_v87 : Ref sig .tc := ⟨.hbm, 296, rfl⟩
abbrev main_v88 : Ref sig .tc := ⟨.hbm, 297, rfl⟩
abbrev main_v89 : Ref sig .tc := ⟨.hbm, 298, rfl⟩
abbrev main_v90 : Ref sig .tc := ⟨.hbm, 299, rfl⟩
abbrev main_v91 : Ref sig .tc := ⟨.hbm, 300, rfl⟩
abbrev main_v92 : Ref sig .tc := ⟨.hbm, 301, rfl⟩
abbrev main_v93 : Ref sig .tc := ⟨.hbm, 302, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Proof.KerIGat.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The block of window `w` at point `t`, off the array contents `V` the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev VO0_5 : View sig .tc .vmem S32x51 .f32 := (Memref.whole cc0_stg5_0 : Memref sig .tc .vmem S32x51 .f32).view
abbrev ms0_0 (t : Fin cfg0.N) : Memref sig .tc .vmem S32x51x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2x51 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S4x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x130 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x51 .f32 := win0_5.stage (cfg0.slots t 5)
abbrev hs0_5 (t : Fin cfg0.N) : (ms0_5 t).IsWhole := hstage0_5 ((cfg0.slots t 5).cast nbuf0_5)
set_option maxHeartbeats 1000000 in
/-- The pieces the body stores in its result's buffer, with the triple of the body that leaves them. -/
noncomputable def kernelRun0_A (c : Dev nD) (i : grid0.Coords) (arg1 : Memref sig .tc .vmem S32x51x3 .f32) (harg1 : arg1.IsWhole) (arg2 : Memref sig .tc .vmem S32x2x51 .f32) (harg2 : arg2.IsWhole) (arg3 : Memref sig .tc .smem S4x4 .f32) (harg3 : arg3.IsWhole) (arg4 : Memref sig .tc .vmem S8x256 .f32) (harg4 : arg4.IsWhole) (arg5 : Memref sig .tc .vmem S256x130 .f32) (harg5 : arg5.IsWhole) (arg6 : Memref sig .tc .vmem S32x51 .f32) (harg6 : arg6.IsWhole)
    (x0 : Vec F S32x51x3 .f32) (x1 : Vec F S32x2x51 .f32) (x2 : Vec F S4x4 .f32) (x3 : Vec F S8x256 .f32) (x4 : Vec F S256x130 .f32) :
    { L5 : List (View.Piece (Elt F) S32x51 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__gat_kernel i arg1 harg1 arg2 harg2 arg3 harg3 arg4 harg4 arg5 harg5 arg6 harg6) K } := by
  refine ⟨?_, fun E K => ?run⟩
  case run =>
    simp only [cc0__gat_kernel_eq_skeleton]; unfold cc0__gat_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover0_A_5 (c : Dev nD) (i : grid0.Coords) (arg1 : Memref sig .tc .vmem S32x51x3 .f32) (harg1 : arg1.IsWhole) (arg2 : Memref sig .tc .vmem S32x2x51 .f32) (harg2 : arg2.IsWhole) (arg3 : Memref sig .tc .smem S4x4 .f32) (harg3 : arg3.IsWhole) (arg4 : Memref sig .tc .vmem S8x256 .f32) (harg4 : arg4.IsWhole) (arg5 : Memref sig .tc .vmem S256x130 .f32) (harg5 : arg5.IsWhole) (arg6 : Memref sig .tc .vmem S32x51 .f32) (harg6 : arg6.IsWhole)
    (x0 : Vec F S32x51x3 .f32) (x1 : Vec F S32x2x51 .f32) (x2 : Vec F S4x4 .f32) (x3 : Vec F S8x256 .f32) (x4 : Vec F S256x130 .f32) (y : S32x51.Idx) :
    ∃ pc ∈ (kernelRun0_A c i arg1 harg1 arg2 harg2 arg3 harg3 arg4 harg4 arg5 harg5 arg6 harg6 x0 x1 x2 x3 x4).1, y ∈ pc.1.set :=
  View.cover_of_tiledL (kernelRun0_A c i arg1 harg1 arg2 harg2 arg3 harg3 arg4 harg4 arg5 harg5 arg6 harg6 x0 x1 x2 x3 x4).1 S32x51.size (by sl_kernel_rfl) y

def out0_A_5 (c : Dev nD) (i : grid0.Coords) (arg1 : Memref sig .tc .vmem S32x51x3 .f32) (harg1 : arg1.IsWhole) (arg2 : Memref sig .tc .vmem S32x2x51 .f32) (harg2 : arg2.IsWhole) (arg3 : Memref sig .tc .smem S4x4 .f32) (harg3 : arg3.IsWhole) (arg4 : Memref sig .tc .vmem S8x256 .f32) (harg4 : arg4.IsWhole) (arg5 : Memref sig .tc .vmem S256x130 .f32) (harg5 : arg5.IsWhole) (arg6 : Memref sig .tc .vmem S32x51 .f32) (harg6 : arg6.IsWhole)
    (x0 : Vec F S32x51x3 .f32) (x1 : Vec F S32x2x51 .f32) (x2 : Vec F S4x4 .f32) (x3 : Vec F S8x256 .f32) (x4 : Vec F S256x130 .f32) : Vec F S32x51 .f32 :=
  VO0_5.read (Elt F) (VO0_5.writes (Elt F) VO0_5.junk (kernelRun0_A c i arg1 harg1 arg2 harg2 arg3 harg3 arg4 harg4 arg5 harg5 arg6 harg6 x0 x1 x2 x3 x4).1)

/-- The result buffer after the body at point `t`. -/
def outsAt0 (c : Dev nD) (t : Fin cfg0.N) : Vec F S32x51 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t)

/-- The proof data of the region: inputs keep their blocks, the result is what the run leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point turns its precondition into its postcondition. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand
-- ==== Proof.KerISeq.lean ====
module

public import proofs.«01_k».proof.Proof.KerIGat

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The block of window `w` at point `t`, off the array contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev VO1_9 : View sig .tc .vmem S256x8 .f32 := (Memref.whole cc1_stg9_0 : Memref sig .tc .vmem S256x8 .f32).view
abbrev ms1_0 (t : Fin cfg1.N) : Memref sig .tc .vmem S256x50x51 .f32 := win1_0.stage (cfg1.slots t 0)
abbrev hs1_0 (t : Fin cfg1.N) : (ms1_0 t).IsWhole := hstage1_0 0
abbrev ms1_1 (t : Fin cfg1.N) : Memref sig .tc .vmem S51x128 .f32 := win1_1.stage (cfg1.slots t 1)
abbrev hs1_1 (t : Fin cfg1.N) : (ms1_1 t).IsWhole := hstage1_1 0
abbrev ms1_2 (t : Fin cfg1.N) : Memref sig .tc .vmem S32x128 .f32 := win1_2.stage (cfg1.slots t 2)
abbrev hs1_2 (t : Fin cfg1.N) : (ms1_2 t).IsWhole := hstage1_2 0
abbrev ms1_3 (t : Fin cfg1.N) : Memref sig .tc .vmem S1x128 .f32 := win1_3.stage (cfg1.slots t 3)
abbrev hs1_3 (t : Fin cfg1.N) : (ms1_3 t).IsWhole := hstage1_3 0
abbrev ms1_4 (t : Fin cfg1.N) : Memref sig .tc .vmem S32x128 .f32 := win1_4.stage (cfg1.slots t 4)
abbrev hs1_4 (t : Fin cfg1.N) : (ms1_4 t).IsWhole := hstage1_4 0
abbrev ms1_5 (t : Fin cfg1.N) : Memref sig .tc .vmem S32x128 .f32 := win1_5.stage (cfg1.slots t 5)
abbrev hs1_5 (t : Fin cfg1.N) : (ms1_5 t).IsWhole := hstage1_5 0
abbrev ms1_6 (t : Fin cfg1.N) : Memref sig .tc .vmem S1x128 .f32 := win1_6.stage (cfg1.slots t 6)
abbrev hs1_6 (t : Fin cfg1.N) : (ms1_6 t).IsWhole := hstage1_6 0
abbrev ms1_7 (t : Fin cfg1.N) : Memref sig .tc .vmem S8x50x32 .f32 := win1_7.stage (cfg1.slots t 7)
abbrev hs1_7 (t : Fin cfg1.N) : (ms1_7 t).IsWhole := hstage1_7 0
abbrev ms1_8 (t : Fin cfg1.N) : Memref sig .tc .vmem S1x8 .f32 := win1_8.stage (cfg1.slots t 8)
abbrev hs1_8 (t : Fin cfg1.N) : (ms1_8 t).IsWhole := hstage1_8 0
abbrev ms1_9 (t : Fin cfg1.N) : Memref sig .tc .vmem S256x8 .f32 := win1_9.stage (cfg1.slots t 9)
abbrev hs1_9 (t : Fin cfg1.N) : (ms1_9 t).IsWhole := hstage1_9 0
abbrev scM1_0 : Memref sig .tc .vmem S256x50x32 .f32 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ f : Buf (Elt F) ((c : Thread nD τ).loc cc0_stg2_0), ((c : Thread nD τ).loc cc0_stg2_0) ↦{fullShare} f)) ∗ (∃ r, prngReg c r)) := by
  unfold Pipeline.ΦA; rw [scopedRest1_eq]; simp only [scM1_0, owns_whole]; try rfl
set_option maxHeartbeats 1000000 in
/-- The pieces the body stores in its result's buffer, with the triple of the body that leaves them. -/
noncomputable def kernelRun1_A (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
    (x0 : Vec F S256x50x51 .f32) (x1 : Vec F S51x128 .f32) (x2 : Vec F S32x128 .f32) (x3 : Vec F S1x128 .f32) (x4 : Vec F S32x128 .f32) (x5 : Vec F S32x128 .f32) (x6 : Vec F S1x128 .f32) (x7 : Vec F S8x50x32 .f32) (x8 : Vec F S1x8 .f32) :
    { L9 : Vec F S256x50x32 .f32 → List (View.Piece (Elt F) S256x8 .f32) //
      ∀ (E : Set ℕ) (K : PUnit → sProp 𝕄) (ds0 : Vec F S256x50x32 .f32),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare ds0
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (L9 ds0)) ∗ (∃ d, owns (c : Thread nD τ) arg10 fullShare d)) -∗ K ⟨⟩))
          ⊢ wp frame (wpE (defs₀ (F := F)) Variants.none c none) E (cc1__lstm_kernel arg0 harg0 arg1 harg1 arg2 harg2 arg3 harg3 arg4 harg4 arg5 harg5 arg6 harg6 arg7 harg7 arg8 harg8 arg9 harg9 arg10 harg10) K } := by
  refine ⟨?_, fun E K ds0 => ?run⟩
  case run =>
    simp only [cc1__lstm_kernel_eq_skeleton]; unfold cc1__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs0
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _, _; isplitr; swap; · iexact HS0
    ipureintro; rfl

end Regions

end Cert.KernelIdeal.Hand
-- ==== Proof.KerILstm.lean ====
module

public import proofs.«01_k».proof.Proof.KerISeq
public import Idealize.ShloMosaic.Lib.VecWindow
public import Idealize.ShloMosaic.Lib.WritesUnit
public import Idealize.ShloMosaic.Lib.ValueLayout

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.ValueIdx

/-- What the loop over time carries: hidden and cell state of the two layers. -/
abbrev Carry (F : FTy → Type) : Type := FVec F S50x32 .f32 × FVec F S50x32 .f32 × FVec F S50x32 .f32 × FVec F S50x32 .f32

theorem trips_eq : k1_t1_loop.trips = 256 := by decide +kernel
theorem off1_eq : ∀ k : Fin k1_t1_loop.trips, k1_off1 k = ![k.val, 0, 0] := by decide +kernel
theorem off2_eq : ∀ k : Fin k1_t1_loop.trips, k1_off2 k = ![k.val, 0, 0] := by decide +kernel

/-- The inputs of step `k`. -/
def rowAt (x : Vec F S256x50x51 .f32) (k : Fin k1_t1_loop.trips) : Vec F S1x50x51 .f32 :=
  VecWindow.window (s := S256x50x51) x (k1_off1 k) S1x50x51.size (k1_off1_inb k)

/-- One step of both layers. -/
def stepOf (v0 : Vec F S51x128 .f32) (v2 : Vec F S32x128 .f32) (v4 : Vec F S1x128 .f32) (v6 : Vec F S32x128 .f32) (v8 : Vec F S32x128 .f32) (v10 : Vec F S1x128 .f32) (xk : Vec F S1x50x51 .f32) (a : Carry F) : Carry F :=
  (k1_pay4 v0 v2 v4 a.1 a.2.1 xk, k1_pay3 v0 v2 v4 a.1 a.2.1 xk, k1_pay7 v0 v2 v4 v6 v8 v10 a.1 a.2.1 a.2.2.1 a.2.2.2 xk, k1_pay6 v0 v2 v4 v6 v8 v10 a.1 a.2.1 a.2.2.1 a.2.2.2 xk)

/-- The carried value before step `k`. -/
def seqOf (x : Vec F S256x50x51 .f32) (v0 : Vec F S51x128 .f32) (v2 : Vec F S32x128 .f32) (v4 : Vec F S1x128 .f32) (v6 : Vec F S32x128 .f32) (v8 : Vec F S32x128 .f32) (v10 : Vec F S1x128 .f32) : ℕ → Carry F
  | 0 => (k1_pay1, k1_pay1, k1_pay1, k1_pay1)
  | k + 1 => if h : k < k1_t1_loop.trips then stepOf v0 v2 v4 v6 v8 v10 (rowAt x ⟨k, h⟩) (seqOf x v0 v2 v4 v6 v8 v10 k) else seqOf x v0 v2 v4 v6 v8 v10 k

theorem seqOf_succ (x : Vec F S256x50x51 .f32) (v0 : Vec F S51x128 .f32) (v2 : Vec F S32x128 .f32) (v4 : Vec F S1x128 .f32) (v6 : Vec F S32x128 .f32) (v8 : Vec F S32x128 .f32) (v10 : Vec F S1x128 .f32) (k : Fin k1_t1_loop.trips) :
    seqOf x v0 v2 v4 v6 v8 v10 (k.val + 1) = stepOf v0 v2 v4 v6 v8 v10 (rowAt x k) (seqOf x v0 v2 v4 v6 v8 v10 k.val) := by
  rw [seqOf.eq_2]; exact dif_pos k.isLt

/-- The hidden state of the second layer after every step. -/
def hsOf (x : Vec F S256x50x51 .f32) (v0 : Vec F S51x128 .f32) (v2 : Vec F S32x128 .f32) (v4 : Vec F S1x128 .f32) (v6 : Vec F S32x128 .f32) (v8 : Vec F S32x128 .f32) (v10 : Vec F S1x128 .f32) : Vec F S256x50x32 .f32 :=
  fun y => (seqOf x v0 v2 v4 v6 v8 v10 ((y 0).val + 1)).2.2.1 (ix2 (y 1) (y 2))

theorem tripR_eq (𝒱 : Variants) (bd : Option 𝒱.V) (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
     (v0 : Vec F S51x128 .f32) (v2 : Vec F S32x128 .f32) (v4 : Vec F S1x128 .f32) (v6 : Vec F S32x128 .f32) (v8 : Vec F S32x128 .f32) (v10 : Vec F S1x128 .f32) (x : Vec F S256x50x51 .f32) (k : Fin k1_t1_loop.trips) (a : Carry F) :
    tripR_k1_t1 (F := F) 𝒱 c bd arg0 harg0 arg1 harg1 arg2 harg2 arg3 harg3 arg4 harg4 arg5 harg5 arg6 harg6 arg7 harg7 arg8 harg8 arg9 harg9 arg10 harg10 v0 v2 v4 v6 v8 v10 (harg0.unread x) k a = stepOf v0 v2 v4 v6 v8 v10 (rowAt x k) a := by
  have e : View.readAt (Elt F) arg0.view (Rect.unit (k1_off1 k) ![1, 50, 51] (k1_off1_inb k)).toLoadRect (harg0.unread x) = rowAt x k := by
    unfold rowAt
    rw [View.readAt_unit _ _ _ rfl (k1_off1_inb k), harg0.read_unread]
    try rfl
  unfold tripR_k1_t1 trip_k1_t1
  dsimp only
  rw [e]; rfl

theorem tripL_eq (𝒱 : Variants) (bd : Option 𝒱.V) (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
     (v0 : Vec F S51x128 .f32) (v2 : Vec F S32x128 .f32) (v4 : Vec F S1x128 .f32) (v6 : Vec F S32x128 .f32) (v8 : Vec F S32x128 .f32) (v10 : Vec F S1x128 .f32) (x : Vec F S256x50x51 .f32) (k : Fin k1_t1_loop.trips) (a : Carry F) :
    tripL_k1_t1 (F := F) 𝒱 c bd arg0 harg0 arg1 harg1 arg2 harg2 arg3 harg3 arg4 harg4 arg5 harg5 arg6 harg6 arg7 harg7 arg8 harg8 arg9 harg9 arg10 harg10 v0 v2 v4 v6 v8 v10 (harg0.unread x) k a
      = [⟨Rect.unit (s := S256x50x32) (k1_off2 k) S1x50x32.size (k1_off2_inb k), shapeCast S1x50x32 (stepOf v0 v2 v4 v6 v8 v10 (rowAt x k) a).2.2.1 shapeCasts_S50x32_S1x50x32⟩] := by
  have e : View.readAt (Elt F) arg0.view (Rect.unit (k1_off1 k) ![1, 50, 51] (k1_off1_inb k)).toLoadRect (harg0.unread x) = rowAt x k := by
    unfold rowAt
    rw [View.readAt_unit _ _ _ rfl (k1_off1_inb k), harg0.read_unread]
    try rfl
  unfold tripL_k1_t1 trip_k1_t1
  dsimp only
  rw [e]; rfl

/-- Before step `n` the carried value is `seqOf` at `n`, and the scratch holds the second layer's hidden states of the steps before. -/
theorem st_eq (𝒱 : Variants) (bd : Option 𝒱.V) (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
     (v0 : Vec F S51x128 .f32) (v2 : Vec F S32x128 .f32) (v4 : Vec F S1x128 .f32) (v6 : Vec F S32x128 .f32) (v8 : Vec F S32x128 .f32) (v10 : Vec F S1x128 .f32) (x : Vec F S256x50x51 .f32) (f : BufTy.Contents (Elt F) arg10.view.ty) (n : ℕ) (hn : n ≤ k1_t1_loop.trips) :
    (st_k1_t1 (F := F) 𝒱 c bd arg0 harg0 arg1 harg1 arg2 harg2 arg3 harg3 arg4 harg4 arg5 harg5 arg6 harg6 arg7 harg7 arg8 harg8 arg9 harg9 arg10 harg10 v0 v2 v4 v6 v8 v10 (harg0.unread x) (k1_pay1, k1_pay1, k1_pay1, k1_pay1) n).1 = seqOf x v0 v2 v4 v6 v8 v10 n
    ∧ ∀ y : S256x50x32.Idx, (y 0).val < n → arg10.view.read (Elt F) (arg10.view.writes (Elt F) f
        (st_k1_t1 (F := F) 𝒱 c bd arg0 harg0 arg1 harg1 arg2 harg2 arg3 harg3 arg4 harg4 arg5 harg5 arg6 harg6 arg7 harg7 arg8 harg8 arg9 harg9 arg10 harg10 v0 v2 v4 v6 v8 v10 (harg0.unread x) (k1_pay1, k1_pay1, k1_pay1, k1_pay1) n).2) y
      = hsOf x v0 v2 v4 v6 v8 v10 y := by
  induction n with
  | zero => exact ⟨rfl, fun y h => absurd h (Nat.not_lt_zero _)⟩
  | succ n ih =>
    obtain ⟨ih1, ih2⟩ := ih (by omega)
    have hs := st_k1_t1_succ (F := F) 𝒱 c bd arg0 harg0 arg1 harg1 arg2 harg2 arg3 harg3 arg4 harg4 arg5 harg5 arg6 harg6 arg7 harg7 arg8 harg8 arg9 harg9 arg10 harg10 v0 v2 v4 v6 v8 v10 (harg0.unread x) (k1_pay1, k1_pay1, k1_pay1, k1_pay1) ⟨n, hn⟩
    have hq := seqOf_succ x v0 v2 v4 v6 v8 v10 ⟨n, hn⟩
    simp only [ih1, tripR_eq, tripL_eq] at hs
    rw [← hq] at hs
    rw [hs]
    refine ⟨rfl, fun y hy => ?_⟩
    show arg10.view.read (Elt F) (arg10.view.writes (Elt F) f (_ :: _)) y = _
    by_cases hlt : (y 0).val < n
    · rw [View.read_writes_cons_unit_of_not_mem _ _ _ _ _ _ (off2_eq ⟨n, hn⟩) (0 : Fin 3) (.inl hlt)]
      exact ih2 y hlt
    · have h0 : (y 0).val = n := by omega
      rw [View.read_writes_cons_unit_of_mem _ _ _ _ _ _ (ix3 (0 : Fin 1) (y 1) (y 2) : S1x50x32.Idx) (off2_eq ⟨n, hn⟩)
        (fun a => match a with
          | ⟨0, _⟩ => h0
          | ⟨1, _⟩ => (Nat.zero_add _).symm
          | ⟨2, _⟩ => (Nat.zero_add _).symm)]
      unfold hsOf
      rw [h0]
      exact shapeCast_ab_1ab_apply _ _ _ _ _

/-- A load of all of a whole memref reads the contents it was given. -/
theorem readAt_unread {sp : Space} {s : Shape} {e : EltTy} {arg : Memref sig .tc sp s e} (h : arg.IsWhole) {off : Fin s.rank → ℕ} (inb : ∀ a, off a + s.size a ≤ s.size a) (x : s.Idx → Elt F e) :
    View.readAt (Elt F) arg.view (Rect.unit off s.size inb).toLoadRect (h.unread x) = x := by
  rw [View.readAt_full, h.read_unread]

/-- What the body reads back from the scratch after the loop. -/
theorem v15_eq (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
    (x0 : Vec F S256x50x51 .f32) (x1 : Vec F S51x128 .f32) (x2 : Vec F S32x128 .f32) (x3 : Vec F S1x128 .f32) (x4 : Vec F S32x128 .f32) (x5 : Vec F S32x128 .f32) (x6 : Vec F S1x128 .f32) (ds : Vec F S256x50x32 .f32) : kernelRun1_A.sl.v15 c arg0 harg0 arg1 harg1 arg2 harg2 arg3 harg3 arg4 harg4 arg5 harg5 arg6 harg6 arg7 harg7 arg8 harg8 arg9 harg9 arg10 harg10 x0 x1 x2 x3 x4 x5 x6 ds = hsOf x0 x1 x2 x3 x4 x5 x6 := by
  unfold kernelRun1_A.sl.v15
  rw [View.readAt_full, readAt_unread harg1, readAt_unread harg2, readAt_unread harg3, readAt_unread harg4, readAt_unread harg5, readAt_unread harg6]
  funext y
  exact (st_eq Variants.none none c arg0 harg0 arg1 harg1 arg2 harg2 arg3 harg3 arg4 harg4 arg5 harg5 arg6 harg6 arg7 harg7 arg8 harg8 arg9 harg9 arg10 harg10 x1 x2 x3 x4 x5 x6 x0 _ _ le_rfl).2 y (Nat.lt_of_lt_of_eq (y 0).isLt trips_eq.symm)

/-- The result of the body, whatever the scratch and the result's buffer held. -/
theorem out_eq (c : Dev nD) (arg0 : Memref sig .tc .vmem S256x50x51 .f32) (harg0 : arg0.IsWhole) (arg1 : Memref sig .tc .vmem S51x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S1x128 .f32) (harg6 : arg6.IsWhole) (arg7 : Memref sig .tc .vmem S8x50x32 .f32) (harg7 : arg7.IsWhole) (arg8 : Memref sig .tc .vmem S1x8 .f32) (harg8 : arg8.IsWhole) (arg9 : Memref sig .tc .vmem S256x8 .f32) (harg9 : arg9.IsWhole) (arg10 : Memref sig .tc .vmem S256x50x32 .f32) (harg10 : arg10.IsWhole)
    (x0 : Vec F S256x50x51 .f32) (x1 : Vec F S51x128 .f32) (x2 : Vec F S32x128 .f32) (x3 : Vec F S1x128 .f32) (x4 : Vec F S32x128 .f32) (x5 : Vec F S32x128 .f32) (x6 : Vec F S1x128 .f32) (x7 : Vec F S8x50x32 .f32) (x8 : Vec F S1x8 .f32) (ds : Vec F S256x50x32 .f32) (f : BufTy.Contents (Elt F) arg9.view.ty) :
    arg9.view.read (Elt F) (arg9.view.writes (Elt F) f ((kernelRun1_A c arg0 harg0 arg1 harg1 arg2 harg2 arg3 harg3 arg4 harg4 arg5 harg5 arg6 harg6 arg7 harg7 arg8 harg8 arg9 harg9 arg10 harg10 x0 x1 x2 x3 x4 x5 x6 x7 x8).1 ds)) = k1_pay9 (hsOf x0 x1 x2 x3 x4 x5 x6) x7 x8 := by
  unfold kernelRun1_A
  dsimp only
  rw [v15_eq]
  rw [readAt_unread (s := S8x50x32) harg7, readAt_unread (s := S1x8) harg8]
  funext y
  exact View.read_writes_cons_unit_of_mem _ _ _ _ _ y y (by funext a; match a with | ⟨0, _⟩ => rfl | ⟨1, _⟩ => rfl : (![0, 0] : Fin 2 → ℕ) = fun _ => 0) (fun a => (Nat.zero_add _).symm)

section Regions
variable (V : (c : Dev nD) → (b : Ref sig .tc) → Buf (Elt F) ((c : Thread nD τ).loc b))

/-- The result buffer after the body at point `t`. -/
def outsAt1 (c : Dev nD) (t : Fin cfg1.N) : Vec F S256x8 .f32 :=
  k1_pay9 (hsOf (iblk1 V c 0 t) (iblk1 V c 1 t) (iblk1 V c 2 t) (iblk1 V c 3 t) (iblk1 V c 4 t) (iblk1 V c 5 t) (iblk1 V c 6 t)) (iblk1 V c 7 t) (iblk1 V c 8 t)

/-- The proof data of the region: inputs keep their blocks, the result is what the run leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in
/-- The body at any point turns its precondition into its postcondition. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Pipeline.ΦA spec1 c from rfl, PhiA1_eq]
  iintro ⟨⟨⟨HR0, HR1, HR2, HR3, HR4, HR5, HR6, HR7, ⟨%ds0, HS0⟩, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _ ds0)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HR0 HR1 HR2 HR3 HR4 HR5 HR6 HR7 HS0 HR9 Hg]
  · isplitl [HR0 HR1 HR2 HR3 HR4 HR5 HR6 HR7 HS0 HR9]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HS0]
      · iexact HS0
      iexact HR9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  unfold outsAt1
  exact out_eq c _ _ _ _ _ _ _ _ _ _ _ _ _ _ _ _ _ _ _ _ _ _ _ _ _ _ _ _ _ _ _ _ _

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand
-- ==== Proof.KerIRun.lean ====
module

public import proofs.«01_k».proof.Proof.KerILstm

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14]

theorem hostOps0_fresh : (hostOps0 : List (HloOp τ sig (Elt F))).Forall fun op => op.fresh = ∅ := by
  simp only [List.Forall]; repeat' constructor
abbrev hostOps0_W : List (Ref sig .tc) := [main_v0, main_cst, main_v1, main_v2, main_v3, main_v4, main_v5, main_v6, main_v7, main_v8, main_v9, main_v10, main_cst_0, main_v11, main_v12, main_v13, main_v14, main_c, main_v15, main_c_1, main_v16, main_v17, main_v18, main_v19, main_v20, main_v21, main_c_2, main_v22, main_c_3, main_v23, main_v24, main_v25, main_v26, main_v27, main_v28, main_c_4, main_v29, main_c_5, main_v30, main_v31, main_v32, main_v33, main_v34, main_v35, main_c_6, main_v36, main_c_7, main_v37, main_v38, main_v39, main_v40, main_v41, main_v42, main_v43, main_v44, main_v45, main_v46, main_v47, main_v48, main_v49]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v51, main_v52, main_v53, main_v54, main_v55, main_v56, main_v57, main_v58, main_v59, main_v60, main_v61]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when region 0 is left. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers when region 1 is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)
set_option backward.isDefEq.respectTransparency.types false in
/-- Region 0 from the buffers at `W1` to the buffers at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- Region 1 from the buffers at `W3` to the buffers at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its four segments. -/
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with every unscoped buffer of the TensorCore at the last boundary's contents and every counter at zero. -/
theorem run_end : θ_run defs (onTc (τ := τ) (main (F := F))) ⟨m, fun _ => 0, ρ⟩ (fun r =>
      (∀ c : Dev nD, ∀ b : Ref sig .tc, ¬ (Proc.devRef .tc b : DevRef τ sig).isScoped →
        r.2.mem ((c.tc : Thread nD τ).loc b) = W4 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b hb), funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨(h.1 c main_arg0 (by decide)).trans (W4_main_arg0 m ρ c),
    (h.1 c main_arg1 (by decide)).trans (W4_main_arg1 m ρ c),
    (h.1 c main_arg2 (by decide)).trans (W4_main_arg2 m ρ c),
    (h.1 c main_arg3 (by decide)).trans (W4_main_arg3 m ρ c),
    (h.1 c main_arg4 (by decide)).trans (W4_main_arg4 m ρ c),
    (h.1 c main_arg5 (by decide)).trans (W4_main_arg5 m ρ c),
    (h.1 c main_arg6 (by decide)).trans (W4_main_arg6 m ρ c),
    (h.1 c main_arg7 (by decide)).trans (W4_main_arg7 m ρ c),
    (h.1 c main_arg8 (by decide)).trans (W4_main_arg8 m ρ c),
    (h.1 c main_arg9 (by decide)).trans (W4_main_arg9 m ρ c),
    (h.1 c main_arg10 (by decide)).trans (W4_main_arg10 m ρ c),
    (h.1 c main_arg11 (by decide)).trans (W4_main_arg11 m ρ c),
    (h.1 c main_arg12 (by decide)).trans (W4_main_arg12 m ρ c),
    (h.1 c main_arg13 (by decide)).trans (W4_main_arg13 m ρ c),
    (h.1 c main_arg14 (by decide)).trans (W4_main_arg14 m ρ c)⟩, h.2⟩) (run_end m ρ)

end Cert.KernelIdeal.Hand
-- ==== Proof.RefOps.lean ====
/- The reference program's host operations as lists, one list per stretch, what each writes, and the equations that say its
   `main` and its two loop bodies run those lists in order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2048

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Host operations, one stretch in order. -/
abbrev hostOps0 : List (HloOp τ sig (Elt F)) :=
  [ StableHlo.unary main_arg1 main_v0 ((transpose S4x2x64 [0, 2, 1] · transposes_S4x64x2_S4x2x64_0_2_1) : (⟨S4x64x2, .f32⟩ : BufTy).Contents (Elt F) → (⟨S4x2x64, .f32⟩ : BufTy).Contents (Elt F)),
    StableHlo.binary main_arg0 main_v0 main_v1 ((fun l r => Host.dotGeneral dot_S256x50x51x2_S4x2x64_S256x50x51x4x64_3_1_012_02_n_n none l r) : (⟨S256x50x51x2, .f32⟩ : BufTy).Contents (Elt F) → (⟨S4x2x64, .f32⟩ : BufTy).Contents (Elt F) → (⟨S256x50x51x4x64, .f32⟩ : BufTy).Contents (Elt F)),
    StableHlo.unary main_arg2 main_v2 ((extractStridedSlice S4x1x64 ![0, 0, 0] · slices_S4x1x128_S4x1x64_0_0_0) : (⟨S4x1x128, .f32⟩ : BufTy).Contents (Elt F) → (⟨S4x1x64, .f32⟩ : BufTy).Contents (Elt F)),
    StableHlo.reshape main_v2 main_v3 (rfl : (.f32 : EltTy) = .f32) shapeCasts_S4x1x64_S4x64,
    StableHlo.binary main_v1 main_v3 main_v4 ((fun l r => Host.dotGeneral dot_S256x50x51x4x64_S4x64_S4x256x50x51_4_1_012_n_3_0 none l r) : (⟨S256x50x51x4x64, .f32⟩ : BufTy).Contents (Elt F) → (⟨S4x64, .f32⟩ : BufTy).Contents (Elt F) → (⟨S4x256x50x51, .f32⟩ : BufTy).Contents (Elt F)),
    StableHlo.unary main_arg2 main_v5 ((extractStridedSlice S4x1x64 ![0, 0, 64] · slices_S4x1x128_S4x1x64_0_0_64) : (⟨S4x1x128, .f32⟩ : BufTy).Contents (Elt F) → (⟨S4x1x64, .f32⟩ : BufTy).Contents (Elt F)),
    StableHlo.reshape main_v5 main_v6 (rfl : (.f32 : EltTy) = .f32) shapeCasts_S4x1x64_S4x64,
    StableHlo.binary main_v1 main_v6 main_v7 ((fun l r => Host.dotGeneral dot_S256x50x51x4x64_S4x64_S4x256x50x51_4_1_012_n_3_0 none l r) : (⟨S256x50x51x4x64, .f32⟩ : BufTy).Contents (Elt F) → (⟨S4x64, .f32⟩ : BufTy).Contents (Elt F) → (⟨S4x256x50x51, .f32⟩ : BufTy).Contents (Elt F)),
    StableHlo.unary main_v4 main_v8 ((transpose S256x50x4x51 [1, 2, 0, 3] · transposes_S4x256x50x51_S256x50x4x51_1_2_0_3) : (⟨S4x256x50x51, .f32⟩ : BufTy).Contents (Elt F) → (⟨S256x50x4x51, .f32⟩ : BufTy).Contents (Elt F)),
    StableHlo.unary main_v8 main_v9 (broadcastInDim S256x50x4x51x1 ![0, 1, 2, 3] bcast_S256x50x4x51_S256x50x4x51x1_0_1_2_3 : (⟨S256x50x4x51, .f32⟩ : BufTy).Contents (Elt F) → (⟨S256x50x4x51x1, .f32⟩ : BufTy).Contents (Elt F)),
    StableHlo.unary main_v7 main_v10 ((transpose S256x50x4x51 [1, 2, 0, 3] · transposes_S4x256x50x51_S256x50x4x51_1_2_0_3) : (⟨S4x256x50x51, .f32⟩ : BufTy).Contents (Elt F) → (⟨S256x50x4x51, .f32⟩ : BufTy).Contents (Elt F)),
    StableHlo.unary main_v10 main_v11 (broadcastInDim S256x50x4x1x51 ![0, 1, 2, 4] bcast_S256x50x4x51_S256x50x4x1x51_0_1_2_4 : (⟨S256x50x4x51, .f32⟩ : BufTy).Contents (Elt F) → (⟨S256x50x4x1x51, .f32⟩ : BufTy).Contents (Elt F)),
    StableHlo.unary main_v9 main_v12 (broadcastInDim S256x50x4x51x51 ![0, 1, 2, 3, 4] bcast_S256x50x4x51x1_S256x50x4x51x51_0_1_2_3_4 : (⟨S256x50x4x51x1, .f32⟩ : BufTy).Contents (Elt F) → (⟨S256x50x4x51x51, .f32⟩ : BufTy).Contents (Elt F)),
    StableHlo.unary main_v11 main_v13 (broadcastInDim S256x50x4x51x51 ![0, 1, 2, 3, 4] bcast_S256x50x4x1x51_S256x50x4x51x51_0_1_2_3_4 : (⟨S256x50x4x1x51, .f32⟩ : BufTy).Contents (Elt F) → (⟨S256x50x4x51x51, .f32⟩ : BufTy).Contents (Elt F)),
    StableHlo.binary main_v12 main_v13 main_v14 (addf : (⟨S256x50x4x51x51, .f32⟩ : BufTy).Contents (Elt F) → (⟨S256x50x4x51x51, .f32⟩ : BufTy).Contents (Elt F) → (⟨S256x50x4x51x51, .f32⟩ : BufTy).Contents (Elt F)),
    StableHlo.nullary main_cst (constant S_ .f32 0x3C23D70A#32) ]
/-- The buffers this stretch writes, in order. -/
abbrev hostOps0_W : List (Ref sig .tc) := [main_v0, main_v1, main_v2, main_v3, main_v4, main_v5, main_v6, main_v7, main_v8, main_v9, main_v10, main_v11, main_v12, main_v13, main_v14, main_cst]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ :=
  StableHlo.forall_fresh_of_map rfl
theorem hostOps0_sub : (hostOps0 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub ..⟩
/-- Host operations, one stretch in order. -/
abbrev hostOps0_1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S256x50x4x51x51, .f32⟩) (broadcastInDim S256x50x4x51x51 ![] bcast_S_S256x50x4x51x51),
    StableHlo.TRef.binary (.of main_v14 : StableHlo.TRef sig ⟨S256x50x4x51x51, .f32⟩) (.of main_call0_v0 : StableHlo.TRef sig ⟨S256x50x4x51x51, .f32⟩) (.of main_call0_v1 : StableHlo.TRef sig ⟨S256x50x4x51x51, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S256x50x4x51x51, .f32⟩) (broadcastInDim S256x50x4x51x51 ![] bcast_S_S256x50x4x51x51),
    StableHlo.TRef.binary (.of main_call0_v3 : StableHlo.TRef sig ⟨S256x50x4x51x51, .f32⟩) (.of main_v14 : StableHlo.TRef sig ⟨S256x50x4x51x51, .f32⟩) (.of main_call0_v4 : StableHlo.TRef sig ⟨S256x50x4x51x51, .f32⟩) mulf,
    StableHlo.TRef.ternary (.of main_call0_v1 : StableHlo.TRef sig ⟨S256x50x4x51x51, .i1⟩) (.of main_v14 : StableHlo.TRef sig ⟨S256x50x4x51x51, .f32⟩) (.of main_call0_v4 : StableHlo.TRef sig ⟨S256x50x4x51x51, .f32⟩) (.of main_v15 : StableHlo.TRef sig ⟨S256x50x4x51x51, .f32⟩) select ]
/-- The buffers this stretch writes, in order. -/
abbrev hostOps0_1_W : List (Ref sig .tc) := [main_call0_cst, main_call0_v0, main_call0_v1, main_call0_v2, main_call0_v3, main_call0_v4, main_v15]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Host operations, one stretch in order. -/
abbrev hostOps0_2 : List (HloOp τ sig (Elt F)) :=
  [ StableHlo.nullary main_v16 (iotaInDim S51x51 32 0),
    StableHlo.nullary main_v17 (iotaInDim S51x51 32 1),
    StableHlo.nullary main_c (constantI S_ 32 0#32),
    StableHlo.unary main_c main_v18 (broadcastInDim S51x51 ![] bcast_S_S51x51 : (⟨S_, .i32⟩ : BufTy).Contents (Elt F) → (⟨S51x51, .i32⟩ : BufTy).Contents (Elt F)),
    StableHlo.binary main_v16 main_v18 main_v19 (addi : (⟨S51x51, .i32⟩ : BufTy).Contents (Elt F) → (⟨S51x51, .i32⟩ : BufTy).Contents (Elt F) → (⟨S51x51, .i32⟩ : BufTy).Contents (Elt F)),
    StableHlo.binary main_v19 main_v17 main_v20 (cmpi .eq : (⟨S51x51, .i32⟩ : BufTy).Contents (Elt F) → (⟨S51x51, .i32⟩ : BufTy).Contents (Elt F) → (⟨S51x51, .i1⟩ : BufTy).Contents (Elt F)),
    StableHlo.nullary main_cst_0 (constant S_ .f32 0xFF800000#32) ]
/-- The buffers this stretch writes, in order. -/
abbrev hostOps0_2_W : List (Ref sig .tc) := [main_v16, main_v17, main_c, main_v18, main_v19, main_v20, main_cst_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
theorem hostOps0_2_sub : (hostOps0_2 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.nullary_bufs_sub ..⟩
/-- Host operations, one stretch in order. -/
abbrev hostOps0_3 : List (HloOp τ sig (Elt F)) :=
  [ StableHlo.TRef.unary (.of main_cst_0 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S51x51, .f32⟩) (broadcastInDim S51x51 ![] bcast_S_S51x51),
    StableHlo.TRef.unary (.of main_v20 : StableHlo.TRef sig ⟨S51x51, .i1⟩) (.of main_call1_v2 : StableHlo.TRef sig ⟨S4x51x51, .i1⟩) (broadcastInDim S4x51x51 ![1, 2] bcast_S51x51_S4x51x51_1_2),
    StableHlo.TRef.unary (.of main_call1_v1 : StableHlo.TRef sig ⟨S51x51, .f32⟩) (.of main_call1_v3 : StableHlo.TRef sig ⟨S4x51x51, .f32⟩) (broadcastInDim S4x51x51 ![1, 2] bcast_S51x51_S4x51x51_1_2),
    StableHlo.TRef.unary (.of main_call1_v2 : StableHlo.TRef sig ⟨S4x51x51, .i1⟩) (.of main_call1_v4 : StableHlo.TRef sig ⟨S50x4x51x51, .i1⟩) (broadcastInDim S50x4x51x51 ![1, 2, 3] bcast_S4x51x51_S50x4x51x51_1_2_3),
    StableHlo.TRef.unary (.of main_call1_v3 : StableHlo.TRef sig ⟨S4x51x51, .f32⟩) (.of main_call1_v5 : StableHlo.TRef sig ⟨S50x4x51x51, .f32⟩) (broadcastInDim S50x4x51x51 ![1, 2, 3] bcast_S4x51x51_S50x4x51x51_1_2_3),
    StableHlo.TRef.unary (.of main_call1_v4 : StableHlo.TRef sig ⟨S50x4x51x51, .i1⟩) (.of main_call1_v6 : StableHlo.TRef sig ⟨S256x50x4x51x51, .i1⟩) (broadcastInDim S256x50x4x51x51 ![1, 2, 3, 4] bcast_S50x4x51x51_S256x50x4x51x51_1_2_3_4),
    StableHlo.TRef.unary (.of main_call1_v5 : StableHlo.TRef sig ⟨S50x4x51x51, .f32⟩) (.of main_call1_v7 : StableHlo.TRef sig ⟨S256x50x4x51x51, .f32⟩) (broadcastInDim S256x50x4x51x51 ![1, 2, 3, 4] bcast_S50x4x51x51_S256x50x4x51x51_1_2_3_4),
    StableHlo.TRef.ternary (.of main_call1_v6 : StableHlo.TRef sig ⟨S256x50x4x51x51, .i1⟩) (.of main_call1_v7 : StableHlo.TRef sig ⟨S256x50x4x51x51, .f32⟩) (.of main_v15 : StableHlo.TRef sig ⟨S256x50x4x51x51, .f32⟩) (.of main_v21 : StableHlo.TRef sig ⟨S256x50x4x51x51, .f32⟩) select ]
/-- The buffers this stretch writes, in order. -/
abbrev hostOps0_3_W : List (Ref sig .tc) := [main_call1_v0, main_call1_v1, main_call1_v2, main_call1_v3, main_call1_v4, main_call1_v5, main_call1_v6, main_call1_v7, main_v21]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.ternary_bufs_sub ..⟩
/-- Host operations, one stretch in order. -/
abbrev hostOps0_4 : List (HloOp τ sig (Elt F)) :=
  [ StableHlo.nullary main_cst_1 (constant S_ .f32 0xFF800000#32),
    StableHlo.binary main_v21 main_cst_1 main_v22 ((fun x v => Host.reduce FloatOps.maximumf x v reducesTo_S256x50x4x51x51_S256x50x4x51_d3 h_S_) : (⟨S256x50x4x51x51, .f32⟩ : BufTy).Contents (Elt F) → (⟨S_, .f32⟩ : BufTy).Contents (Elt F) → (⟨S256x50x4x51, .f32⟩ : BufTy).Contents (Elt F)),
    StableHlo.nullary main_cst_2 (constant S_ .f32 0xFF800000#32),
    StableHlo.unary main_cst_2 main_v23 (broadcastInDim S256x50x4x51 ![] bcast_S_S256x50x4x51 : (⟨S_, .f32⟩ : BufTy).Contents (Elt F) → (⟨S256x50x4x51, .f32⟩ : BufTy).Contents (Elt F)),
    StableHlo.binary main_v23 main_v22 main_v24 (maximumf : (⟨S256x50x4x51, .f32⟩ : BufTy).Contents (Elt F) → (⟨S256x50x4x51, .f32⟩ : BufTy).Contents (Elt F) → (⟨S256x50x4x51, .f32⟩ : BufTy).Contents (Elt F)),
    StableHlo.unary main_v24 main_v25 (broadcastInDim S256x50x4x1x51 ![0, 1, 2, 4] bcast_S256x50x4x51_S256x50x4x1x51_0_1_2_4 : (⟨S256x50x4x51, .f32⟩ : BufTy).Contents (Elt F) → (⟨S256x50x4x1x51, .f32⟩ : BufTy).Contents (Elt F)),
    StableHlo.unary main_v25 main_v26 (broadcastInDim S256x50x4x51x51 ![0, 1, 2, 3, 4] bcast_S256x50x4x1x51_S256x50x4x51x51_0_1_2_3_4 : (⟨S256x50x4x1x51, .f32⟩ : BufTy).Contents (Elt F) → (⟨S256x50x4x51x51, .f32⟩ : BufTy).Contents (Elt F)),
    StableHlo.binary main_v21 main_v26 main_v27 (subf : (⟨S256x50x4x51x51, .f32⟩ : BufTy).Contents (Elt F) → (⟨S256x50x4x51x51, .f32⟩ : BufTy).Contents (Elt F) → (⟨S256x50x4x51x51, .f32⟩ : BufTy).Contents (Elt F)),
    StableHlo.unary main_v27 main_v28 (Host.exp : (⟨S256x50x4x51x51, .f32⟩ : BufTy).Contents (Elt F) → (⟨S256x50x4x51x51, .f32⟩ : BufTy).Contents (Elt F)),
    StableHlo.nullary main_cst_3 (constant S_ .f32 0x00000000#32),
    StableHlo.binary main_v28 main_cst_3 main_v29 ((fun x v => Host.reduceAdd x v reducesTo_S256x50x4x51x51_S256x50x4x51_d3 h_S_) : (⟨S256x50x4x51x51, .f32⟩ : BufTy).Contents (Elt F) → (⟨S_, .f32⟩ : BufTy).Contents (Elt F) → (⟨S256x50x4x51, .f32⟩ : BufTy).Contents (Elt F)),
    StableHlo.unary main_v29 main_v30 (broadcastInDim S256x50x4x1x51 ![0, 1, 2, 4] bcast_S256x50x4x51_S256x50x4x1x51_0_1_2_4 : (⟨S256x50x4x51, .f32⟩ : BufTy).Contents (Elt F) → (⟨S256x50x4x1x51, .f32⟩ : BufTy).Contents (Elt F)),
    StableHlo.unary main_v30 main_v31 (broadcastInDim S256x50x4x51x51 ![0, 1, 2, 3, 4] bcast_S256x50x4x1x51_S256x50x4x51x51_0_1_2_3_4 : (⟨S256x50x4x1x51, .f32⟩ : BufTy).Contents (Elt F) → (⟨S256x50x4x51x51, .f32⟩ : BufTy).Contents (Elt F)),
    StableHlo.binary main_v28 main_v31 main_v32 (Host.divf : (⟨S256x50x4x51x51, .f32⟩ : BufTy).Contents (Elt F) → (⟨S256x50x4x51x51, .f32⟩ : BufTy).Contents (Elt F) → (⟨S256x50x4x51x51, .f32⟩ : BufTy).Contents (Elt F)),
    StableHlo.unary main_v32 main_v33 ((transpose S256x50x4x51x51 [0, 1, 2, 4, 3] · transposes_S256x50x4x51x51_S256x50x4x51x51_0_1_2_4_3) : (⟨S256x50x4x51x51, .f32⟩ : BufTy).Contents (Elt F) → (⟨S256x50x4x51x51, .f32⟩ : BufTy).Contents (Elt F)),
    StableHlo.binary main_v33 main_v1 main_v34 ((fun l r => Host.dotGeneral dot_S256x50x4x51x51_S256x50x51x4x64_S256x50x4x51x64_4_2_3_4_012_013 none l r) : (⟨S256x50x4x51x51, .f32⟩ : BufTy).Contents (Elt F) → (⟨S256x50x51x4x64, .f32⟩ : BufTy).Contents (Elt F) → (⟨S256x50x4x51x64, .f32⟩ : BufTy).Contents (Elt F)),
    StableHlo.unary main_v34 main_v35 ((transpose S256x50x51x4x64 [0, 1, 3, 2, 4] · transposes_S256x50x4x51x64_S256x50x51x4x64_0_1_3_2_4) : (⟨S256x50x4x51x64, .f32⟩ : BufTy).Contents (Elt F) → (⟨S256x50x51x4x64, .f32⟩ : BufTy).Contents (Elt F)),
    StableHlo.reshape main_v35 main_v36 (rfl : (.f32 : EltTy) = .f32) shapeCasts_S256x50x51x4x64_S256x50x51x256 ]
/-- The buffers this stretch writes, in order. -/
abbrev hostOps0_4_W : List (Ref sig .tc) := [main_cst_1, main_v22, main_cst_2, main_v23, main_v24, main_v25, main_v26, main_v27, main_v28, main_cst_3, main_v29, main_v30, main_v31, main_v32, main_v33, main_v34, main_v35, main_v36]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
theorem hostOps0_4_sub : (hostOps0_4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub ..⟩
/-- Host operations, one stretch in order. -/
abbrev hostOps0_5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S256x50x51x256, .f32⟩) (broadcastInDim S256x50x51x256 ![] bcast_S_S256x50x51x256),
    StableHlo.TRef.binary (.of main_v36 : StableHlo.TRef sig ⟨S256x50x51x256, .f32⟩) (.of main_call2_v0 : StableHlo.TRef sig ⟨S256x50x51x256, .f32⟩) (.of main_call2_v1 : StableHlo.TRef sig ⟨S256x50x51x256, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S256x50x51x256, .f32⟩) (broadcastInDim S256x50x51x256 ![] bcast_S_S256x50x51x256),
    StableHlo.TRef.binary (.of main_v36 : StableHlo.TRef sig ⟨S256x50x51x256, .f32⟩) (.of main_call2_v2 : StableHlo.TRef sig ⟨S256x50x51x256, .f32⟩) (.of main_call2_v3 : StableHlo.TRef sig ⟨S256x50x51x256, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S51x256, .f32⟩) (broadcastInDim S51x256 ![] bcast_S_S51x256),
    StableHlo.TRef.unary (.of main_call2_call0_v1 : StableHlo.TRef sig ⟨S51x256, .f32⟩) (.of main_call2_call0_v2 : StableHlo.TRef sig ⟨S50x51x256, .f32⟩) (broadcastInDim S50x51x256 ![1, 2] bcast_S51x256_S50x51x256_1_2),
    StableHlo.TRef.unary (.of main_call2_call0_v2 : StableHlo.TRef sig ⟨S50x51x256, .f32⟩) (.of main_call2_call0_v3 : StableHlo.TRef sig ⟨S256x50x51x256, .f32⟩) (broadcastInDim S256x50x51x256 ![1, 2, 3] bcast_S50x51x256_S256x50x51x256_1_2_3),
    StableHlo.TRef.ternary (.of main_call2_v3 : StableHlo.TRef sig ⟨S256x50x51x256, .i1⟩) (.of main_call2_call0_v3 : StableHlo.TRef sig ⟨S256x50x51x256, .f32⟩) (.of main_v36 : StableHlo.TRef sig ⟨S256x50x51x256, .f32⟩) (.of main_call2_v4 : StableHlo.TRef sig ⟨S256x50x51x256, .f32⟩) select,
    StableHlo.TRef.unary main_call2_call0.v4 (.of main_call2_v5 : StableHlo.TRef sig ⟨S256x50x51x256, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S256x50x51x256, .f32⟩) (broadcastInDim S256x50x51x256 ![] bcast_S_S256x50x51x256),
    StableHlo.TRef.binary (.of main_call2_v6 : StableHlo.TRef sig ⟨S256x50x51x256, .f32⟩) (.of main_call2_v5 : StableHlo.TRef sig ⟨S256x50x51x256, .f32⟩) (.of main_call2_v7 : StableHlo.TRef sig ⟨S256x50x51x256, .f32⟩) mulf,
    StableHlo.TRef.ternary (.of main_call2_v1 : StableHlo.TRef sig ⟨S256x50x51x256, .i1⟩) (.of main_v36 : StableHlo.TRef sig ⟨S256x50x51x256, .f32⟩) (.of main_call2_v7 : StableHlo.TRef sig ⟨S256x50x51x256, .f32⟩) (.of main_v37 : StableHlo.TRef sig ⟨S256x50x51x256, .f32⟩) select ]
/-- The buffers this stretch writes, in order. -/
abbrev hostOps0_5_W : List (Ref sig .tc) := [main_call2_cst, main_call2_v0, main_call2_v1, main_call2_cst_0, main_call2_v2, main_call2_v3, main_call2_cst_1, main_call2_call0_v0, main_call2_call0_v1, main_call2_call0_v2, main_call2_call0_v3, main_call2_v4, main_call2_v5, main_call2_cst_2, main_call2_v6, main_call2_v7, main_v37]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
/-- Host operations, one stretch in order. -/
abbrev hostOps0_6 : List (HloOp τ sig (Elt F)) :=
  [ StableHlo.unary main_arg3 main_v38 ((transpose S256x128 [1, 0] · transposes_S128x256_S256x128_1_0) : (⟨S128x256, .f32⟩ : BufTy).Contents (Elt F) → (⟨S256x128, .f32⟩ : BufTy).Contents (Elt F)),
    StableHlo.binary main_v37 main_v38 main_v39 ((fun l r => Host.dotGeneral dot_S256x50x51x256_S256x128_S256x50x51x128_3_0_012_1_n_n none l r) : (⟨S256x50x51x256, .f32⟩ : BufTy).Contents (Elt F) → (⟨S256x128, .f32⟩ : BufTy).Contents (Elt F) → (⟨S256x50x51x128, .f32⟩ : BufTy).Contents (Elt F)),
    StableHlo.unary main_arg4 main_v40 ((extractStridedSlice S1x128 ![0, 0] · slices_S1x256_S1x128_0_0) : (⟨S1x256, .f32⟩ : BufTy).Contents (Elt F) → (⟨S1x128, .f32⟩ : BufTy).Contents (Elt F)),
    StableHlo.reshape main_v40 main_v41 (rfl : (.f32 : EltTy) = .f32) shapeCasts_S1x128_S128,
    StableHlo.binary main_v39 main_v41 main_v42 ((fun l r => Host.dotGeneral dot_S256x50x51x128_S128_S256x50x51_3_0_012_n_n_n none l r) : (⟨S256x50x51x128, .f32⟩ : BufTy).Contents (Elt F) → (⟨S128, .f32⟩ : BufTy).Contents (Elt F) → (⟨S256x50x51, .f32⟩ : BufTy).Contents (Elt F)),
    StableHlo.unary main_arg4 main_v43 ((extractStridedSlice S1x128 ![0, 128] · slices_S1x256_S1x128_0_128) : (⟨S1x256, .f32⟩ : BufTy).Contents (Elt F) → (⟨S1x128, .f32⟩ : BufTy).Contents (Elt F)),
    StableHlo.reshape main_v43 main_v44 (rfl : (.f32 : EltTy) = .f32) shapeCasts_S1x128_S128,
    StableHlo.binary main_v39 main_v44 main_v45 ((fun l r => Host.dotGeneral dot_S256x50x51x128_S128_S256x50x51_3_0_012_n_n_n none l r) : (⟨S256x50x51x128, .f32⟩ : BufTy).Contents (Elt F) → (⟨S128, .f32⟩ : BufTy).Contents (Elt F) → (⟨S256x50x51, .f32⟩ : BufTy).Contents (Elt F)),
    StableHlo.unary main_v42 main_v46 (broadcastInDim S256x50x51x1 ![0, 1, 2] bcast_S256x50x51_S256x50x51x1_0_1_2 : (⟨S256x50x51, .f32⟩ : BufTy).Contents (Elt F) → (⟨S256x50x51x1, .f32⟩ : BufTy).Contents (Elt F)),
    StableHlo.unary main_v45 main_v47 (broadcastInDim S256x50x1x51 ![0, 1, 3] bcast_S256x50x51_S256x50x1x51_0_1_3 : (⟨S256x50x51, .f32⟩ : BufTy).Contents (Elt F) → (⟨S256x50x1x51, .f32⟩ : BufTy).Contents (Elt F)),
    StableHlo.unary main_v46 main_v48 (broadcastInDim S256x50x51x51 ![0, 1, 2, 3] bcast_S256x50x51x1_S256x50x51x51_0_1_2_3 : (⟨S256x50x51x1, .f32⟩ : BufTy).Contents (Elt F) → (⟨S256x50x51x51, .f32⟩ : BufTy).Contents (Elt F)),
    StableHlo.unary main_v47 main_v49 (broadcastInDim S256x50x51x51 ![0, 1, 2, 3] bcast_S256x50x1x51_S256x50x51x51_0_1_2_3 : (⟨S256x50x1x51, .f32⟩ : BufTy).Contents (Elt F) → (⟨S256x50x51x51, .f32⟩ : BufTy).Contents (Elt F)),
    StableHlo.binary main_v48 main_v49 main_v50 (addf : (⟨S256x50x51x51, .f32⟩ : BufTy).Contents (Elt F) → (⟨S256x50x51x51, .f32⟩ : BufTy).Contents (Elt F) → (⟨S256x50x51x51, .f32⟩ : BufTy).Contents (Elt F)),
    StableHlo.nullary main_cst_4 (constant S_ .f32 0x3C23D70A#32) ]
/-- The buffers this stretch writes, in order. -/
abbrev hostOps0_6_W : List (Ref sig .tc) := [main_v38, main_v39, main_v40, main_v41, main_v42, main_v43, main_v44, main_v45, main_v46, main_v47, main_v48, main_v49, main_v50, main_cst_4]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl
theorem hostOps0_6_sub : (hostOps0_6 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩
/-- Host operations, one stretch in order. -/
abbrev hostOps0_7 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S256x50x51x51, .f32⟩) (broadcastInDim S256x50x51x51 ![] bcast_S_S256x50x51x51),
    StableHlo.TRef.binary (.of main_v50 : StableHlo.TRef sig ⟨S256x50x51x51, .f32⟩) (.of main_call3_v0 : StableHlo.TRef sig ⟨S256x50x51x51, .f32⟩) (.of main_call3_v1 : StableHlo.TRef sig ⟨S256x50x51x51, .i1⟩) (cmpf .oge),
    StableHlo.TRef.unary (.of main_cst_4 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S256x50x51x51, .f32⟩) (broadcastInDim S256x50x51x51 ![] bcast_S_S256x50x51x51),
    StableHlo.TRef.binary (.of main_call3_v3 : StableHlo.TRef sig ⟨S256x50x51x51, .f32⟩) (.of main_v50 : StableHlo.TRef sig ⟨S256x50x51x51, .f32⟩) (.of main_call3_v4 : StableHlo.TRef sig ⟨S256x50x51x51, .f32⟩) mulf,
    StableHlo.TRef.ternary (.of main_call3_v1 : StableHlo.TRef sig ⟨S256x50x51x51, .i1⟩) (.of main_v50 : StableHlo.TRef sig ⟨S256x50x51x51, .f32⟩) (.of main_call3_v4 : StableHlo.TRef sig ⟨S256x50x51x51, .f32⟩) (.of main_v51 : StableHlo.TRef sig ⟨S256x50x51x51, .f32⟩) select ]
/-- The buffers this stretch writes, in order. -/
abbrev hostOps0_7_W : List (Ref sig .tc) := [main_call3_cst, main_call3_v0, main_call3_v1, main_call3_v2, main_call3_v3, main_call3_v4, main_v51]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_fresh : (hostOps0_7 : List (HloOp τ sig (Elt F))).Forall fun op => op.fresh = ∅ :=
  StableHlo.forall_fresh_of_map rfl
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Host operations, one stretch in order. -/
abbrev hostOps0_8 : List (HloOp τ sig (Elt F)) :=
  [ StableHlo.nullary main_v52 (iotaInDim S51x51 32 0),
    StableHlo.nullary main_v53 (iotaInDim S51x51 32 1),
    StableHlo.nullary main_c_5 (constantI S_ 32 0#32),
    StableHlo.unary main_c_5 main_v54 (broadcastInDim S51x51 ![] bcast_S_S51x51 : (⟨S_, .i32⟩ : BufTy).Contents (Elt F) → (⟨S51x51, .i32⟩ : BufTy).Contents (Elt F)),
    StableHlo.binary main_v52 main_v54 main_v55 (addi : (⟨S51x51, .i32⟩ : BufTy).Contents (Elt F) → (⟨S51x51, .i32⟩ : BufTy).Contents (Elt F) → (⟨S51x51, .i32⟩ : BufTy).Contents (Elt F)),
    StableHlo.binary main_v55 main_v53 main_v56 (cmpi .eq : (⟨S51x51, .i32⟩ : BufTy).Contents (Elt F) → (⟨S51x51, .i32⟩ : BufTy).Contents (Elt F) → (⟨S51x51, .i1⟩ : BufTy).Contents (Elt F)),
    StableHlo.nullary main_cst_6 (constant S_ .f32 0xFF800000#32) ]
/-- The buffers this stretch writes, in order. -/
abbrev hostOps0_8_W : List (Ref sig .tc) := [main_v52, main_v53, main_c_5, main_v54, main_v55, main_v56, main_cst_6]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_fresh : (hostOps0_8 : List (HloOp τ sig (Elt F))).Forall fun op => op.fresh = ∅ :=
  StableHlo.forall_fresh_of_map rfl
theorem hostOps0_8_sub : (hostOps0_8 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.nullary_bufs_sub ..⟩
/-- Host operations, one stretch in order. -/
abbrev hostOps0_9 : List (HloOp τ sig (Elt F)) :=
  [ StableHlo.TRef.unary (.of main_cst_6 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S51x51, .f32⟩) (broadcastInDim S51x51 ![] bcast_S_S51x51),
    StableHlo.TRef.unary (.of main_v56 : StableHlo.TRef sig ⟨S51x51, .i1⟩) (.of main_call4_v2 : StableHlo.TRef sig ⟨S50x51x51, .i1⟩) (broadcastInDim S50x51x51 ![1, 2] bcast_S51x51_S50x51x51_1_2),
    StableHlo.TRef.unary (.of main_call4_v1 : StableHlo.TRef sig ⟨S51x51, .f32⟩) (.of main_call4_v3 : StableHlo.TRef sig ⟨S50x51x51, .f32⟩) (broadcastInDim S50x51x51 ![1, 2] bcast_S51x51_S50x51x51_1_2),
    StableHlo.TRef.unary (.of main_call4_v2 : StableHlo.TRef sig ⟨S50x51x51, .i1⟩) (.of main_call4_v4 : StableHlo.TRef sig ⟨S256x50x51x51, .i1⟩) (broadcastInDim S256x50x51x51 ![1, 2, 3] bcast_S50x51x51_S256x50x51x51_1_2_3),
    StableHlo.TRef.unary (.of main_call4_v3 : StableHlo.TRef sig ⟨S50x51x51, .f32⟩) (.of main_call4_v5 : StableHlo.TRef sig ⟨S256x50x51x51, .f32⟩) (broadcastInDim S256x50x51x51 ![1, 2, 3] bcast_S50x51x51_S256x50x51x51_1_2_3),
    StableHlo.TRef.ternary (.of main_call4_v4 : StableHlo.TRef sig ⟨S256x50x51x51, .i1⟩) (.of main_call4_v5 : StableHlo.TRef sig ⟨S256x50x51x51, .f32⟩) (.of main_v51 : StableHlo.TRef sig ⟨S256x50x51x51, .f32⟩) (.of main_v57 : StableHlo.TRef sig ⟨S256x50x51x51, .f32⟩) select ]
/-- The buffers this stretch writes, in order. -/
abbrev hostOps0_9_W : List (Ref sig .tc) := [main_call4_v0, main_call4_v1, main_call4_v2, main_call4_v3, main_call4_v4, main_call4_v5, main_v57]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_fresh : (hostOps0_9 : List (HloOp τ sig (Elt F))).Forall fun op => op.fresh = ∅ :=
  StableHlo.forall_fresh_of_map rfl
theorem hostOps0_9_sub : (hostOps0_9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.ternary_bufs_sub ..⟩
/-- Host operations, one stretch in order. -/
abbrev hostOps0_10 : List (HloOp τ sig (Elt F)) :=
  ( StableHlo.nullary main_cst_7 (constant S_ .f32 0xFF800000#32)
  :: StableHlo.binary main_v57 main_cst_7 main_v58 ((fun x v => Host.reduce FloatOps.maximumf x v reducesTo_S256x50x51x51_S256x50x51_d2 h_S_) : (⟨S256x50x51x51, .f32⟩ : BufTy).Contents (Elt F) → (⟨S_, .f32⟩ : BufTy).Contents (Elt F) → (⟨S256x50x51, .f32⟩ : BufTy).Contents (Elt F))
  :: StableHlo.nullary main_cst_8 (constant S_ .f32 0xFF800000#32)
  :: StableHlo.unary main_cst_8 main_v59 (broadcastInDim S256x50x51 ![] bcast_S_S256x50x51 : (⟨S_, .f32⟩ : BufTy).Contents (Elt F) → (⟨S256x50x51, .f32⟩ : BufTy).Contents (Elt F))
  :: StableHlo.binary main_v59 main_v58 main_v60 (maximumf : (⟨S256x50x51, .f32⟩ : BufTy).Contents (Elt F) → (⟨S256x50x51, .f32⟩ : BufTy).Contents (Elt F) → (⟨S256x50x51, .f32⟩ : BufTy).Contents (Elt F))
  :: StableHlo.unary main_v60 main_v61 (broadcastInDim S256x50x1x51 ![0, 1, 3] bcast_S256x50x51_S256x50x1x51_0_1_3 : (⟨S256x50x51, .f32⟩ : BufTy).Contents (Elt F) → (⟨S256x50x1x51, .f32⟩ : BufTy).Contents (Elt F))
  :: StableHlo.unary main_v61 main_v62 (broadcastInDim S256x50x51x51 ![0, 1, 2, 3] bcast_S256x50x1x51_S256x50x51x51_0_1_2_3 : (⟨S256x50x1x51, .f32⟩ : BufTy).Contents (Elt F) → (⟨S256x50x51x51, .f32⟩ : BufTy).Contents (Elt F))
  :: StableHlo.binary main_v57 main_v62 main_v63 (subf : (⟨S256x50x51x51, .f32⟩ : BufTy).Contents (Elt F) → (⟨S256x50x51x51, .f32⟩ : BufTy).Contents (Elt F) → (⟨S256x50x51x51, .f32⟩ : BufTy).Contents (Elt F))
  :: StableHlo.unary main_v63 main_v64 (Host.exp : (⟨S256x50x51x51, .f32⟩ : BufTy).Contents (Elt F) → (⟨S256x50x51x51, .f32⟩ : BufTy).Contents (Elt F))
  :: StableHlo.nullary main_cst_9 (constant S_ .f32 0x00000000#32)
  :: StableHlo.binary main_v64 main_cst_9 main_v65 ((fun x v => Host.reduceAdd x v reducesTo_S256x50x51x51_S256x50x51_d2 h_S_) : (⟨S256x50x51x51, .f32⟩ : BufTy).Contents (Elt F) → (⟨S_, .f32⟩ : BufTy).Contents (Elt F) → (⟨S256x50x51, .f32⟩ : BufTy).Contents (Elt F))
  :: StableHlo.unary main_v65 main_v66 (broadcastInDim S256x50x1x51 ![0, 1, 3] bcast_S256x50x51_S256x50x1x51_0_1_3 : (⟨S256x50x51, .f32⟩ : BufTy).Contents (Elt F) → (⟨S256x50x1x51, .f32⟩ : BufTy).Contents (Elt F))
  :: StableHlo.unary main_v66 main_v67 (broadcastInDim S256x50x51x51 ![0, 1, 2, 3] bcast_S256x50x1x51_S256x50x51x51_0_1_2_3 : (⟨S256x50x1x51, .f32⟩ : BufTy).Contents (Elt F) → (⟨S256x50x51x51, .f32⟩ : BufTy).Contents (Elt F))
  :: StableHlo.binary main_v64 main_v67 main_v68 (Host.divf : (⟨S256x50x51x51, .f32⟩ : BufTy).Contents (Elt F) → (⟨S256x50x51x51, .f32⟩ : BufTy).Contents (Elt F) → (⟨S256x50x51x51, .f32⟩ : BufTy).Contents (Elt F))
  :: StableHlo.unary main_v68 main_v69 ((transpose S256x50x51x51 [0, 1, 3, 2] · transposes_S256x50x51x51_S256x50x51x51_0_1_3_2) : (⟨S256x50x51x51, .f32⟩ : BufTy).Contents (Elt F) → (⟨S256x50x51x51, .f32⟩ : BufTy).Contents (Elt F))
  :: StableHlo.binary main_v69 main_v39 main_v70 ((fun l r => Host.dotGeneral dot_S256x50x51x51_S256x50x51x128_S256x50x51x128_3_2_2_3_01_01 none l r) : (⟨S256x50x51x51, .f32⟩ : BufTy).Contents (Elt F) → (⟨S256x50x51x128, .f32⟩ : BufTy).Contents (Elt F) → (⟨S256x50x51x128, .f32⟩ : BufTy).Contents (Elt F))
  :: StableHlo.nullary main_cst_10 (constant S_ .f32 0x00000000#32)
  :: StableHlo.binary main_v70 main_cst_10 main_v71 ((fun x v => Host.reduceAdd x v reducesTo_S256x50x51x128_S256x50x51_d3 h_S_) : (⟨S256x50x51x128, .f32⟩ : BufTy).Contents (Elt F) → (⟨S_, .f32⟩ : BufTy).Contents (Elt F) → (⟨S256x50x51, .f32⟩ : BufTy).Contents (Elt F))
  :: StableHlo.nullary main_cst_11 (constant S_ .f32 0x43000000#32)
  :: StableHlo.unary main_cst_11 main_v72 (broadcastInDim S256x50x51 ![] bcast_S_S256x50x51 : (⟨S_, .f32⟩ : BufTy).Contents (Elt F) → (⟨S256x50x51, .f32⟩ : BufTy).Contents (Elt F))
  :: StableHlo.binary main_v71 main_v72 main_v73 (Host.divf : (⟨S256x50x51, .f32⟩ : BufTy).Contents (Elt F) → (⟨S256x50x51, .f32⟩ : BufTy).Contents (Elt F) → (⟨S256x50x51, .f32⟩ : BufTy).Contents (Elt F))
  :: StableHlo.unary main_v73 main_v74 ((transpose S50x256x51 [1, 0, 2] · transposes_S256x50x51_S50x256x51_1_0_2) : (⟨S256x50x51, .f32⟩ : BufTy).Contents (Elt F) → (⟨S50x256x51, .f32⟩ : BufTy).Contents (Elt F))
  :: StableHlo.nullary main_cst_12 (constant S_ .f32 0x00000000#32)
  :: StableHlo.unary main_cst_12 main_v75 (broadcastInDim S50x32 ![] bcast_S_S50x32 : (⟨S_, .f32⟩ : BufTy).Contents (Elt F) → (⟨S50x32, .f32⟩ : BufTy).Contents (Elt F))
  :: StableHlo.nullary main_cst_13 (constant S_ .f32 0x00000000#32)
  :: StableHlo.unary main_cst_13 main_v76 (broadcastInDim S50x32 ![] bcast_S_S50x32 : (⟨S_, .f32⟩ : BufTy).Contents (Elt F) → (⟨S50x32, .f32⟩ : BufTy).Contents (Elt F))
  :: StableHlo.unary main_v74 main_v77 ((transpose S256x50x51 [1, 0, 2] · transposes_S50x256x51_S256x50x51_1_0_2) : (⟨S50x256x51, .f32⟩ : BufTy).Contents (Elt F) → (⟨S256x50x51, .f32⟩ : BufTy).Contents (Elt F))
  :: StableHlo.nullary main_cst_14 (constant S_ .f32 0x00000000#32)
  :: StableHlo.unary main_cst_14 main_v78 (broadcastInDim S256x50x32 ![] bcast_S_S256x50x32 : (⟨S_, .f32⟩ : BufTy).Contents (Elt F) → (⟨S256x50x32, .f32⟩ : BufTy).Contents (Elt F))
  :: StableHlo.nullary main_c_15 (constantI S_ 32 0#32)
  :: StableHlo.unary main_v77 main_v79_0 id
  :: StableHlo.unary main_arg5 main_v79_1 id
  :: StableHlo.unary main_arg6 main_v79_2 id
  :: StableHlo.unary main_arg7 main_v79_3 id
  :: StableHlo.unary main_arg8 main_v79_4 id
  :: StableHlo.unary main_c_15 main_v79_5 id
  :: StableHlo.unary main_v75 main_v79_6 id
  :: StableHlo.unary main_v76 main_v79_7 id
  :: StableHlo.unary main_v78 main_v79_8 id
  :: [] )
/-- The buffers this stretch writes, in order. -/
abbrev hostOps0_10_W : List (Ref sig .tc) := [main_cst_7, main_v58, main_cst_8, main_v59, main_v60, main_v61, main_v62, main_v63, main_v64, main_cst_9, main_v65, main_v66, main_v67, main_v68, main_v69, main_v70, main_cst_10, main_v71, main_cst_11, main_v72, main_v73, main_v74, main_cst_12, main_v75, main_cst_13, main_v76, main_v77, main_cst_14, main_v78, main_c_15, main_v79_0, main_v79_1, main_v79_2, main_v79_3, main_v79_4, main_v79_5, main_v79_6, main_v79_7, main_v79_8]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_fresh : (hostOps0_10 : List (HloOp τ sig (Elt F))).Forall fun op => op.fresh = ∅ :=
  StableHlo.forall_fresh_of_map rfl
theorem hostOps0_10_sub : (hostOps0_10 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, one stretch in order. -/
abbrev hostOps0_11 : List (HloOp τ sig (Elt F)) :=
  [ StableHlo.unary main_v79_8 main_v80 ((transpose S50x256x32 [1, 0, 2] · transposes_S256x50x32_S50x256x32_1_0_2) : (⟨S256x50x32, .f32⟩ : BufTy).Contents (Elt F) → (⟨S50x256x32, .f32⟩ : BufTy).Contents (Elt F)),
    StableHlo.nullary main_cst_16 (constant S_ .f32 0x00000000#32),
    StableHlo.unary main_cst_16 main_v81 (broadcastInDim S50x32 ![] bcast_S_S50x32 : (⟨S_, .f32⟩ : BufTy).Contents (Elt F) → (⟨S50x32, .f32⟩ : BufTy).Contents (Elt F)),
    StableHlo.nullary main_cst_17 (constant S_ .f32 0x00000000#32),
    StableHlo.unary main_cst_17 main_v82 (broadcastInDim S50x32 ![] bcast_S_S50x32 : (⟨S_, .f32⟩ : BufTy).Contents (Elt F) → (⟨S50x32, .f32⟩ : BufTy).Contents (Elt F)),
    StableHlo.unary main_v80 main_v83 ((transpose S256x50x32 [1, 0, 2] · transposes_S50x256x32_S256x50x32_1_0_2) : (⟨S50x256x32, .f32⟩ : BufTy).Contents (Elt F) → (⟨S256x50x32, .f32⟩ : BufTy).Contents (Elt F)),
    StableHlo.nullary main_cst_18 (constant S_ .f32 0x00000000#32),
    StableHlo.unary main_cst_18 main_v84 (broadcastInDim S256x50x32 ![] bcast_S_S256x50x32 : (⟨S_, .f32⟩ : BufTy).Contents (Elt F) → (⟨S256x50x32, .f32⟩ : BufTy).Contents (Elt F)),
    StableHlo.nullary main_c_19 (constantI S_ 32 0#32),
    StableHlo.unary main_v83 main_v85_0 id,
    StableHlo.unary main_arg9 main_v85_1 id,
    StableHlo.unary main_arg10 main_v85_2 id,
    StableHlo.unary main_arg11 main_v85_3 id,
    StableHlo.unary main_arg12 main_v85_4 id,
    StableHlo.unary main_c_19 main_v85_5 id,
    StableHlo.unary main_v81 main_v85_6 id,
    StableHlo.unary main_v82 main_v85_7 id,
    StableHlo.unary main_v84 main_v85_8 id ]
/-- The buffers this stretch writes, in order. -/
abbrev hostOps0_11_W : List (Ref sig .tc) := [main_v80, main_cst_16, main_v81, main_cst_17, main_v82, main_v83, main_cst_18, main_v84, main_c_19, main_v85_0, main_v85_1, main_v85_2, main_v85_3, main_v85_4, main_v85_5, main_v85_6, main_v85_7, main_v85_8]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_11_fresh : (hostOps0_11 : List (HloOp τ sig (Elt F))).Forall fun op => op.fresh = ∅ :=
  StableHlo.forall_fresh_of_map rfl
theorem hostOps0_11_sub : (hostOps0_11 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Host operations, one stretch in order. -/
abbrev hostOps0_12 : List (HloOp τ sig (Elt F)) :=
  [ StableHlo.unary main_v85_8 main_v86 ((transpose S50x256x32 [1, 0, 2] · transposes_S256x50x32_S50x256x32_1_0_2) : (⟨S256x50x32, .f32⟩ : BufTy).Contents (Elt F) → (⟨S50x256x32, .f32⟩ : BufTy).Contents (Elt F)),
    StableHlo.unary main_v86 main_v87 ((transpose S256x50x32 [1, 0, 2] · transposes_S50x256x32_S256x50x32_1_0_2) : (⟨S50x256x32, .f32⟩ : BufTy).Contents (Elt F) → (⟨S256x50x32, .f32⟩ : BufTy).Contents (Elt F)),
    StableHlo.reshape main_v87 main_v88 (rfl : (.f32 : EltTy) = .f32) shapeCasts_S256x50x32_S256x1600,
    StableHlo.unary main_arg13 main_v89 ((transpose S1600x8 [1, 0] · transposes_S8x1600_S1600x8_1_0) : (⟨S8x1600, .f32⟩ : BufTy).Contents (Elt F) → (⟨S1600x8, .f32⟩ : BufTy).Contents (Elt F)),
    StableHlo.binary main_v88 main_v89 main_v90 ((fun l r => Host.dotGeneral dot_S256x1600_S1600x8_S256x8_1_0_0_1_n_n none l r) : (⟨S256x1600, .f32⟩ : BufTy).Contents (Elt F) → (⟨S1600x8, .f32⟩ : BufTy).Contents (Elt F) → (⟨S256x8, .f32⟩ : BufTy).Contents (Elt F)),
    StableHlo.unary main_arg14 main_v91 (broadcastInDim S1x8 ![1] bcast_S8_S1x8_1 : (⟨S8, .f32⟩ : BufTy).Contents (Elt F) → (⟨S1x8, .f32⟩ : BufTy).Contents (Elt F)),
    StableHlo.unary main_v91 main_v92 (broadcastInDim S256x8 ![0, 1] bcast_S1x8_S256x8_0_1 : (⟨S1x8, .f32⟩ : BufTy).Contents (Elt F) → (⟨S256x8, .f32⟩ : BufTy).Contents (Elt F)),
    StableHlo.binary main_v90 main_v92 main_v93 (addf : (⟨S256x8, .f32⟩ : BufTy).Contents (Elt F) → (⟨S256x8, .f32⟩ : BufTy).Contents (Elt F) → (⟨S256x8, .f32⟩ : BufTy).Contents (Elt F)) ]
/-- The buffers this stretch writes, in order. -/
abbrev hostOps0_12_W : List (Ref sig .tc) := [main_v86, main_v87, main_v88, main_v89, main_v90, main_v91, main_v92, main_v93]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_12_fresh : (hostOps0_12 : List (HloOp τ sig (Elt F))).Forall fun op => op.fresh = ∅ :=
  StableHlo.forall_fresh_of_map rfl
theorem hostOps0_12_sub : (hostOps0_12 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
/-- A piece of a stretch, as the printed program cuts it. -/
abbrev main_part0_ops8 : List (HloOp τ sig (Elt F)) :=
  [ StableHlo.nullary main_v52 (iotaInDim S51x51 32 0) ]
theorem main_part0_chain (c : Dev nD) : main_part0 (F := F) c = (Pipeline.chainK
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ]
  (StableHlo.seq main_part0_ops8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl
/-- A piece of a stretch, as the printed program cuts it. -/
abbrev main_part1_ops0 : List (HloOp τ sig (Elt F)) :=
  [ StableHlo.nullary main_v53 (iotaInDim S51x51 32 1),
    StableHlo.nullary main_c_5 (constantI S_ 32 0#32),
    StableHlo.unary main_c_5 main_v54 (broadcastInDim S51x51 ![] bcast_S_S51x51 : (⟨S_, .i32⟩ : BufTy).Contents (Elt F) → (⟨S51x51, .i32⟩ : BufTy).Contents (Elt F)),
    StableHlo.binary main_v52 main_v54 main_v55 (addi : (⟨S51x51, .i32⟩ : BufTy).Contents (Elt F) → (⟨S51x51, .i32⟩ : BufTy).Contents (Elt F) → (⟨S51x51, .i32⟩ : BufTy).Contents (Elt F)),
    StableHlo.binary main_v55 main_v53 main_v56 (cmpi .eq : (⟨S51x51, .i32⟩ : BufTy).Contents (Elt F) → (⟨S51x51, .i32⟩ : BufTy).Contents (Elt F) → (⟨S51x51, .i1⟩ : BufTy).Contents (Elt F)),
    StableHlo.nullary main_cst_6 (constant S_ .f32 0xFF800000#32) ]
/-- A piece of a stretch, as the printed program cuts it. -/
abbrev main_part1_ops3 : List (HloOp τ sig (Elt F)) :=
  [ StableHlo.unary main_v79_8 main_v80 ((transpose S50x256x32 [1, 0, 2] · transposes_S256x50x32_S50x256x32_1_0_2) : (⟨S256x50x32, .f32⟩ : BufTy).Contents (Elt F) → (⟨S50x256x32, .f32⟩ : BufTy).Contents (Elt F)),
    StableHlo.nullary main_cst_16 (constant S_ .f32 0x00000000#32),
    StableHlo.unary main_cst_16 main_v81 (broadcastInDim S50x32 ![] bcast_S_S50x32 : (⟨S_, .f32⟩ : BufTy).Contents (Elt F) → (⟨S50x32, .f32⟩ : BufTy).Contents (Elt F)),
    StableHlo.nullary main_cst_17 (constant S_ .f32 0x00000000#32),
    StableHlo.unary main_cst_17 main_v82 (broadcastInDim S50x32 ![] bcast_S_S50x32 : (⟨S_, .f32⟩ : BufTy).Contents (Elt F) → (⟨S50x32, .f32⟩ : BufTy).Contents (Elt F)),
    StableHlo.unary main_v80 main_v83 ((transpose S256x50x32 [1, 0, 2] · transposes_S50x256x32_S256x50x32_1_0_2) : (⟨S50x256x32, .f32⟩ : BufTy).Contents (Elt F) → (⟨S256x50x32, .f32⟩ : BufTy).Contents (Elt F)),
    StableHlo.nullary main_cst_18 (constant S_ .f32 0x00000000#32),
    StableHlo.unary main_cst_18 main_v84 (broadcastInDim S256x50x32 ![] bcast_S_S256x50x32 : (⟨S_, .f32⟩ : BufTy).Contents (Elt F) → (⟨S256x50x32, .f32⟩ : BufTy).Contents (Elt F)),
    StableHlo.nullary main_c_19 (constantI S_ 32 0#32),
    StableHlo.unary main_v83 main_v85_0 id,
    StableHlo.unary main_arg9 main_v85_1 id,
    StableHlo.unary main_arg10 main_v85_2 id,
    StableHlo.unary main_arg11 main_v85_3 id ]
theorem main_part1_chain (c : Dev nD) : main_part1 (F := F) c = (Pipeline.chainK
  [ StableHlo.seq main_part1_ops0,
    StableHlo.seq hostOps0_9,
    StableHlo.seq hostOps0_10,
    HostLoop.enter 0 ]
  (StableHlo.seq main_part1_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl
/-- A piece of a stretch, as the printed program cuts it. -/
abbrev main_part2_ops0 : List (HloOp τ sig (Elt F)) :=
  [ StableHlo.unary main_arg12 main_v85_4 id,
    StableHlo.unary main_c_19 main_v85_5 id,
    StableHlo.unary main_v81 main_v85_6 id,
    StableHlo.unary main_v82 main_v85_7 id,
    StableHlo.unary main_v84 main_v85_8 id ]
theorem main_part2_chain (c : Dev nD) : main_part2 (F := F) c = (Pipeline.chain
  [ StableHlo.seq main_part2_ops0,
    HostLoop.enter 1,
    StableHlo.seq hostOps0_12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl
theorem main_chain_windows (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq main_part0_ops8,
    StableHlo.seq main_part1_ops0,
    StableHlo.seq hostOps0_9,
    StableHlo.seq hostOps0_10,
    HostLoop.enter 0,
    StableHlo.seq main_part1_ops3,
    StableHlo.seq main_part2_ops0,
    HostLoop.enter 1,
    StableHlo.seq hostOps0_12 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl
/-- The items of `main`, each with its pieces. -/
abbrev main_groups (c : Dev nD) : List (StableHlo.Group nD τ sig (Elt F) (HostLoop.Sig (Pipeline.Sig Λ₀ (Fin 0) fun p => (pcfgs (F := F) p).Adm) 2)) :=
  [ .ops [hostOps0],
    .ops [hostOps0_1],
    .ops [hostOps0_2],
    .ops [hostOps0_3],
    .ops [hostOps0_4],
    .ops [hostOps0_5],
    .ops [hostOps0_6],
    .ops [hostOps0_7],
    .ops [main_part0_ops8, main_part1_ops0],
    .ops [hostOps0_9],
    .ops [hostOps0_10],
    .prog (HostLoop.enter 0),
    .ops [main_part1_ops3, main_part2_ops0],
    .prog (HostLoop.enter 1),
    .ops [hostOps0_12] ]
theorem main_chain_cut (c : Dev nD) : (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq main_part0_ops8,
    StableHlo.seq main_part1_ops0,
    StableHlo.seq hostOps0_9,
    StableHlo.seq hostOps0_10,
    HostLoop.enter 0,
    StableHlo.seq main_part1_ops3,
    StableHlo.seq main_part2_ops0,
    HostLoop.enter 1,
    StableHlo.seq hostOps0_12 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    HostLoop.enter 0,
    StableHlo.seq hostOps0_11,
    HostLoop.enter 1,
    StableHlo.seq hostOps0_12 ] : Prog (TpuEff nD τ sig (Elt F) (HostLoop.Sig (Pipeline.Sig Λ₀ (Fin 0) fun p => (pcfgs (F := F) p).Adm) 2) .tc) PUnit) := by
  chain_rfl
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    HostLoop.enter 0,
    StableHlo.seq hostOps0_11,
    HostLoop.enter 1,
    StableHlo.seq hostOps0_12 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)
/-- Host operations, one stretch in order. -/
abbrev while0Ops0 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.unaryIndexed (.of main_v79_0 : StableHlo.TRef sig ⟨S256x50x51, .f32⟩) ![(.of main_v79_5 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x50x51, .f32⟩) (fun x i => Host.dynamicSlice S1x50x51 x (fun k => (i k (Shape.Idx.first h_S_)).toInt) sliceFits_S256x50x51_S1x50x51),
    StableHlo.TRef.reshape (.of main_while0b_call5_v0 : StableHlo.TRef sig ⟨S1x50x51, .f32⟩) (.of main_while0b_v94 : StableHlo.TRef sig ⟨S50x51, .f32⟩) (rfl : (.f32 : EltTy) = .f32) shapeCasts_S1x50x51_S50x51 ]
/-- The buffers this stretch writes, in order. -/
abbrev while0Ops0_W : List (Ref sig .tc) := [main_while0b_call5_c, main_while0b_call5_c_0, main_while0b_call5_v0, main_while0b_v94]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- Host operations, one stretch in order. -/
abbrev while0Ops0_1 : List (HloOp τ sig (Elt F)) :=
  ( StableHlo.unary main_v79_1 main_while0b_v95 ((transpose S51x128 [1, 0] · transposes_S128x51_S51x128_1_0) : (⟨S128x51, .f32⟩ : BufTy).Contents (Elt F) → (⟨S51x128, .f32⟩ : BufTy).Contents (Elt F))
  :: StableHlo.binary main_while0b_v94 main_while0b_v95 main_while0b_v96 ((fun l r => Host.dotGeneral dot_S50x51_S51x128_S50x128_1_0_0_1_n_n none l r) : (⟨S50x51, .f32⟩ : BufTy).Contents (Elt F) → (⟨S51x128, .f32⟩ : BufTy).Contents (Elt F) → (⟨S50x128, .f32⟩ : BufTy).Contents (Elt F))
  :: StableHlo.unary main_v79_2 main_while0b_v97 ((transpose S32x128 [1, 0] · transposes_S128x32_S32x128_1_0) : (⟨S128x32, .f32⟩ : BufTy).Contents (Elt F) → (⟨S32x128, .f32⟩ : BufTy).Contents (Elt F))
  :: StableHlo.binary main_v79_6 main_while0b_v97 main_while0b_v98 ((fun l r => Host.dotGeneral dot_S50x32_S32x128_S50x128_1_0_0_1_n_n none l r) : (⟨S50x32, .f32⟩ : BufTy).Contents (Elt F) → (⟨S32x128, .f32⟩ : BufTy).Contents (Elt F) → (⟨S50x128, .f32⟩ : BufTy).Contents (Elt F))
  :: StableHlo.binary main_while0b_v96 main_while0b_v98 main_while0b_v99 (addf : (⟨S50x128, .f32⟩ : BufTy).Contents (Elt F) → (⟨S50x128, .f32⟩ : BufTy).Contents (Elt F) → (⟨S50x128, .f32⟩ : BufTy).Contents (Elt F))
  :: StableHlo.unary main_v79_3 main_while0b_v100 (broadcastInDim S1x128 ![1] bcast_S128_S1x128_1 : (⟨S128, .f32⟩ : BufTy).Contents (Elt F) → (⟨S1x128, .f32⟩ : BufTy).Contents (Elt F))
  :: StableHlo.unary main_while0b_v100 main_while0b_v101 (broadcastInDim S50x128 ![0, 1] bcast_S1x128_S50x128_0_1 : (⟨S1x128, .f32⟩ : BufTy).Contents (Elt F) → (⟨S50x128, .f32⟩ : BufTy).Contents (Elt F))
  :: StableHlo.binary main_while0b_v99 main_while0b_v101 main_while0b_v102 (addf : (⟨S50x128, .f32⟩ : BufTy).Contents (Elt F) → (⟨S50x128, .f32⟩ : BufTy).Contents (Elt F) → (⟨S50x128, .f32⟩ : BufTy).Contents (Elt F))
  :: StableHlo.unary main_v79_4 main_while0b_v103 (broadcastInDim S1x128 ![1] bcast_S128_S1x128_1 : (⟨S128, .f32⟩ : BufTy).Contents (Elt F) → (⟨S1x128, .f32⟩ : BufTy).Contents (Elt F))
  :: StableHlo.unary main_while0b_v103 main_while0b_v104 (broadcastInDim S50x128 ![0, 1] bcast_S1x128_S50x128_0_1 : (⟨S1x128, .f32⟩ : BufTy).Contents (Elt F) → (⟨S50x128, .f32⟩ : BufTy).Contents (Elt F))
  :: StableHlo.binary main_while0b_v102 main_while0b_v104 main_while0b_v105 (addf : (⟨S50x128, .f32⟩ : BufTy).Contents (Elt F) → (⟨S50x128, .f32⟩ : BufTy).Contents (Elt F) → (⟨S50x128, .f32⟩ : BufTy).Contents (Elt F))
  :: StableHlo.unary main_while0b_v105 main_while0b_v106 ((extractStridedSlice S50x32 ![0, 0] · slices_S50x128_S50x32_0_0) : (⟨S50x128, .f32⟩ : BufTy).Contents (Elt F) → (⟨S50x32, .f32⟩ : BufTy).Contents (Elt F))
  :: StableHlo.unary main_while0b_v105 main_while0b_v107 ((extractStridedSlice S50x32 ![0, 32] · slices_S50x128_S50x32_0_32) : (⟨S50x128, .f32⟩ : BufTy).Contents (Elt F) → (⟨S50x32, .f32⟩ : BufTy).Contents (Elt F))
  :: StableHlo.unary main_while0b_v105 main_while0b_v108 ((extractStridedSlice S50x32 ![0, 64] · slices_S50x128_S50x32_0_64) : (⟨S50x128, .f32⟩ : BufTy).Contents (Elt F) → (⟨S50x32, .f32⟩ : BufTy).Contents (Elt F))
  :: StableHlo.unary main_while0b_v105 main_while0b_v109 ((extractStridedSlice S50x32 ![0, 96] · slices_S50x128_S50x32_0_96) : (⟨S50x128, .f32⟩ : BufTy).Contents (Elt F) → (⟨S50x32, .f32⟩ : BufTy).Contents (Elt F))
  :: StableHlo.unary main_while0b_v106 main_while0b_v110 (Host.negf : (⟨S50x32, .f32⟩ : BufTy).Contents (Elt F) → (⟨S50x32, .f32⟩ : BufTy).Contents (Elt F))
  :: StableHlo.unary main_while0b_v110 main_while0b_v111 (Host.exp : (⟨S50x32, .f32⟩ : BufTy).Contents (Elt F) → (⟨S50x32, .f32⟩ : BufTy).Contents (Elt F))
  :: StableHlo.nullary main_while0b_cst_28 (constant S_ .f32 0x3F800000#32)
  :: StableHlo.unary main_while0b_cst_28 main_while0b_v112 (broadcastInDim S50x32 ![] bcast_S_S50x32 : (⟨S_, .f32⟩ : BufTy).Contents (Elt F) → (⟨S50x32, .f32⟩ : BufTy).Contents (Elt F))
  :: StableHlo.binary main_while0b_v112 main_while0b_v111 main_while0b_v113 (addf : (⟨S50x32, .f32⟩ : BufTy).Contents (Elt F) → (⟨S50x32, .f32⟩ : BufTy).Contents (Elt F) → (⟨S50x32, .f32⟩ : BufTy).Contents (Elt F))
  :: StableHlo.nullary main_while0b_cst_29 (constant S_ .f32 0x3F800000#32)
  :: StableHlo.unary main_while0b_cst_29 main_while0b_v114 (broadcastInDim S50x32 ![] bcast_S_S50x32 : (⟨S_, .f32⟩ : BufTy).Contents (Elt F) → (⟨S50x32, .f32⟩ : BufTy).Contents (Elt F))
  :: StableHlo.binary main_while0b_v114 main_while0b_v113 main_while0b_v115 (Host.divf : (⟨S50x32, .f32⟩ : BufTy).Contents (Elt F) → (⟨S50x32, .f32⟩ : BufTy).Contents (Elt F) → (⟨S50x32, .f32⟩ : BufTy).Contents (Elt F))
  :: StableHlo.unary main_while0b_v107 main_while0b_v116 (Host.negf : (⟨S50x32, .f32⟩ : BufTy).Contents (Elt F) → (⟨S50x32, .f32⟩ : BufTy).Contents (Elt F))
  :: StableHlo.unary main_while0b_v116 main_while0b_v117 (Host.exp : (⟨S50x32, .f32⟩ : BufTy).Contents (Elt F) → (⟨S50x32, .f32⟩ : BufTy).Contents (Elt F))
  :: StableHlo.nullary main_while0b_cst_30 (constant S_ .f32 0x3F800000#32)
  :: StableHlo.unary main_while0b_cst_30 main_while0b_v118 (broadcastInDim S50x32 ![] bcast_S_S50x32 : (⟨S_, .f32⟩ : BufTy).Contents (Elt F) → (⟨S50x32, .f32⟩ : BufTy).Contents (Elt F))
  :: StableHlo.binary main_while0b_v118 main_while0b_v117 main_while0b_v119 (addf : (⟨S50x32, .f32⟩ : BufTy).Contents (Elt F) → (⟨S50x32, .f32⟩ : BufTy).Contents (Elt F) → (⟨S50x32, .f32⟩ : BufTy).Contents (Elt F))
  :: StableHlo.nullary main_while0b_cst_31 (constant S_ .f32 0x3F800000#32)
  :: StableHlo.unary main_while0b_cst_31 main_while0b_v120 (broadcastInDim S50x32 ![] bcast_S_S50x32 : (⟨S_, .f32⟩ : BufTy).Contents (Elt F) → (⟨S50x32, .f32⟩ : BufTy).Contents (Elt F))
  :: StableHlo.binary main_while0b_v120 main_while0b_v119 main_while0b_v121 (Host.divf : (⟨S50x32, .f32⟩ : BufTy).Contents (Elt F) → (⟨S50x32, .f32⟩ : BufTy).Contents (Elt F) → (⟨S50x32, .f32⟩ : BufTy).Contents (Elt F))
  :: StableHlo.unary main_while0b_v108 main_while0b_v122 (Host.tanh : (⟨S50x32, .f32⟩ : BufTy).Contents (Elt F) → (⟨S50x32, .f32⟩ : BufTy).Contents (Elt F))
  :: StableHlo.unary main_while0b_v109 main_while0b_v123 (Host.negf : (⟨S50x32, .f32⟩ : BufTy).Contents (Elt F) → (⟨S50x32, .f32⟩ : BufTy).Contents (Elt F))
  :: StableHlo.unary main_while0b_v123 main_while0b_v124 (Host.exp : (⟨S50x32, .f32⟩ : BufTy).Contents (Elt F) → (⟨S50x32, .f32⟩ : BufTy).Contents (Elt F))
  :: StableHlo.nullary main_while0b_cst_32 (constant S_ .f32 0x3F800000#32)
  :: StableHlo.unary main_while0b_cst_32 main_while0b_v125 (broadcastInDim S50x32 ![] bcast_S_S50x32 : (⟨S_, .f32⟩ : BufTy).Contents (Elt F) → (⟨S50x32, .f32⟩ : BufTy).Contents (Elt F))
  :: StableHlo.binary main_while0b_v125 main_while0b_v124 main_while0b_v126 (addf : (⟨S50x32, .f32⟩ : BufTy).Contents (Elt F) → (⟨S50x32, .f32⟩ : BufTy).Contents (Elt F) → (⟨S50x32, .f32⟩ : BufTy).Contents (Elt F))
  :: StableHlo.nullary main_while0b_cst_33 (constant S_ .f32 0x3F800000#32)
  :: StableHlo.unary main_while0b_cst_33 main_while0b_v127 (broadcastInDim S50x32 ![] bcast_S_S50x32 : (⟨S_, .f32⟩ : BufTy).Contents (Elt F) → (⟨S50x32, .f32⟩ : BufTy).Contents (Elt F))
  :: StableHlo.binary main_while0b_v127 main_while0b_v126 main_while0b_v128 (Host.divf : (⟨S50x32, .f32⟩ : BufTy).Contents (Elt F) → (⟨S50x32, .f32⟩ : BufTy).Contents (Elt F) → (⟨S50x32, .f32⟩ : BufTy).Contents (Elt F))
  :: StableHlo.binary main_while0b_v121 main_v79_7 main_while0b_v129 (mulf : (⟨S50x32, .f32⟩ : BufTy).Contents (Elt F) → (⟨S50x32, .f32⟩ : BufTy).Contents (Elt F) → (⟨S50x32, .f32⟩ : BufTy).Contents (Elt F))
  :: StableHlo.binary main_while0b_v115 main_while0b_v122 main_while0b_v130 (mulf : (⟨S50x32, .f32⟩ : BufTy).Contents (Elt F) → (⟨S50x32, .f32⟩ : BufTy).Contents (Elt F) → (⟨S50x32, .f32⟩ : BufTy).Contents (Elt F))
  :: StableHlo.binary main_while0b_v129 main_while0b_v130 main_while0b_v131 (addf : (⟨S50x32, .f32⟩ : BufTy).Contents (Elt F) → (⟨S50x32, .f32⟩ : BufTy).Contents (Elt F) → (⟨S50x32, .f32⟩ : BufTy).Contents (Elt F))
  :: StableHlo.unary main_while0b_v131 main_while0b_v132 (Host.tanh : (⟨S50x32, .f32⟩ : BufTy).Contents (Elt F) → (⟨S50x32, .f32⟩ : BufTy).Contents (Elt F))
  :: StableHlo.binary main_while0b_v128 main_while0b_v132 main_while0b_v133 (mulf : (⟨S50x32, .f32⟩ : BufTy).Contents (Elt F) → (⟨S50x32, .f32⟩ : BufTy).Contents (Elt F) → (⟨S50x32, .f32⟩ : BufTy).Contents (Elt F))
  :: [] )
/-- The buffers this stretch writes, in order. -/
abbrev while0Ops0_1_W : List (Ref sig .tc) := [main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_v109, main_while0b_v110, main_while0b_v111, main_while0b_cst_28, main_while0b_v112, main_while0b_v113, main_while0b_cst_29, main_while0b_v114, main_while0b_v115, main_while0b_v116, main_while0b_v117, main_while0b_cst_30, main_while0b_v118, main_while0b_v119, main_while0b_cst_31, main_while0b_v120, main_while0b_v121, main_while0b_v122, main_while0b_v123, main_while0b_v124, main_while0b_cst_32, main_while0b_v125, main_while0b_v126, main_while0b_cst_33, main_while0b_v127, main_while0b_v128, main_while0b_v129, main_while0b_v130, main_while0b_v131, main_while0b_v132, main_while0b_v133]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- Host operations, one stretch in order. -/
abbrev while0Ops0_2 : List (HloOp τ sig (Elt F)) :=
  [ StableHlo.TRef.unary (.of main_while0b_v133 : StableHlo.TRef sig ⟨S50x32, .f32⟩) (.of main_while0b_call6_v0 : StableHlo.TRef sig ⟨S1x50x32, .f32⟩) (broadcastInDim S1x50x32 ![1, 2] bcast_S50x32_S1x50x32_1_2),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.binaryIndexed (.of main_v79_8 : StableHlo.TRef sig ⟨S256x50x32, .f32⟩) (.of main_while0b_call6_v0 : StableHlo.TRef sig ⟨S1x50x32, .f32⟩) ![(.of main_v79_5 : StableHlo.TRef sig ⟨S_, .i32⟩), (.of main_while0b_call6_c : StableHlo.TRef sig ⟨S_, .i32⟩), (.of main_while0b_call6_c_0 : StableHlo.TRef sig ⟨S_, .i32⟩)] (.of main_while0b_v134 : StableHlo.TRef sig ⟨S256x50x32, .f32⟩) (fun x u i => Host.dynamicUpdateSlice x u (fun k => (i k (Shape.Idx.first h_S_)).toInt) updateFits_S256x50x32_S1x50x32) ]
/-- The buffers this stretch writes, in order. -/
abbrev while0Ops0_2_W : List (Ref sig .tc) := [main_while0b_call6_v0, main_while0b_call6_c, main_while0b_call6_c_0, main_while0b_v134]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- Host operations, one stretch in order. -/
abbrev while0Ops0_3 : List (HloOp τ sig (Elt F)) :=
  [ StableHlo.nullary main_while0b_c_34 (constantI S_ 32 1#32),
    StableHlo.binary main_v79_5 main_while0b_c_34 main_while0b_v135 (addi : (⟨S_, .i32⟩ : BufTy).Contents (Elt F) → (⟨S_, .i32⟩ : BufTy).Contents (Elt F) → (⟨S_, .i32⟩ : BufTy).Contents (Elt F)),
    StableHlo.unary main_while0b_v135 main_v79_5 id,
    StableHlo.unary main_while0b_v133 main_v79_6 id,
    StableHlo.unary main_while0b_v131 main_v79_7 id,
    StableHlo.unary main_while0b_v134 main_v79_8 id ]
/-- The buffers this stretch writes, in order. -/
abbrev while0Ops0_3_W : List (Ref sig .tc) := [main_while0b_c_34, main_while0b_v135, main_v79_5, main_v79_6, main_v79_7, main_v79_8]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl
/-- Host operations, one stretch in order. -/
abbrev while1Ops0 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v85_0 : StableHlo.TRef sig ⟨S256x50x32, .f32⟩) ![(.of main_v85_5 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x50x32, .f32⟩) (fun x i => Host.dynamicSlice S1x50x32 x (fun k => (i k (Shape.Idx.first h_S_)).toInt) sliceFits_S256x50x32_S1x50x32),
    StableHlo.TRef.reshape (.of main_while1b_call7_v0 : StableHlo.TRef sig ⟨S1x50x32, .f32⟩) (.of main_while1b_v94 : StableHlo.TRef sig ⟨S50x32, .f32⟩) (rfl : (.f32 : EltTy) = .f32) shapeCasts_S1x50x32_S50x32 ]
/-- The buffers this stretch writes, in order. -/
abbrev while1Ops0_W : List (Ref sig .tc) := [main_while1b_call7_c, main_while1b_call7_c_0, main_while1b_call7_v0, main_while1b_v94]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_fresh : (while1Ops0 : List (HloOp τ sig (Elt F))).Forall fun op => op.fresh = ∅ :=
  StableHlo.forall_fresh_of_map rfl
theorem while1Ops0_sub : (while1Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- Host operations, one stretch in order. -/
abbrev while1Ops0_1 : List (HloOp τ sig (Elt F)) :=
  ( StableHlo.unary main_v85_1 main_while1b_v95 ((transpose S32x128 [1, 0] · transposes_S128x32_S32x128_1_0) : (⟨S128x32, .f32⟩ : BufTy).Contents (Elt F) → (⟨S32x128, .f32⟩ : BufTy).Contents (Elt F))
  :: StableHlo.binary main_while1b_v94 main_while1b_v95 main_while1b_v96 ((fun l r => Host.dotGeneral dot_S50x32_S32x128_S50x128_1_0_0_1_n_n none l r) : (⟨S50x32, .f32⟩ : BufTy).Contents (Elt F) → (⟨S32x128, .f32⟩ : BufTy).Contents (Elt F) → (⟨S50x128, .f32⟩ : BufTy).Contents (Elt F))
  :: StableHlo.unary main_v85_2 main_while1b_v97 ((transpose S32x128 [1, 0] · transposes_S128x32_S32x128_1_0) : (⟨S128x32, .f32⟩ : BufTy).Contents (Elt F) → (⟨S32x128, .f32⟩ : BufTy).Contents (Elt F))
  :: StableHlo.binary main_v85_6 main_while1b_v97 main_while1b_v98 ((fun l r => Host.dotGeneral dot_S50x32_S32x128_S50x128_1_0_0_1_n_n none l r) : (⟨S50x32, .f32⟩ : BufTy).Contents (Elt F) → (⟨S32x128, .f32⟩ : BufTy).Contents (Elt F) → (⟨S50x128, .f32⟩ : BufTy).Contents (Elt F))
  :: StableHlo.binary main_while1b_v96 main_while1b_v98 main_while1b_v99 (addf : (⟨S50x128, .f32⟩ : BufTy).Contents (Elt F) → (⟨S50x128, .f32⟩ : BufTy).Contents (Elt F) → (⟨S50x128, .f32⟩ : BufTy).Contents (Elt F))
  :: StableHlo.unary main_v85_3 main_while1b_v100 (broadcastInDim S1x128 ![1] bcast_S128_S1x128_1 : (⟨S128, .f32⟩ : BufTy).Contents (Elt F) → (⟨S1x128, .f32⟩ : BufTy).Contents (Elt F))
  :: StableHlo.unary main_while1b_v100 main_while1b_v101 (broadcastInDim S50x128 ![0, 1] bcast_S1x128_S50x128_0_1 : (⟨S1x128, .f32⟩ : BufTy).Contents (Elt F) → (⟨S50x128, .f32⟩ : BufTy).Contents (Elt F))
  :: StableHlo.binary main_while1b_v99 main_while1b_v101 main_while1b_v102 (addf : (⟨S50x128, .f32⟩ : BufTy).Contents (Elt F) → (⟨S50x128, .f32⟩ : BufTy).Contents (Elt F) → (⟨S50x128, .f32⟩ : BufTy).Contents (Elt F))
  :: StableHlo.unary main_v85_4 main_while1b_v103 (broadcastInDim S1x128 ![1] bcast_S128_S1x128_1 : (⟨S128, .f32⟩ : BufTy).Contents (Elt F) → (⟨S1x128, .f32⟩ : BufTy).Contents (Elt F))
  :: StableHlo.unary main_while1b_v103 main_while1b_v104 (broadcastInDim S50x128 ![0, 1] bcast_S1x128_S50x128_0_1 : (⟨S1x128, .f32⟩ : BufTy).Contents (Elt F) → (⟨S50x128, .f32⟩ : BufTy).Contents (Elt F))
  :: StableHlo.binary main_while1b_v102 main_while1b_v104 main_while1b_v105 (addf : (⟨S50x128, .f32⟩ : BufTy).Contents (Elt F) → (⟨S50x128, .f32⟩ : BufTy).Contents (Elt F) → (⟨S50x128, .f32⟩ : BufTy).Contents (Elt F))
  :: StableHlo.unary main_while1b_v105 main_while1b_v106 ((extractStridedSlice S50x32 ![0, 0] · slices_S50x128_S50x32_0_0) : (⟨S50x128, .f32⟩ : BufTy).Contents (Elt F) → (⟨S50x32, .f32⟩ : BufTy).Contents (Elt F))
  :: StableHlo.unary main_while1b_v105 main_while1b_v107 ((extractStridedSlice S50x32 ![0, 32] · slices_S50x128_S50x32_0_32) : (⟨S50x128, .f32⟩ : BufTy).Contents (Elt F) → (⟨S50x32, .f32⟩ : BufTy).Contents (Elt F))
  :: StableHlo.unary main_while1b_v105 main_while1b_v108 ((extractStridedSlice S50x32 ![0, 64] · slices_S50x128_S50x32_0_64) : (⟨S50x128, .f32⟩ : BufTy).Contents (Elt F) → (⟨S50x32, .f32⟩ : BufTy).Contents (Elt F))
  :: StableHlo.unary main_while1b_v105 main_while1b_v109 ((extractStridedSlice S50x32 ![0, 96] · slices_S50x128_S50x32_0_96) : (⟨S50x128, .f32⟩ : BufTy).Contents (Elt F) → (⟨S50x32, .f32⟩ : BufTy).Contents (Elt F))
  :: StableHlo.unary main_while1b_v106 main_while1b_v110 (Host.negf : (⟨S50x32, .f32⟩ : BufTy).Contents (Elt F) → (⟨S50x32, .f32⟩ : BufTy).Contents (Elt F))
  :: StableHlo.unary main_while1b_v110 main_while1b_v111 (Host.exp : (⟨S50x32, .f32⟩ : BufTy).Contents (Elt F) → (⟨S50x32, .f32⟩ : BufTy).Contents (Elt F))
  :: StableHlo.nullary main_while1b_cst_28 (constant S_ .f32 0x3F800000#32)
  :: StableHlo.unary main_while1b_cst_28 main_while1b_v112 (broadcastInDim S50x32 ![] bcast_S_S50x32 : (⟨S_, .f32⟩ : BufTy).Contents (Elt F) → (⟨S50x32, .f32⟩ : BufTy).Contents (Elt F))
  :: StableHlo.binary main_while1b_v112 main_while1b_v111 main_while1b_v113 (addf : (⟨S50x32, .f32⟩ : BufTy).Contents (Elt F) → (⟨S50x32, .f32⟩ : BufTy).Contents (Elt F) → (⟨S50x32, .f32⟩ : BufTy).Contents (Elt F))
  :: StableHlo.nullary main_while1b_cst_29 (constant S_ .f32 0x3F800000#32)
  :: StableHlo.unary main_while1b_cst_29 main_while1b_v114 (broadcastInDim S50x32 ![] bcast_S_S50x32 : (⟨S_, .f32⟩ : BufTy).Contents (Elt F) → (⟨S50x32, .f32⟩ : BufTy).Contents (Elt F))
  :: StableHlo.binary main_while1b_v114 main_while1b_v113 main_while1b_v115 (Host.divf : (⟨S50x32, .f32⟩ : BufTy).Contents (Elt F) → (⟨S50x32, .f32⟩ : BufTy).Contents (Elt F) → (⟨S50x32, .f32⟩ : BufTy).Contents (Elt F))
  :: StableHlo.unary main_while1b_v107 main_while1b_v116 (Host.negf : (⟨S50x32, .f32⟩ : BufTy).Contents (Elt F) → (⟨S50x32, .f32⟩ : BufTy).Contents (Elt F))
  :: StableHlo.unary main_while1b_v116 main_while1b_v117 (Host.exp : (⟨S50x32, .f32⟩ : BufTy).Contents (Elt F) → (⟨S50x32, .f32⟩ : BufTy).Contents (Elt F))
  :: StableHlo.nullary main_while1b_cst_30 (constant S_ .f32 0x3F800000#32)
  :: StableHlo.unary main_while1b_cst_30 main_while1b_v118 (broadcastInDim S50x32 ![] bcast_S_S50x32 : (⟨S_, .f32⟩ : BufTy).Contents (Elt F) → (⟨S50x32, .f32⟩ : BufTy).Contents (Elt F))
  :: StableHlo.binary main_while1b_v118 main_while1b_v117 main_while1b_v119 (addf : (⟨S50x32, .f32⟩ : BufTy).Contents (Elt F) → (⟨S50x32, .f32⟩ : BufTy).Contents (Elt F) → (⟨S50x32, .f32⟩ : BufTy).Contents (Elt F))
  :: StableHlo.nullary main_while1b_cst_31 (constant S_ .f32 0x3F800000#32)
  :: StableHlo.unary main_while1b_cst_31 main_while1b_v120 (broadcastInDim S50x32 ![] bcast_S_S50x32 : (⟨S_, .f32⟩ : BufTy).Contents (Elt F) → (⟨S50x32, .f32⟩ : BufTy).Contents (Elt F))
  :: StableHlo.binary main_while1b_v120 main_while1b_v119 main_while1b_v121 (Host.divf : (⟨S50x32, .f32⟩ : BufTy).Contents (Elt F) → (⟨S50x32, .f32⟩ : BufTy).Contents (Elt F) → (⟨S50x32, .f32⟩ : BufTy).Contents (Elt F))
  :: StableHlo.unary main_while1b_v108 main_while1b_v122 (Host.tanh : (⟨S50x32, .f32⟩ : BufTy).Contents (Elt F) → (⟨S50x32, .f32⟩ : BufTy).Contents (Elt F))
  :: StableHlo.unary main_while1b_v109 main_while1b_v123 (Host.negf : (⟨S50x32, .f32⟩ : BufTy).Contents (Elt F) → (⟨S50x32, .f32⟩ : BufTy).Contents (Elt F))
  :: StableHlo.unary main_while1b_v123 main_while1b_v124 (Host.exp : (⟨S50x32, .f32⟩ : BufTy).Contents (Elt F) → (⟨S50x32, .f32⟩ : BufTy).Contents (Elt F))
  :: StableHlo.nullary main_while1b_cst_32 (constant S_ .f32 0x3F800000#32)
  :: StableHlo.unary main_while1b_cst_32 main_while1b_v125 (broadcastInDim S50x32 ![] bcast_S_S50x32 : (⟨S_, .f32⟩ : BufTy).Contents (Elt F) → (⟨S50x32, .f32⟩ : BufTy).Contents (Elt F))
  :: StableHlo.binary main_while1b_v125 main_while1b_v124 main_while1b_v126 (addf : (⟨S50x32, .f32⟩ : BufTy).Contents (Elt F) → (⟨S50x32, .f32⟩ : BufTy).Contents (Elt F) → (⟨S50x32, .f32⟩ : BufTy).Contents (Elt F))
  :: StableHlo.nullary main_while1b_cst_33 (constant S_ .f32 0x3F800000#32)
  :: StableHlo.unary main_while1b_cst_33 main_while1b_v127 (broadcastInDim S50x32 ![] bcast_S_S50x32 : (⟨S_, .f32⟩ : BufTy).Contents (Elt F) → (⟨S50x32, .f32⟩ : BufTy).Contents (Elt F))
  :: StableHlo.binary main_while1b_v127 main_while1b_v126 main_while1b_v128 (Host.divf : (⟨S50x32, .f32⟩ : BufTy).Contents (Elt F) → (⟨S50x32, .f32⟩ : BufTy).Contents (Elt F) → (⟨S50x32, .f32⟩ : BufTy).Contents (Elt F))
  :: StableHlo.binary main_while1b_v121 main_v85_7 main_while1b_v129 (mulf : (⟨S50x32, .f32⟩ : BufTy).Contents (Elt F) → (⟨S50x32, .f32⟩ : BufTy).Contents (Elt F) → (⟨S50x32, .f32⟩ : BufTy).Contents (Elt F))
  :: StableHlo.binary main_while1b_v115 main_while1b_v122 main_while1b_v130 (mulf : (⟨S50x32, .f32⟩ : BufTy).Contents (Elt F) → (⟨S50x32, .f32⟩ : BufTy).Contents (Elt F) → (⟨S50x32, .f32⟩ : BufTy).Contents (Elt F))
  :: StableHlo.binary main_while1b_v129 main_while1b_v130 main_while1b_v131 (addf : (⟨S50x32, .f32⟩ : BufTy).Contents (Elt F) → (⟨S50x32, .f32⟩ : BufTy).Contents (Elt F) → (⟨S50x32, .f32⟩ : BufTy).Contents (Elt F))
  :: StableHlo.unary main_while1b_v131 main_while1b_v132 (Host.tanh : (⟨S50x32, .f32⟩ : BufTy).Contents (Elt F) → (⟨S50x32, .f32⟩ : BufTy).Contents (Elt F))
  :: StableHlo.binary main_while1b_v128 main_while1b_v132 main_while1b_v133 (mulf : (⟨S50x32, .f32⟩ : BufTy).Contents (Elt F) → (⟨S50x32, .f32⟩ : BufTy).Contents (Elt F) → (⟨S50x32, .f32⟩ : BufTy).Contents (Elt F))
  :: [] )
/-- The buffers this stretch writes, in order. -/
abbrev while1Ops0_1_W : List (Ref sig .tc) := [main_while1b_v95, main_while1b_v96, main_while1b_v97, main_while1b_v98, main_while1b_v99, main_while1b_v100, main_while1b_v101, main_while1b_v102, main_while1b_v103, main_while1b_v104, main_while1b_v105, main_while1b_v106, main_while1b_v107, main_while1b_v108, main_while1b_v109, main_while1b_v110, main_while1b_v111, main_while1b_cst_28, main_while1b_v112, main_while1b_v113, main_while1b_cst_29, main_while1b_v114, main_while1b_v115, main_while1b_v116, main_while1b_v117, main_while1b_cst_30, main_while1b_v118, main_while1b_v119, main_while1b_cst_31, main_while1b_v120, main_while1b_v121, main_while1b_v122, main_while1b_v123, main_while1b_v124, main_while1b_cst_32, main_while1b_v125, main_while1b_v126, main_while1b_cst_33, main_while1b_v127, main_while1b_v128, main_while1b_v129, main_while1b_v130, main_while1b_v131, main_while1b_v132, main_while1b_v133]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_1_fresh : (while1Ops0_1 : List (HloOp τ sig (Elt F))).Forall fun op => op.fresh = ∅ :=
  StableHlo.forall_fresh_of_map rfl
theorem while1Ops0_1_sub : (while1Ops0_1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- Host operations, one stretch in order. -/
abbrev while1Ops0_2 : List (HloOp τ sig (Elt F)) :=
  [ StableHlo.TRef.unary (.of main_while1b_v133 : StableHlo.TRef sig ⟨S50x32, .f32⟩) (.of main_while1b_call8_v0 : StableHlo.TRef sig ⟨S1x50x32, .f32⟩) (broadcastInDim S1x50x32 ![1, 2] bcast_S50x32_S1x50x32_1_2),
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.binaryIndexed (.of main_v85_8 : StableHlo.TRef sig ⟨S256x50x32, .f32⟩) (.of main_while1b_call8_v0 : StableHlo.TRef sig ⟨S1x50x32, .f32⟩) ![(.of main_v85_5 : StableHlo.TRef sig ⟨S_, .i32⟩), (.of main_while1b_call8_c : StableHlo.TRef sig ⟨S_, .i32⟩), (.of main_while1b_call8_c_0 : StableHlo.TRef sig ⟨S_, .i32⟩)] (.of main_while1b_v134 : StableHlo.TRef sig ⟨S256x50x32, .f32⟩) (fun x u i => Host.dynamicUpdateSlice x u (fun k => (i k (Shape.Idx.first h_S_)).toInt) updateFits_S256x50x32_S1x50x32) ]
/-- The buffers this stretch writes, in order. -/
abbrev while1Ops0_2_W : List (Ref sig .tc) := [main_while1b_call8_v0, main_while1b_call8_c, main_while1b_call8_c_0, main_while1b_v134]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_2_fresh : (while1Ops0_2 : List (HloOp τ sig (Elt F))).Forall fun op => op.fresh = ∅ :=
  StableHlo.forall_fresh_of_map rfl
theorem while1Ops0_2_sub : (while1Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- Host operations, one stretch in order. -/
abbrev while1Ops0_3 : List (HloOp τ sig (Elt F)) :=
  [ StableHlo.nullary main_while1b_c_34 (constantI S_ 32 1#32),
    StableHlo.binary main_v85_5 main_while1b_c_34 main_while1b_v135 (addi : (⟨S_, .i32⟩ : BufTy).Contents (Elt F) → (⟨S_, .i32⟩ : BufTy).Contents (Elt F) → (⟨S_, .i32⟩ : BufTy).Contents (Elt F)),
    StableHlo.unary main_while1b_v135 main_v85_5 id,
    StableHlo.unary main_while1b_v133 main_v85_6 id,
    StableHlo.unary main_while1b_v131 main_v85_7 id,
    StableHlo.unary main_while1b_v134 main_v85_8 id ]
/-- The buffers this stretch writes, in order. -/
abbrev while1Ops0_3_W : List (Ref sig .tc) := [main_while1b_c_34, main_while1b_v135, main_v85_5, main_v85_6, main_v85_7, main_v85_8]
theorem while1Ops0_3_writes : (while1Ops0_3 : List (HloOp τ sig (Elt F))).Forall fun op => op.writes ⊆ (while1Ops0_3_W.map (Proc.devRef (τ := τ) .tc)).toFinset :=
  StableHlo.forall_writes_sub_of_map rfl
theorem while1Ops0_3_fresh : (while1Ops0_3 : List (HloOp τ sig (Elt F))).Forall fun op => op.fresh = ∅ :=
  StableHlo.forall_fresh_of_map rfl
theorem while1Ops0_3_sub : (while1Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

end Cert.ReferenceIdeal.Hand

end
-- ==== Proof.RefRun.lean ====
/- The reference program's run: host operations, the loop of the first layer, more host operations, the loop of the second
   layer, and the last host operations. Every fair execution terminates with every buffer at the fold of the operations
   (`endContents`), its arguments unchanged and its counters at zero. -/
module

public import proofs.«01_k».proof.Proof.RefOps

@[expose] public section

set_option maxRecDepth 2048

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs unscopedBufs_held)

variable {F : FTy → Type} [FloatOps F]

/-! ## The loop of layer 0 -/

/-- The condition region's two operations: the bound, and the trip counter compared with it. -/
abbrev condOps0 : List (HloOp τ sig (Elt F)) :=
  [ StableHlo.nullary main_while0c_c_28 (constantI S_ 32 256#32),
    StableHlo.binary main_v79_5 main_while0c_c_28 main_while0c_v94 (cmpi .slt) ]
abbrev condOps0_W : List (Ref sig .tc) := [main_while0c_c_28, main_while0c_v94]
theorem condOps0_writes : (condOps0 : List (HloOp τ sig (Elt F))).Forall fun op => op.writes ⊆ (condOps0_W.map (Proc.devRef (τ := τ) .tc)).toFinset :=
  StableHlo.forall_writes_sub_of_map rfl

/-- The loop body's stretches. -/
abbrev bodyI0 : List (List (HloOp τ sig (Elt F))) := [while0Ops0, while0Ops0_1, while0Ops0_2, while0Ops0_3]
theorem hbodyI0 : Plain (bodyI0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) .nil)))

/-- The counter after one trip, from any contents. -/
theorem ctr_trip0 (X : Valuation τ sig (Elt F)) :
    afterL bodyI0 (after condOps0 X) (Proc.devRef .tc main_v79_5) = addi (X (Proc.devRef .tc main_v79_5)) (constantI S_ 32 1#32) := by
  have h (Y : Valuation τ sig (Elt F)) : after while0Ops0_3 Y (Proc.devRef .tc main_v79_5) = addi (Y (Proc.devRef .tc main_v79_5)) (constantI S_ 32 1#32) := by
    after_results
    rfl
  simp only [afterL_cons, afterL_nil]
  rw [h, after_of_writes_sub while0Ops0_2 _ while0Ops0_2_writes (by decide +kernel), after_of_writes_sub while0Ops0_1 _ while0Ops0_1_writes (by decide +kernel),
    after_of_writes_sub while0Ops0 _ while0Ops0_writes (by decide +kernel), after_of_writes_sub condOps0 _ condOps0_writes (by decide +kernel)]

/-- Before the `k`-th condition the counter reads `k`, when it reads 0 at the entry. -/
theorem ctr_at0 (W₀ : Dev nD → Valuation τ sig (Elt F)) (c : Dev nD) (h0 : W₀ c (Proc.devRef .tc main_v79_5) = fun _ => (0#32 : BitVec 32)) :
    ∀ k, atTrip condOps0 bodyI0 W₀ k c (Proc.devRef .tc main_v79_5) = fun _ => Scf.iv 0#32 1#32 k
  | 0 => by rw [atTrip_zero, h0, Scf.iv_zero]
  | k + 1 => by
    rw [atTrip_succ, ctr_trip0, ctr_at0 W₀ c h0 k, Scf.iv_succ]
    rfl

set_option backward.isDefEq.respectTransparency.types false in
/-- The condition runs the body 256 times, from any entry whose counter reads 0. -/
theorem cond_spec0 (W₀ : Dev nD → Valuation τ sig (Elt F)) (h0 : ∀ c, W₀ c (Proc.devRef .tc main_v79_5) = fun _ => (0#32 : BitVec 32)) :
    CondSpec (pcfgs (F := F)) defs₀ loops (main_while0_cond (F := F)) condOps0 bodyI0 W₀ 256 := by
  intro k hk c bd
  have hctr := ctr_at0 W₀ c (h0 c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 bodyI0 W₀ k c) main_v79_5 HostLoop.idx0)
        (HloOp.result _ (atTrip condOps0 bodyI0 W₀ k c) main_while0c_c_28 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-! ## The loop of layer 1 -/

/-- The condition region's two operations: the bound, and the trip counter compared with it. -/
abbrev condOps1 : List (HloOp τ sig (Elt F)) :=
  [ StableHlo.nullary main_while1c_c_28 (constantI S_ 32 256#32),
    StableHlo.binary main_v85_5 main_while1c_c_28 main_while1c_v94 (cmpi .slt) ]
abbrev condOps1_W : List (Ref sig .tc) := [main_while1c_c_28, main_while1c_v94]
theorem condOps1_writes : (condOps1 : List (HloOp τ sig (Elt F))).Forall fun op => op.writes ⊆ (condOps1_W.map (Proc.devRef (τ := τ) .tc)).toFinset :=
  StableHlo.forall_writes_sub_of_map rfl

/-- The loop body's stretches. -/
abbrev bodyI1 : List (List (HloOp τ sig (Elt F))) := [while1Ops0, while1Ops0_1, while1Ops0_2, while1Ops0_3]
theorem hbodyI1 : Plain (bodyI1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) .nil)))

/-- The counter after one trip, from any contents. -/
theorem ctr_trip1 (X : Valuation τ sig (Elt F)) :
    afterL bodyI1 (after condOps1 X) (Proc.devRef .tc main_v85_5) = addi (X (Proc.devRef .tc main_v85_5)) (constantI S_ 32 1#32) := by
  have h (Y : Valuation τ sig (Elt F)) : after while1Ops0_3 Y (Proc.devRef .tc main_v85_5) = addi (Y (Proc.devRef .tc main_v85_5)) (constantI S_ 32 1#32) := by
    after_results
    rfl
  simp only [afterL_cons, afterL_nil]
  rw [h, after_of_writes_sub while1Ops0_2 _ while1Ops0_2_writes (by decide +kernel), after_of_writes_sub while1Ops0_1 _ while1Ops0_1_writes (by decide +kernel),
    after_of_writes_sub while1Ops0 _ while1Ops0_writes (by decide +kernel), after_of_writes_sub condOps1 _ condOps1_writes (by decide +kernel)]

/-- Before the `k`-th condition the counter reads `k`, when it reads 0 at the entry. -/
theorem ctr_at1 (W₀ : Dev nD → Valuation τ sig (Elt F)) (c : Dev nD) (h0 : W₀ c (Proc.devRef .tc main_v85_5) = fun _ => (0#32 : BitVec 32)) :
    ∀ k, atTrip condOps1 bodyI1 W₀ k c (Proc.devRef .tc main_v85_5) = fun _ => Scf.iv 0#32 1#32 k
  | 0 => by rw [atTrip_zero, h0, Scf.iv_zero]
  | k + 1 => by
    rw [atTrip_succ, ctr_trip1, ctr_at1 W₀ c h0 k, Scf.iv_succ]
    rfl

set_option backward.isDefEq.respectTransparency.types false in
/-- The condition runs the body 256 times, from any entry whose counter reads 0. -/
theorem cond_spec1 (W₀ : Dev nD → Valuation τ sig (Elt F)) (h0 : ∀ c, W₀ c (Proc.devRef .tc main_v85_5) = fun _ => (0#32 : BitVec 32)) :
    CondSpec (pcfgs (F := F)) defs₀ loops (main_while1_cond (F := F)) condOps1 bodyI1 W₀ 256 := by
  intro k hk c bd
  have hctr := ctr_at1 W₀ c (h0 c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 bodyI1 W₀ k c) main_v85_5 HostLoop.idx0)
        (HloOp.result _ (atTrip condOps1 bodyI1 W₀ k c) main_while1c_c_28 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-! ## The stretches outside the loops -/

abbrev preI : List (List (HloOp τ sig (Elt F))) := [hostOps0, hostOps0_1, hostOps0_2, hostOps0_3, hostOps0_4, hostOps0_5, hostOps0_6, hostOps0_7, hostOps0_8, hostOps0_9, hostOps0_10]
abbrev midI : List (List (HloOp τ sig (Elt F))) := [hostOps0_11]
abbrev postI : List (List (HloOp τ sig (Elt F))) := [hostOps0_12]
theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.nil)))))))))))
theorem hmid : Plain (midI (F := F)) := .cons hostOps0_11_sub (hf := List.forall_iff_forall_mem.mp hostOps0_11_fresh) (.nil)
theorem hpost : Plain (postI (F := F)) := .cons hostOps0_12_sub (hf := List.forall_iff_forall_mem.mp hostOps0_12_fresh) (.nil)

variable (m : (ℓ : Loc nD τ sig) → Buf (Elt F) ℓ) (ρ : Dev nD → PrngReg)

/-- The buffers where the first loop starts, after it, where the second starts, after it, and at the end. -/
abbrev entry0 (c : Dev nD) : Valuation τ sig (Elt F) := afterL preI (launchContents m c)
abbrev exit0 (c : Dev nD) : Valuation τ sig (Elt F) := after condOps0 (atTrip condOps0 bodyI0 (entry0 m) 256 c)
abbrev entry1 (c : Dev nD) : Valuation τ sig (Elt F) := afterL midI (exit0 m c)
abbrev exit1 (c : Dev nD) : Valuation τ sig (Elt F) := after condOps1 (atTrip condOps1 bodyI1 (entry1 m) 256 c)
abbrev endContents (c : Dev nD) : Valuation τ sig (Elt F) := afterL postI (exit1 m c)

theorem ctr_entry0 (c : Dev nD) : entry0 m c (Proc.devRef .tc main_v79_5) = fun _ => (0#32 : BitVec 32) := by
  simp only [entry0, afterL_cons, afterL_nil]
  after_reads_simp
  rfl

theorem ctr_entry1 (c : Dev nD) : entry1 m c (Proc.devRef .tc main_v85_5) = fun _ => (0#32 : BitVec 32) := by
  simp only [entry1, afterL_cons, afterL_nil]
  after_results
  rfl

/-! ## The arguments are written by nothing -/

abbrev argRefs : List (Ref sig .tc) := [main_arg0, main_arg1, main_arg2, main_arg3, main_arg4, main_arg5, main_arg6, main_arg7, main_arg8, main_arg9, main_arg10, main_arg11, main_arg12, main_arg13, main_arg14]

theorem keep_mem {W : List (Ref sig .tc)} {b : Ref sig .tc} (hb : b ∈ argRefs) (h : ∀ r ∈ argRefs, r ∉ W) : b ∉ W := h b hb

theorem entry0_arg (c : Dev nD) {b : Ref sig .tc} (hb : b ∈ argRefs) : entry0 m c (Proc.devRef .tc b) = m ((c.tc : Thread nD τ).loc b) := by
  simp only [entry0, afterL_cons, afterL_nil]
  rw [after_of_writes_sub hostOps0_10 _ hostOps0_10_writes (keep_mem hb (by decide +kernel)), after_of_writes_sub hostOps0_9 _ hostOps0_9_writes (keep_mem hb (by decide +kernel)), after_of_writes_sub hostOps0_8 _ hostOps0_8_writes (keep_mem hb (by decide +kernel)), after_of_writes_sub hostOps0_7 _ hostOps0_7_writes (keep_mem hb (by decide +kernel)), after_of_writes_sub hostOps0_6 _ hostOps0_6_writes (keep_mem hb (by decide +kernel)), after_of_writes_sub hostOps0_5 _ hostOps0_5_writes (keep_mem hb (by decide +kernel)), after_of_writes_sub hostOps0_4 _ hostOps0_4_writes (keep_mem hb (by decide +kernel)), after_of_writes_sub hostOps0_3 _ hostOps0_3_writes (keep_mem hb (by decide +kernel)), after_of_writes_sub hostOps0_2 _ hostOps0_2_writes (keep_mem hb (by decide +kernel)), after_of_writes_sub hostOps0_1 _ hostOps0_1_writes (keep_mem hb (by decide +kernel)), after_of_writes_sub hostOps0 _ hostOps0_writes (keep_mem hb (by decide +kernel))]

theorem atTrip0_arg (W₀ : Dev nD → Valuation τ sig (Elt F)) (c : Dev nD) {b : Ref sig .tc} (hb : b ∈ argRefs) :
    ∀ k, atTrip condOps0 bodyI0 W₀ k c (Proc.devRef .tc b) = W₀ c (Proc.devRef .tc b)
  | 0 => rfl
  | k + 1 => by
    rw [atTrip_succ]
    simp only [afterL_cons, afterL_nil]
    rw [after_of_writes_sub while0Ops0_3 _ while0Ops0_3_writes (keep_mem hb (by decide +kernel)), after_of_writes_sub while0Ops0_2 _ while0Ops0_2_writes (keep_mem hb (by decide +kernel)), after_of_writes_sub while0Ops0_1 _ while0Ops0_1_writes (keep_mem hb (by decide +kernel)), after_of_writes_sub while0Ops0 _ while0Ops0_writes (keep_mem hb (by decide +kernel)), after_of_writes_sub condOps0 _ condOps0_writes (keep_mem hb (by decide +kernel)), atTrip0_arg W₀ c hb k]

theorem atTrip1_arg (W₀ : Dev nD → Valuation τ sig (Elt F)) (c : Dev nD) {b : Ref sig .tc} (hb : b ∈ argRefs) :
    ∀ k, atTrip condOps1 bodyI1 W₀ k c (Proc.devRef .tc b) = W₀ c (Proc.devRef .tc b)
  | 0 => rfl
  | k + 1 => by
    rw [atTrip_succ]
    simp only [afterL_cons, afterL_nil]
    rw [after_of_writes_sub while1Ops0_3 _ while1Ops0_3_writes (keep_mem hb (by decide +kernel)), after_of_writes_sub while1Ops0_2 _ while1Ops0_2_writes (keep_mem hb (by decide +kernel)), after_of_writes_sub while1Ops0_1 _ while1Ops0_1_writes (keep_mem hb (by decide +kernel)), after_of_writes_sub while1Ops0 _ while1Ops0_writes (keep_mem hb (by decide +kernel)), after_of_writes_sub condOps1 _ condOps1_writes (keep_mem hb (by decide +kernel)), atTrip1_arg W₀ c hb k]

theorem entry1_arg (c : Dev nD) {b : Ref sig .tc} (hb : b ∈ argRefs) : entry1 m c (Proc.devRef .tc b) = m ((c.tc : Thread nD τ).loc b) := by
  simp only [entry1, exit0, afterL_cons, afterL_nil]
  rw [after_of_writes_sub hostOps0_11 _ hostOps0_11_writes (keep_mem hb (by decide +kernel)), after_of_writes_sub condOps0 _ condOps0_writes (keep_mem hb (by decide +kernel)), atTrip0_arg _ c hb, entry0_arg m c hb]

theorem exit1_arg (c : Dev nD) {b : Ref sig .tc} (hb : b ∈ argRefs) : exit1 m c (Proc.devRef .tc b) = m ((c.tc : Thread nD τ).loc b) := by
  simp only [exit1]
  rw [after_of_writes_sub condOps1 _ condOps1_writes (keep_mem hb (by decide +kernel)), atTrip1_arg _ c hb, entry1_arg m c hb]

theorem end_arg (c : Dev nD) {b : Ref sig .tc} (hb : b ∈ argRefs) : endContents m c (Proc.devRef .tc b) = m ((c.tc : Thread nD τ).loc b) := by
  simp only [endContents, afterL_cons, afterL_nil]
  rw [after_of_writes_sub hostOps0_12 _ hostOps0_12_writes (keep_mem hb (by decide +kernel)), exit1_arg m c hb]

/-! ## The run -/

local notation "𝕄" => MT nD τ sig Unit (Elt F) ℕ (Option PUnit) ℕ

/-- No pipeline: nothing admitted, no ticket, no level. -/
abbrev adm0 : (p : Fin 0) → (pcfgs (F := F) p).Adm := fun p => p.elim0
abbrev tk0 : Fin 0 → Ticket (Ix := Unit) (Name := ℕ) (U := Option PUnit) (Lvl := ℕ) (nD := nD) (τ := τ) (pcfgs (F := F)) adm0 := fun j => j.elim0
abbrev L0 : GSem nD τ sig → Finset Unit := fun _ => ∅
abbrev lv0 : GSem nD τ sig → Unit → ℕ := fun _ _ => 0

theorem cells_inj : Function.Injective (Pipeline.cellOf (nD := nD) (τ := τ) (Pipeline.pin (pcfgs (F := F)) adm0)) := fun k => k.1.elim0

/-- What rides beside the buffers. -/
abbrev Ro (c : Dev nD) : sProp 𝕄 := iprop(∃ W, owes (c : Thread nD τ) (0 : CellTallies nD τ sig Unit) W)

/-- A condition's specification with what rides beside the buffers carried through. -/
theorem loopCond_of {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Ro cond condOps bodyI W₀ n := fun k hk c bd => by
  refine BIBase.Entails.trans (Q := iprop(iprop(boundary (c : Thread nD τ) ∗ held (c : Thread nD τ) (ucRefs τ sig) (atTrip condOps bodyI W₀ k c)) ∗ Ro c)) ?_
    (((sep_mono_left (hcond k hk c bd)).trans (wp_frame_r _ _ _)).trans (wp_mono _ _ _ fun v => ?_))
  · iintro ⟨H1, H2, H3⟩
    isplitl [H1 H2]
    · isplitl [H1] <;> iassumption
    iexact H3
  · iintro ⟨⟨%hv, H1, H2⟩, H3⟩
    isplitr; · ipureintro; exact hv
    isplitl [H1]; · iexact H1
    isplitl [H2] <;> iassumption

/-- `main`'s segments. -/
def runSegs : List (CSeg (pcfgs (F := F)) adm0 defs₀ Variants.none L0 lv0 loops tk0) :=
  segsOf _ _ _ _ _ _ _ _ Ro preI hpre (launchContents m)
    ++ loopSeg _ _ _ _ _ _ _ _ 0 main_while0_cond main_while0_body rfl condOps0 bodyI0 hbodyI0 (by rw [while0_body_chain]; rfl) 256 (entry0 m) Ro (loopCond_of (cond_spec0 _ (ctr_entry0 m)))
      :: (segsOf _ _ _ _ _ _ _ _ Ro midI hmid (exit0 m)
        ++ loopSeg _ _ _ _ _ _ _ _ 1 main_while1_cond main_while1_body rfl condOps1 bodyI1 hbodyI1 (by rw [while1_body_chain]; rfl) 256 (entry1 m) Ro (loopCond_of (cond_spec1 _ (ctr_entry1 m)))
          :: segsOf _ _ _ _ _ _ _ _ Ro postI hpost (exit1 m))

theorem runSegs_prog : (runSegs m).map CSeg.prog
    = (preI.map fun ops => (seq ops : Prog (TpuEff nD τ sig (Elt F) (HostLoop.Sig (Pipeline.Sig Λ₀ (Fin 0) fun p => (pcfgs (F := F) p).Adm) 2) .tc) PUnit))
      ++ HostLoop.enter 0 :: ((midI.map fun ops => (seq ops : Prog _ PUnit)) ++ HostLoop.enter 1 :: postI.map fun ops => (seq ops : Prog _ PUnit)) := by
  unfold runSegs
  rw [List.map_append, List.map_cons, List.map_append, List.map_cons, segsOf_prog, segsOf_prog, segsOf_prog]
  rfl

theorem runSegs_chains : CSeg.Chains (fun c => iprop(held (c : Thread nD τ) (ucRefs τ sig) (launchContents m c) ∗ Ro c)) (runSegs m)
    (fun c => iprop(iprop(held (c : Thread nD τ) (ucRefs τ sig) (endContents m c)) ∗ ∃ W, owes (c : Thread nD τ) (0 : CellTallies nD τ sig Unit) W)) := by
  unfold runSegs
  exact CSeg.Chains.append (segsOf_chains _ _ _ _ _ _ _ _ Ro preI hpre _) ⟨fun _ => .rfl,
    CSeg.Chains.append (segsOf_chains _ _ _ _ _ _ _ _ Ro midI hmid _) ⟨fun _ => .rfl, segsOf_chains _ _ _ _ _ _ _ _ Ro postI hpost _⟩⟩

theorem no_unscoped : ∀ sm : SemLoc sig, sm.isScoped .tc = true := by decide

set_option maxRecDepth 100000 in
/-- Every fair execution terminates with every buffer of the program at the fold and every counter at zero. -/
theorem run_fold [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = endContents m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm0 cells_inj defs₀ Variants.none L0 lv0 loops tk0 m ρ main (runSegs m)
    (fun c Q => by
      rw [main_chain]
      show wp _ _ _ (Pipeline.chain ((runSegs m).map CSeg.prog)) Q ⊢ _
      rw [runSegs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ro c))
    (Tₙ := fun c => iprop(held (c : Thread nD τ) (ucRefs τ sig) (endContents m c)))
    (hch := runSegs_chains m)
    (hinit := by
      refine Pipeline.initEach L0 lv0 fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endContents m c b)
    (hfin := fun c s' => by
      unfold held
      iintro ⟨Hh, HSI⟩
      ihave Hr := (pointsTo_read_all (ucRefs τ sig) (fun b => ((c : Dev nD), b)) (fun b => endContents m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => hs g (.inr (no_unscoped g.2))⟩)

/-- The arguments end as launched and every counter at zero. -/
theorem frame [∀ e, Nonempty (Elt F e)] : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨(h.1 c main_arg0 (by decide)).trans (end_arg m c (by decide)),
      (h.1 c main_arg1 (by decide)).trans (end_arg m c (by decide)),
      (h.1 c main_arg2 (by decide)).trans (end_arg m c (by decide)),
      (h.1 c main_arg3 (by decide)).trans (end_arg m c (by decide)),
      (h.1 c main_arg4 (by decide)).trans (end_arg m c (by decide)),
      (h.1 c main_arg5 (by decide)).trans (end_arg m c (by decide)),
      (h.1 c main_arg6 (by decide)).trans (end_arg m c (by decide)),
      (h.1 c main_arg7 (by decide)).trans (end_arg m c (by decide)),
      (h.1 c main_arg8 (by decide)).trans (end_arg m c (by decide)),
      (h.1 c main_arg9 (by decide)).trans (end_arg m c (by decide)),
      (h.1 c main_arg10 (by decide)).trans (end_arg m c (by decide)),
      (h.1 c main_arg11 (by decide)).trans (end_arg m c (by decide)),
      (h.1 c main_arg12 (by decide)).trans (end_arg m c (by decide)),
      (h.1 c main_arg13 (by decide)).trans (end_arg m c (by decide)),
      (h.1 c main_arg14 (by decide)).trans (end_arg m c (by decide))⟩, h.2⟩) (run_fold m ρ)

end Cert.ReferenceIdeal.Hand

end
-- ==== Proof.KHost.lean ====
module
public import proofs.«01_k».proof.Proof.KerIRun
public import Idealize.ShloMosaic.PureOps.Ideal
public import Idealize.ShloMosaic.Lib.Pointwise
public import Idealize.ShloMosaic.Lib.StableHlo.ReadAt
public import Idealize.ShloMosaic.Lib.Routing.OpsSet
public import Idealize.ShloMosaic.Lib.Routing.OpsPair

/-!
What the kernel's host operations prepare for its two calls, read at an index.
-/

@[expose] public section
noncomputable section
namespace Cert.KernelIdeal.Hand
open Cert.KernelIdeal Cert.KernelIdeal.Gen
open Idealize.ShloMosaic Idealize.ShloMosaic.TcCoe Idealize.ShloMosaic.StableHlo Idealize.ShloMosaic.Pointwise

/-! ## The block-diagonal first-layer weights -/

/-- A pair of start numbers. -/
def st (a b : BitVec 32) : IVec S2 32 := concatenate S2 0 [⟨S1, broadcastInDim S1 ![] bcast_S_S1 (constantI S_ 32 a)⟩, ⟨S1, broadcastInDim S1 ![] bcast_S_S1 (constantI S_ 32 b)⟩] concatenates_S1_S1_S2_d0
/-- One head's weights, turned: head 0, … -/
def up0 (w : FVec Ideal S4x64x2 .f32) : FVec Ideal S2x64 .f32 := transpose S2x64 [1, 0] (shapeCast S64x2 (extractStridedSlice S1x64x2 ![0, 0, 0] w slices_S4x64x2_S1x64x2_0_0_0) shapeCasts_S1x64x2_S64x2) transposes_S64x2_S2x64_1_0
/-- … head 1, … -/
def up1 (w : FVec Ideal S4x64x2 .f32) : FVec Ideal S2x64 .f32 := transpose S2x64 [1, 0] (shapeCast S64x2 (extractStridedSlice S1x64x2 ![1, 0, 0] w slices_S4x64x2_S1x64x2_1_0_0) shapeCasts_S1x64x2_S64x2) transposes_S64x2_S2x64_1_0
/-- … head 2, … -/
def up2 (w : FVec Ideal S4x64x2 .f32) : FVec Ideal S2x64 .f32 := transpose S2x64 [1, 0] (shapeCast S64x2 (extractStridedSlice S1x64x2 ![2, 0, 0] w slices_S4x64x2_S1x64x2_2_0_0) shapeCasts_S1x64x2_S64x2) transposes_S64x2_S2x64_1_0
/-- … and head 3. -/
def up3 (w : FVec Ideal S4x64x2 .f32) : FVec Ideal S2x64 .f32 := transpose S2x64 [1, 0] (shapeCast S64x2 (extractStridedSlice S1x64x2 ![3, 0, 0] w slices_S4x64x2_S1x64x2_3_0_0) shapeCasts_S1x64x2_S64x2) transposes_S64x2_S2x64_1_0
/-- A block written at a start. -/
def sc (x : FVec Ideal S8x256 .f32) (i : IVec S2 32) (u : FVec Ideal S2x64 .f32) : FVec Ideal S8x256 .f32 := Host.scatter scatter_S8x256_S2_S2x64_01_n_01_0 (fun _ b => b) x i u
/-- The zeros the blocks are written over. -/
def zer : FVec Ideal S8x256 .f32 := broadcastInDim S8x256 ![] bcast_S_S8x256 (constant S_ .f32 0x00000000#32)
/-- The four blocks on the diagonal. -/
def w1bd (w : FVec Ideal S4x64x2 .f32) : FVec Ideal S8x256 .f32 :=
  sc (sc (sc (sc zer (st 0#32 0#32) (up0 w)) (st 2#32 64#32) (up1 w)) (st 4#32 128#32) (up2 w)) (st 6#32 192#32) (up3 w)

theorem up0_at (w) (c : Fin 2) (d : Fin 64) : up0 w (ix2 c d) = w (ix3 0 d c) := by
  unfold up0
  pointwise
theorem up1_at (w) (c : Fin 2) (d : Fin 64) : up1 w (ix2 c d) = w (ix3 1 d c) := by
  unfold up1
  pointwise
theorem up2_at (w) (c : Fin 2) (d : Fin 64) : up2 w (ix2 c d) = w (ix3 2 d c) := by
  unfold up2
  pointwise
theorem up3_at (w) (c : Fin 2) (d : Fin 64) : up3 w (ix2 c d) = w (ix3 3 d c) := by
  unfold up3
  pointwise
theorem zer_at (r : Fin 8) (c : Fin 256) : zer (ix2 r c) = (0 : EReal) := by
  unfold zer
  pointwise

theorem lands_iff (a b : BitVec 32) (k : Fin 2) (l : Fin 64) (r : Fin 8) (c : Fin 256) :
    scatter_S8x256_S2_S2x64_01_n_01_0.resultIdx? (ix2 k l) (st a b) = some (ix2 r c) ↔ a.toInt + (k.1 : ℤ) = (r.1 : ℤ) ∧ b.toInt + (l.1 : ℤ) = (c.1 : ℤ) :=
  Routing.resultIdx?_ix2 scatter_S8x256_S2_S2x64_01_n_01_0 (ix2 k l) (st a b) r c

theorem sc_hit (x u) (a b : BitVec 32) (k : Fin 2) (l : Fin 64) (r : Fin 8) (c : Fin 256) (h1 : a.toInt + (k.1 : ℤ) = (r.1 : ℤ)) (h2 : b.toInt + (l.1 : ℤ) = (c.1 : ℤ)) :
    sc x (st a b) u (ix2 r c) = u (ix2 k l) := by
  refine Routing.scatter_set_hit scatter_S8x256_S2_S2x64_01_n_01_0 x (st a b) u (ix2 r c) _ (fun i hi => ?_) (ix2 k l) ((lands_iff a b k l r c).2 ⟨h1, h2⟩)
  obtain ⟨k', l', rfl⟩ : ∃ (k' : Fin 2) (l' : Fin 64), i = ix2 k' l' := ⟨i 0, i 1, eq_ix2 i⟩
  obtain ⟨g1, g2⟩ := (lands_iff a b k' l' r c).1 hi
  have e1 : k' = k := Fin.ext (by omega)
  have e2 : l' = l := Fin.ext (by omega)
  rw [e1, e2]
theorem sc_miss (x u) (a b : BitVec 32) (r : Fin 8) (c : Fin 256) (h : ∀ (k : Fin 2) (l : Fin 64), ¬(a.toInt + (k.1 : ℤ) = (r.1 : ℤ) ∧ b.toInt + (l.1 : ℤ) = (c.1 : ℤ))) :
    sc x (st a b) u (ix2 r c) = x (ix2 r c) := by
  refine Routing.scatter_set_miss scatter_S8x256_S2_S2x64_01_n_01_0 x (st a b) u (ix2 r c) (fun i hi => ?_)
  obtain ⟨k', l', rfl⟩ : ∃ (k' : Fin 2) (l' : Fin 64), i = ix2 k' l' := ⟨i 0, i 1, eq_ix2 i⟩
  exact h k' l' ((lands_iff a b k' l' r c).1 hi)

theorem w1bd_at (w) (h h' : Fin 4) (c : Fin 2) (d : Fin 64) :
    w1bd w (ix2 ⟨h.1 * 2 + c.1, by omega⟩ ⟨h'.1 * 64 + d.1, by omega⟩) = if h = h' then w (ix3 h d c) else (0 : EReal) := by
  have t0 : (0#32 : BitVec 32).toInt = 0 := by decide
  have t2 : (2#32 : BitVec 32).toInt = 2 := by decide
  have t4 : (4#32 : BitVec 32).toInt = 4 := by decide
  have t6 : (6#32 : BitVec 32).toInt = 6 := by decide
  have t64 : (64#32 : BitVec 32).toInt = 64 := by decide
  have t128 : (128#32 : BitVec 32).toInt = 128 := by decide
  have t192 : (192#32 : BitVec 32).toInt = 192 := by decide
  have hc := c.2
  have hd := d.2
  unfold w1bd
  by_cases e : h = h'
  · subst e
    rw [if_pos rfl]
    match h with
    | 3 => rw [sc_hit _ _ _ _ c d _ _ (by rw [t6]; show _ = ((3 * 2 + c.1 : ℕ) : ℤ); omega) (by rw [t192]; show _ = ((3 * 64 + d.1 : ℕ) : ℤ); omega), up3_at]
    | 2 => rw [sc_miss _ _ _ _ _ _ (by rintro k l ⟨h1, h2⟩; rw [t6] at h1; replace h1 : _ = ((2 * 2 + c.1 : ℕ) : ℤ) := h1; omega),
        sc_hit _ _ _ _ c d _ _ (by rw [t4]; show _ = ((2 * 2 + c.1 : ℕ) : ℤ); omega) (by rw [t128]; show _ = ((2 * 64 + d.1 : ℕ) : ℤ); omega), up2_at]
    | 1 => rw [sc_miss _ _ _ _ _ _ (by rintro k l ⟨h1, h2⟩; rw [t6] at h1; replace h1 : _ = ((1 * 2 + c.1 : ℕ) : ℤ) := h1; omega),
        sc_miss _ _ _ _ _ _ (by rintro k l ⟨h1, h2⟩; rw [t4] at h1; replace h1 : _ = ((1 * 2 + c.1 : ℕ) : ℤ) := h1; omega),
        sc_hit _ _ _ _ c d _ _ (by rw [t2]; show _ = ((1 * 2 + c.1 : ℕ) : ℤ); omega) (by rw [t64]; show _ = ((1 * 64 + d.1 : ℕ) : ℤ); omega), up1_at]
    | 0 => rw [sc_miss _ _ _ _ _ _ (by rintro k l ⟨h1, h2⟩; rw [t6] at h1; replace h1 : _ = ((0 * 2 + c.1 : ℕ) : ℤ) := h1; omega),
        sc_miss _ _ _ _ _ _ (by rintro k l ⟨h1, h2⟩; rw [t4] at h1; replace h1 : _ = ((0 * 2 + c.1 : ℕ) : ℤ) := h1; omega),
        sc_miss _ _ _ _ _ _ (by rintro k l ⟨h1, h2⟩; rw [t2] at h1; replace h1 : _ = ((0 * 2 + c.1 : ℕ) : ℤ) := h1; omega),
        sc_hit _ _ _ _ c d _ _ (by rw [t0]; show _ = ((0 * 2 + c.1 : ℕ) : ℤ); omega) (by rw [t0]; show _ = ((0 * 64 + d.1 : ℕ) : ℤ); omega), up0_at]
  · have e' : h.1 ≠ h'.1 := fun q => e (Fin.ext q)
    rw [if_neg e]
    have m6 : ∀ (k : Fin 2) (l : Fin 64), ¬((6#32 : BitVec 32).toInt + (k.1 : ℤ) = ((h.1 * 2 + c.1 : ℕ) : ℤ) ∧ (192#32 : BitVec 32).toInt + (l.1 : ℤ) = ((h'.1 * 64 + d.1 : ℕ) : ℤ)) := by
      rintro k l ⟨h1, h2⟩; rw [t6] at h1; rw [t192] at h2; omega
    have m4 : ∀ (k : Fin 2) (l : Fin 64), ¬((4#32 : BitVec 32).toInt + (k.1 : ℤ) = ((h.1 * 2 + c.1 : ℕ) : ℤ) ∧ (128#32 : BitVec 32).toInt + (l.1 : ℤ) = ((h'.1 * 64 + d.1 : ℕ) : ℤ)) := by
      rintro k l ⟨h1, h2⟩; rw [t4] at h1; rw [t128] at h2; omega
    have m2 : ∀ (k : Fin 2) (l : Fin 64), ¬((2#32 : BitVec 32).toInt + (k.1 : ℤ) = ((h.1 * 2 + c.1 : ℕ) : ℤ) ∧ (64#32 : BitVec 32).toInt + (l.1 : ℤ) = ((h'.1 * 64 + d.1 : ℕ) : ℤ)) := by
      rintro k l ⟨h1, h2⟩; rw [t2] at h1; rw [t64] at h2; omega
    have m0 : ∀ (k : Fin 2) (l : Fin 64), ¬((0#32 : BitVec 32).toInt + (k.1 : ℤ) = ((h.1 * 2 + c.1 : ℕ) : ℤ) ∧ (0#32 : BitVec 32).toInt + (l.1 : ℤ) = ((h'.1 * 64 + d.1 : ℕ) : ℤ)) := by
      rintro k l ⟨h1, h2⟩; rw [t0] at h1 h2; omega
    rw [sc_miss _ _ _ _ _ _ m6, sc_miss _ _ _ _ _ _ m4, sc_miss _ _ _ _ _ _ m2, sc_miss _ _ _ _ _ _ m0, zer_at]

/-! ## The second-layer weights with their two attention columns -/

/-- The weights, turned. -/
def wt2 (w : FVec Ideal S128x256 .f32) : FVec Ideal S256x128 .f32 := transpose S256x128 [1, 0] w transposes_S128x256_S256x128_1_0
/-- A column: the turned weights against half the attention vector. -/
def wcol (w : FVec Ideal S256x128 .f32) (a : FVec Ideal S128 .f32) : FVec Ideal S256x1 .f32 :=
  broadcastInDim S256x1 ![0] bcast_S256_S256x1_0 (Host.dotGeneral dot_S256x128_S128_S256_1_0_0_n_n_n none w a)
/-- The attention vector's first half, … -/
def alo (a : FVec Ideal S1x256 .f32) : FVec Ideal S128 .f32 := shapeCast S128 (extractStridedSlice S1x128 ![0, 0] a slices_S1x256_S1x128_0_0) shapeCasts_S1x128_S128
/-- … and its second. -/
def ahi (a : FVec Ideal S1x256 .f32) : FVec Ideal S128 .f32 := shapeCast S128 (extractStridedSlice S1x128 ![0, 128] a slices_S1x256_S1x128_0_128) shapeCasts_S1x128_S128
/-- The three side by side. -/
def wc (w : FVec Ideal S256x128 .f32) (p q : FVec Ideal S256x1 .f32) : FVec Ideal S256x130 .f32 :=
  concatenate S256x130 1 [⟨S256x128, w⟩, ⟨S256x1, p⟩, ⟨S256x1, q⟩] concatenates_S256x128_S256x1_S256x1_S256x130_d1

theorem wt2_at (w) (j : Fin 256) (o : Fin 128) : wt2 w (ix2 j o) = w (ix2 o j) := by
  unfold wt2
  pointwise
theorem wcol_at (w a) (j : Fin 256) : wcol w a (ix2 j 0) = ∑ o : Fin 128, w (ix2 j o) * a (ix1 o) := by
  unfold wcol
  pointwise
theorem alo_at (a) (o : Fin 128) : alo a (ix1 o) = a (ix2 0 ⟨o.1, by omega⟩) := by
  unfold alo
  pointwise
theorem ahi_at (a) (o : Fin 128) : ahi a (ix1 o) = a (ix2 0 ⟨128 + o.1, by omega⟩) := by
  unfold ahi
  pointwise
theorem wc_at0 (w p q) (j : Fin 256) (o : Fin 128) : wc w p q (ix2 j ⟨o.1, by omega⟩) = w (ix2 j o) := by
  unfold wc
  pointwise
theorem wc_at1 (w p q) (j : Fin 256) : wc w p q (ix2 j 128) = p (ix2 j 0) := by
  unfold wc
  pointwise
theorem wc_at2 (w p q) (j : Fin 256) : wc w p q (ix2 j 129) = q (ix2 j 0) := by
  unfold wc
  pointwise

/-! ## The stretches -/

section
variable (W : Valuation τ sig (Elt Ideal))

theorem v2_at (n : Fin 12800) (k : Fin 51) (x : Fin 3) : (show EReal from (after hostOps0 W (Proc.devRef .tc main_v2) : FVec Ideal S12800x51x3 .f32) (ix3 n k x))
    = if h : x.1 < 2 then (show EReal from (W (Proc.devRef .tc main_arg0) : FVec Ideal S256x50x51x2 .f32) (ix4 ⟨n.1 / 50, by omega⟩ ⟨n.1 % 50, by omega⟩ k ⟨x.1, h⟩)) else 1 := by
  show _ = _
  unfold hostOps0
  after_reads_at
theorem v3_at (n : Fin 12800) (x : Fin 2) (k : Fin 51) : (show EReal from (after hostOps0 W (Proc.devRef .tc main_v3) : FVec Ideal S12800x2x51 .f32) (ix3 n x k))
    = (W (Proc.devRef .tc main_arg0) : FVec Ideal S256x50x51x2 .f32) (ix4 ⟨n.1 / 50, by omega⟩ ⟨n.1 % 50, by omega⟩ k x) := by
  show _ = _
  unfold hostOps0
  after_reads_at
theorem v10_at (h : Fin 4) (x : Fin 4) : (show EReal from (after hostOps0 W (Proc.devRef .tc main_v10) : FVec Ideal S4x4 .f32) (ix2 h x))
    = if hx : x.1 < 2 then ∑ d : Fin 64, (show EReal from (W (Proc.devRef .tc main_arg1) : FVec Ideal S4x64x2 .f32) (ix3 h d ⟨x.1, hx⟩)) * (show EReal from (W (Proc.devRef .tc main_arg2) : FVec Ideal S4x1x128 .f32) (ix3 h 0 ⟨d.1, by omega⟩))
      else ∑ d : Fin 64, (show EReal from (W (Proc.devRef .tc main_arg1) : FVec Ideal S4x64x2 .f32) (ix3 h d ⟨x.1 - 2, by omega⟩)) * (show EReal from (W (Proc.devRef .tc main_arg2) : FVec Ideal S4x1x128 .f32) (ix3 h 0 ⟨64 + d.1, by omega⟩)) := by
  show _ = _
  unfold hostOps0
  after_reads_at
theorem v39_eq : (after hostOps0 W (Proc.devRef .tc main_v39) : FVec Ideal S8x256 .f32) = w1bd (W (Proc.devRef .tc main_arg1)) := by
  unfold hostOps0
  after_reads_simp
  rfl
theorem v49_eq : (after hostOps0 W (Proc.devRef .tc main_v49) : FVec Ideal S256x130 .f32)
    = wc (wt2 (W (Proc.devRef .tc main_arg3))) (wcol (wt2 (W (Proc.devRef .tc main_arg3))) (alo (W (Proc.devRef .tc main_arg4)))) (wcol (wt2 (W (Proc.devRef .tc main_arg3))) (ahi (W (Proc.devRef .tc main_arg4)))) := by
  unfold hostOps0
  after_reads_simp
  rfl

theorem v51_at (s : Fin 256) (b : Fin 50) (k : Fin 51) : (show EReal from (after hostOps1 W (Proc.devRef .tc main_v51) : FVec Ideal S256x50x51 .f32) (ix3 s b k))
    = (W (Proc.devRef .tc main_v50) : FVec Ideal S12800x51 .f32) (ix2 ⟨s.1 * 50 + b.1, by omega⟩ k) := by
  show _ = _
  unfold hostOps1
  after_reads_at
theorem v58_at (c : Fin 51) (j : Fin 128) : (show EReal from (after hostOps1 W (Proc.devRef .tc main_v58) : FVec Ideal S51x128 .f32) (ix2 c j)) = (W (Proc.devRef .tc main_arg5) : FVec Ideal S128x51 .f32) (ix2 j c) := by
  show _ = _
  unfold hostOps1
  after_reads_at
theorem v59_at (c : Fin 32) (j : Fin 128) : (show EReal from (after hostOps1 W (Proc.devRef .tc main_v59) : FVec Ideal S32x128 .f32) (ix2 c j)) = (W (Proc.devRef .tc main_arg6) : FVec Ideal S128x32 .f32) (ix2 j c) := by
  show _ = _
  unfold hostOps1
  after_reads_at
theorem v60_at (c : Fin 32) (j : Fin 128) : (show EReal from (after hostOps1 W (Proc.devRef .tc main_v60) : FVec Ideal S32x128 .f32) (ix2 c j)) = (W (Proc.devRef .tc main_arg9) : FVec Ideal S128x32 .f32) (ix2 j c) := by
  show _ = _
  unfold hostOps1
  after_reads_at
theorem v61_at (c : Fin 32) (j : Fin 128) : (show EReal from (after hostOps1 W (Proc.devRef .tc main_v61) : FVec Ideal S32x128 .f32) (ix2 c j)) = (W (Proc.devRef .tc main_arg10) : FVec Ideal S128x32 .f32) (ix2 j c) := by
  show _ = _
  unfold hostOps1
  after_reads_at
theorem v53_at (j : Fin 128) : (show EReal from (after hostOps1 W (Proc.devRef .tc main_v53) : FVec Ideal S1x128 .f32) (ix2 0 j))
    = (show EReal from (W (Proc.devRef .tc main_arg7) : FVec Ideal S128 .f32) (ix1 j)) + (show EReal from (W (Proc.devRef .tc main_arg8) : FVec Ideal S128 .f32) (ix1 j)) := by
  show _ = _
  unfold hostOps1
  after_reads_at
theorem v55_at (j : Fin 128) : (show EReal from (after hostOps1 W (Proc.devRef .tc main_v55) : FVec Ideal S1x128 .f32) (ix2 0 j))
    = (show EReal from (W (Proc.devRef .tc main_arg11) : FVec Ideal S128 .f32) (ix1 j)) + (show EReal from (W (Proc.devRef .tc main_arg12) : FVec Ideal S128 .f32) (ix1 j)) := by
  show _ = _
  unfold hostOps1
  after_reads_at
theorem v56_at (q : Fin 8) (p : Fin 50) (u : Fin 32) : (show EReal from (after hostOps1 W (Proc.devRef .tc main_v56) : FVec Ideal S8x50x32 .f32) (ix3 q p u))
    = (W (Proc.devRef .tc main_arg13) : FVec Ideal S8x1600 .f32) (ix2 q ⟨p.1 * 32 + u.1, by omega⟩) := by
  show _ = _
  unfold hostOps1
  after_reads_at
theorem v57_at (q : Fin 8) : (show EReal from (after hostOps1 W (Proc.devRef .tc main_v57) : FVec Ideal S1x8 .f32) (ix2 0 q)) = (W (Proc.devRef .tc main_arg14) : FVec Ideal S8 .f32) (ix1 q) := by
  show _ = _
  unfold hostOps1
  after_reads_at
end
end Cert.KernelIdeal.Hand
-- ==== Proof.Spec.lean ====
module
public import Idealize.ShloMosaic.PureOps.Ideal
public import Idealize.ShloMosaic.PureOps.Ideal.Laws
public import Idealize.ShloMosaic.Lib.IdealHost

/-!
What one graph's two attention layers come to when every number is real, and the steps by which extended-real arithmetic on real values reads as real arithmetic.
-/

@[expose] public section
noncomputable section
namespace Cert.Gat
open Idealize.ShloMosaic

/-! ### Constants -/

theorem neg_inf_bits : Ideal.ofBits .f32 0xFF800000#32 = ⊥ := by
  simp [Ideal.ofBits, Ideal.ieee]

theorem pos_inf_bits : Ideal.ofBits .f32 0x7F800000#32 = ⊤ := by
  simp [Ideal.ofBits, Ideal.ieee]

theorem w128_bits : Ideal.ofBits .f32 0x43000000#32 = ((128 : ℝ) : EReal) := by
  simp [Ideal.ofBits, Ideal.ieee]
  rw [← EReal.coe_mul]
  norm_num

/-- The slope of the leaky unit below zero: the float nearest to one hundredth. -/
def slope : ℝ := 10737418 * (2 : ℝ) ^ (-30 : ℤ)

theorem slope_bits : Ideal.ofBits .f32 0x3C23D70A#32 = ((slope : ℝ) : EReal) := by
  simp [Ideal.ofBits, Ideal.ieee, slope]

theorem slope_pos : 0 < slope := by unfold slope; positivity

theorem slope_lt : slope < 1 := by unfold slope; norm_num [zpow_neg]

/-! ### Real values inside the extended reals -/

theorem coe_sum {n : ℕ} (f : Fin n → ℝ) : ((∑ i, f i : ℝ) : EReal) = ∑ i, ((f i : ℝ) : EReal) :=
  map_sum (⟨⟨fun x : ℝ => (x : EReal), EReal.coe_zero⟩, EReal.coe_add⟩ : ℝ →+ EReal) f Finset.univ

theorem div_real (a b : ℝ) (hb : b ≠ 0) : Ideal.div (a : EReal) (b : EReal) = ((a / b : ℝ) : EReal) := by
  rw [Ideal.div_coe hb, ← EReal.coe_mul, mul_one_div]

/-! ### The layers over the reals -/

/-- The leaky unit. -/
def lr (t : ℝ) : ℝ := if 0 ≤ t then t else slope * t

/-- The exponential linear unit. -/
def elu (t : ℝ) : ℝ := if 0 < t then t else Real.exp t - 1

/-- The unnormalised weight of node `i` at node `k`: none for a node at itself. -/
def wt (e : Fin 51 → Fin 51 → ℝ) (i k : Fin 51) : ℝ := if i = k then 0 else Real.exp (e i k)

/-- The attention weight of node `i` at node `k`. -/
def att (e : Fin 51 → Fin 51 → ℝ) (i k : Fin 51) : ℝ := wt e i k / ∑ x, wt e x k

theorem wt_sum_pos (e : Fin 51 → Fin 51 → ℝ) (k : Fin 51) : 0 < ∑ x, wt e x k := by
  refine Finset.sum_pos' (fun i _ => ?_) ?_
  · unfold wt; split <;> positivity
  · by_cases h : k = 0
    · exact ⟨1, Finset.mem_univ _, by unfold wt; rw [if_neg (by rw [h]; decide)]; positivity⟩
    · exact ⟨0, Finset.mem_univ _, by unfold wt; rw [if_neg (fun q => h q.symm)]; positivity⟩

section Layers
variable (x : Fin 51 → Fin 2 → ℝ) (w1 : Fin 4 → Fin 64 → Fin 2 → ℝ) (a1 : Fin 4 → Fin 128 → ℝ)
  (w2 : Fin 128 → Fin 256 → ℝ) (a2 : Fin 256 → ℝ)

def z1 (h : Fin 4) (i : Fin 51) (d : Fin 64) : ℝ := ∑ c, x i c * w1 h d c
def e1 (h : Fin 4) (i k : Fin 51) : ℝ :=
  lr (∑ d : Fin 64, z1 x w1 h i d * a1 h ⟨d.1, by omega⟩ + ∑ d : Fin 64, z1 x w1 h k d * a1 h ⟨64 + d.1, by omega⟩)
def o1 (h : Fin 4) (k : Fin 51) (d : Fin 64) : ℝ := ∑ i, att (e1 x w1 a1 h) i k * z1 x w1 h i d
def h1 (k : Fin 51) (j : Fin 256) : ℝ := elu (o1 x w1 a1 ⟨j.1 / 64, by omega⟩ k ⟨j.1 % 64, by omega⟩)
def z2 (n : Fin 51) (o : Fin 128) : ℝ := ∑ j, h1 x w1 a1 n j * w2 o j
def e2 (i k : Fin 51) : ℝ :=
  lr (∑ o : Fin 128, z2 x w1 a1 w2 i o * a2 ⟨o.1, by omega⟩ + ∑ o : Fin 128, z2 x w1 a1 w2 k o * a2 ⟨128 + o.1, by omega⟩)
def h2 (k : Fin 51) (o : Fin 128) : ℝ := ∑ i, att (e2 x w1 a1 w2 a2) i k * z2 x w1 a1 w2 i o
/-- The graph's answer at node `k`: the mean of the second layer's outputs. -/
def ext (k : Fin 51) : ℝ := (∑ o, h2 x w1 a1 w2 a2 k o) / 128

end Layers

/-! ### Reassociations -/

theorem src_swap {m n : ℕ} (f : Fin m → ℝ) (w : Fin n → Fin m → ℝ) (a : Fin n → ℝ) :
    ∑ c, f c * ∑ d, w d c * a d = ∑ d, (∑ c, f c * w d c) * a d := by
  simp only [Finset.mul_sum, Finset.sum_mul]
  rw [Finset.sum_comm]
  exact Finset.sum_congr rfl fun d _ => Finset.sum_congr rfl fun c _ => by ring

theorem mix_swap {m : ℕ} (p : Fin 51 → ℝ) (s : ℝ) (f : Fin 51 → Fin m → ℝ) (w : Fin m → ℝ) :
    ∑ c, (∑ i, p i * f i c) / s * w c = ∑ i, p i / s * ∑ c, f i c * w c := by
  simp only [Finset.mul_sum, Finset.sum_mul, Finset.sum_div]
  rw [Finset.sum_comm]
  exact Finset.sum_congr rfl fun d _ => Finset.sum_congr rfl fun c _ => by ring

theorem mean_swap {m : ℕ} (p : Fin 51 → ℝ) (s : ℝ) (f : Fin 51 → Fin m → ℝ) :
    (∑ o, ∑ i, p i * f i o) / (s * 128) = (∑ o, ∑ i, p i / s * f i o) / 128 := by
  rw [← div_div]
  congr 1
  simp only [Finset.sum_div]
  exact Finset.sum_congr rfl fun d _ => Finset.sum_congr rfl fun c _ => by ring

/-! ### Steps on real values -/

theorem leaky_max (t : ℝ) : max (t : EReal) (Ideal.ofBits .f32 0x3C23D70A#32 * t) = ((lr t : ℝ) : EReal) := by
  rw [slope_bits, ← EReal.coe_mul, ← EReal.coe_strictMono.monotone.map_max]
  congr 1
  unfold lr
  have h1 := slope_pos
  have h2 := slope_lt
  split
  · exact max_eq_left (by nlinarith)
  · exact max_eq_right (by nlinarith)

theorem leaky_ite (t : ℝ) : (if (0 : EReal) ≤ t then (t : EReal) else Ideal.ofBits .f32 0x3C23D70A#32 * t) = ((lr t : ℝ) : EReal) := by
  rw [slope_bits, ← EReal.coe_mul]
  unfold lr
  by_cases h : 0 ≤ t
  · rw [if_pos h, if_pos (by exact_mod_cast h)]
  · rw [if_neg h, if_neg (by exact_mod_cast h)]

theorem elu_min (t : ℝ) : (if (0 : EReal) < t then (t : EReal) else Ideal.exp (min (t : EReal) 0) - 1) = ((elu t : ℝ) : EReal) := by
  unfold elu
  by_cases h : 0 < t
  · rw [if_pos h, if_pos (by exact_mod_cast h)]
  · rw [if_neg h, if_neg (by exact_mod_cast h), min_eq_left (by exact_mod_cast not_lt.1 h), Ideal.exp_coe, EReal.coe_sub, EReal.coe_one]

theorem elu_ite (t : ℝ) (z : EReal) : (if (0 : EReal) < t then (t : EReal) else Ideal.exp (if (0 : EReal) < t then z else (t : EReal)) - 1) = ((elu t : ℝ) : EReal) := by
  unfold elu
  by_cases h : 0 < t
  · rw [if_pos h, if_pos (by exact_mod_cast h)]
  · rw [if_neg h, if_neg (by exact_mod_cast h), if_neg (by exact_mod_cast h), Ideal.exp_coe, EReal.coe_sub, EReal.coe_one]

/-- The kernel's weight: an exponential times a mask that is zero at the node itself. -/
theorem weight_mask (t : ℝ) (i k : Fin 51) :
    Ideal.exp (max (t : EReal) (Ideal.ofBits .f32 0x3C23D70A#32 * t)) * (if i = k then (0 : EReal) else 1) = ((if i = k then 0 else Real.exp (lr t) : ℝ) : EReal) := by
  rw [leaky_max, Ideal.exp_coe]
  by_cases h : i = k
  · rw [if_pos h, if_pos h, mul_zero, EReal.coe_zero]
  · rw [if_neg h, if_neg h, mul_one]

/-- The largest of a column with the node itself left out is a real number. -/
theorem col_max (e : Fin 51 → Fin 51 → ℝ) (k : Fin 51) :
    ∃ m : ℝ, max (Ideal.ofBits .f32 0xFF800000#32) (Finset.univ.fold max (Ideal.ofBits .f32 0xFF800000#32) fun i => if i = k then (⊥ : EReal) else (e i k : EReal)) = (m : EReal) := by
  rw [neg_inf_bits, max_eq_right bot_le]
  set M := Finset.univ.fold max (⊥ : EReal) fun i => if i = k then (⊥ : EReal) else (e i k : EReal) with hM
  have hlt : M < ⊤ := by
    rw [hM, Finset.fold_max_lt]
    exact ⟨bot_lt_top, fun i _ => by split; exacts [bot_lt_top, EReal.coe_lt_top _]⟩
  have hgt : ⊥ < M := by
    rw [hM, Finset.lt_fold_max]
    right
    by_cases h : k = 0
    · exact ⟨1, Finset.mem_univ _, by rw [if_neg (by rw [h]; decide)]; exact EReal.bot_lt_coe _⟩
    · exact ⟨0, Finset.mem_univ _, by rw [if_neg (fun q => h q.symm)]; exact EReal.bot_lt_coe _⟩
  exact ⟨M.toReal, (EReal.coe_toReal hlt.ne hgt.ne').symm⟩

/-- The reference's softmax over a column whose own entry is minus infinity. -/
theorem softmax_col (e : Fin 51 → Fin 51 → ℝ) (i k : Fin 51) (M : EReal) (P : Fin 51 → EReal)
    (hM : M = max (Ideal.ofBits .f32 0xFF800000#32) (Finset.univ.fold max (Ideal.ofBits .f32 0xFF800000#32) fun i => if i = k then (⊥ : EReal) else (e i k : EReal)))
    (hP : ∀ i, P i = Ideal.exp ((if i = k then (⊥ : EReal) else (e i k : EReal)) - M)) :
    Ideal.div (P i) (∑ x, P x) = ((att e i k : ℝ) : EReal) := by
  obtain ⟨m, hm⟩ := col_max e k
  rw [hm] at hM
  have hP' : ∀ i, P i = ((wt e i k * Real.exp (-m) : ℝ) : EReal) := fun i => by
    rw [hP, hM]
    unfold wt
    by_cases h : i = k
    · rw [if_pos h, if_pos h, zero_mul, EReal.bot_sub]; rfl
    · rw [if_neg h, if_neg h, ← EReal.coe_sub, Ideal.exp_coe, ← Real.exp_add, sub_eq_add_neg]
  have hs := wt_sum_pos e k
  have hx := Real.exp_pos (-m)
  simp only [hP']
  rw [← coe_sum, ← Finset.sum_mul, div_real _ _ (mul_pos hs hx).ne', mul_div_mul_right _ _ hx.ne']
  rfl

end Cert.Gat
-- ==== Proof.KGat.lean ====
module
public import proofs.«01_k».proof.Proof.KerIGat
public import Idealize.ShloMosaic.PureOps.Ideal
public import Idealize.ShloMosaic.Lib.Pointwise
public import Idealize.ShloMosaic.Lib.StableHlo.ReadAt
public import Idealize.ShloMosaic.Lib.Routing.OpsSet
public import Idealize.ShloMosaic.Lib.VecWindow
public import Idealize.ShloMosaic.Lib.WritesUnit
public import proofs.«01_k».proof.Proof.Spec

/-!
What the first kernel's body leaves at each place of its result block, as sums over the blocks that it read.
-/

@[expose] public section
noncomputable section
namespace Cert.KernelIdeal.Hand
open Cert.KernelIdeal Cert.KernelIdeal.Gen
open Idealize.ShloMosaic Idealize.ShloMosaic.TcCoe Idealize.ShloMosaic.StableHlo Idealize.ShloMosaic.Pointwise

/-! ### The stages of the body -/

def lhs4 (a b c d : FVec Ideal S32x51x2 .f32) : FVec Ideal S128x51x2 .f32 :=
  shapeCast S128x51x2 (concatenate S32x4x51x2 1 [⟨S32x1x51x2, shapeCast S32x1x51x2 a shapeCasts_S32x51x2_S32x1x51x2⟩, ⟨S32x1x51x2, shapeCast S32x1x51x2 b shapeCasts_S32x51x2_S32x1x51x2⟩, ⟨S32x1x51x2, shapeCast S32x1x51x2 c shapeCasts_S32x51x2_S32x1x51x2⟩, ⟨S32x1x51x2, shapeCast S32x1x51x2 d shapeCasts_S32x51x2_S32x1x51x2⟩] concatenates_S32x1x51x2_S32x1x51x2_S32x1x51x2_S32x1x51x2_S32x4x51x2_d1) shapeCasts_S32x4x51x2_S128x51x2
def rhs4 (a b c d : FVec Ideal S32x2x51 .f32) : FVec Ideal S128x2x51 .f32 :=
  shapeCast S128x2x51 (concatenate S32x4x2x51 1 [⟨S32x1x2x51, shapeCast S32x1x2x51 a shapeCasts_S32x2x51_S32x1x2x51⟩, ⟨S32x1x2x51, shapeCast S32x1x2x51 b shapeCasts_S32x2x51_S32x1x2x51⟩, ⟨S32x1x2x51, shapeCast S32x1x2x51 c shapeCasts_S32x2x51_S32x1x2x51⟩, ⟨S32x1x2x51, shapeCast S32x1x2x51 d shapeCasts_S32x2x51_S32x1x2x51⟩] concatenates_S32x1x2x51_S32x1x2x51_S32x1x2x51_S32x1x2x51_S32x4x2x51_d1) shapeCasts_S32x4x2x51_S128x2x51
def pex4 (nd : FVec Ideal S51x51 .f32) (l : FVec Ideal S128x51x2 .f32) (r : FVec Ideal S128x2x51 .f32) : FVec Ideal S128x51x51 .f32 :=
  have v91 : FVec Ideal S128x51x51 .f32 := matmul dot_S128x51x2_S128x2x51_S128x51x51_2_1_1_2_0_0 none l r (constant S128x51x51 .f32 0x00000000#32)
  mulf (exp (maximumf v91 (mulf (broadcast S128x51x51 (Scalar.ofBits .f32 0x3C23D70A#32 : Ideal .f32)) v91)))
    (broadcastTo S128x51x51 (shapeCast S1x51x51 nd shapeCasts_S51x51_S1x51x51) broadcasts_S1x51x51_S128x51x51)
def q4 (p : FVec Ideal S128x51x51 .f32) (v6 : FVec Ideal S32x51x3 .f32) : FVec Ideal S128x51x3 .f32 :=
  matmul dot_S128x51x51_S128x51x3_S128x51x3_1_1_2_2_0_0 none p (shapeCast S128x51x3 (broadcastTo S32x4x51x3 (shapeCast S32x1x51x3 (shapeCast S32x1x51x3 v6 shapeCasts_S32x51x3_S32x1x51x3) shapeCasts_S32x1x51x3_S32x1x51x3) broadcasts_S32x1x51x3_S32x4x51x3) shapeCasts_S32x4x51x3_S128x51x3) (constant S128x51x3 .f32 0x00000000#32)
def n4 (q : FVec Ideal S128x51x3 .f32) : FVec Ideal S32x4x51x2 .f32 :=
  shapeCast S32x4x51x2 (divf (extractStridedSlice S128x51x2 ![0, 0, 0] q slices_S128x51x3_o0_0_0_S128x51x2) (broadcastTo S128x51x2 (extractStridedSlice S128x51x1 ![0, 0, 2] q slices_S128x51x3_o0_0_2_S128x51x1) broadcasts_S128x51x1_S128x51x2)) shapeCasts_S128x51x2_S32x4x51x2
def nall (v108 : FVec Ideal S32x4x51x2 .f32) : FVec Ideal S32x51x8 .f32 :=
  concatenate S32x51x8 2 [⟨S32x51x2, shapeCast S32x51x2 (extractStridedSlice S32x1x51x2 ![0, 0, 0, 0] v108 slices_S32x4x51x2_o0_0_0_0_S32x1x51x2) shapeCasts_S32x1x51x2_S32x51x2⟩,
    ⟨S32x51x2, shapeCast S32x51x2 (extractStridedSlice S32x1x51x2 ![0, 1, 0, 0] v108 slices_S32x4x51x2_o0_1_0_0_S32x1x51x2) shapeCasts_S32x1x51x2_S32x51x2⟩,
    ⟨S32x51x2, shapeCast S32x51x2 (extractStridedSlice S32x1x51x2 ![0, 2, 0, 0] v108 slices_S32x4x51x2_o0_2_0_0_S32x1x51x2) shapeCasts_S32x1x51x2_S32x51x2⟩,
    ⟨S32x51x2, shapeCast S32x51x2 (extractStridedSlice S32x1x51x2 ![0, 3, 0, 0] v108 slices_S32x4x51x2_o0_3_0_0_S32x1x51x2) shapeCasts_S32x1x51x2_S32x51x2⟩] concatenates_S32x51x2_S32x51x2_S32x51x2_S32x51x2_S32x51x8_d2
def h1p (n : FVec Ideal S32x51x8 .f32) (w : FVec Ideal S8x256 .f32) : FVec Ideal S32x51x256 .f32 :=
  matmul dot_S32x51x8_S8x256_S32x51x256_2_0_01_1_n_n none n (shapeCast S8x256 w shapeCasts_S8x256_S8x256) (constant S32x51x256 .f32 0x00000000#32)
def elu1 (v120 : FVec Ideal S32x51x256 .f32) : FVec Ideal S32x51x256 .f32 :=
  select (cmpf .ogt v120 (broadcast S32x51x256 (Scalar.ofBits .f32 0x00000000#32 : Ideal .f32))) v120
    (subf (exp (minimumf v120 (broadcast S32x51x256 (Scalar.ofBits .f32 0x00000000#32 : Ideal .f32)))) (broadcast S32x51x256 (Scalar.ofBits .f32 0x3F800000#32 : Ideal .f32)))
def zc (v128 : FVec Ideal S32x51x256 .f32) (w : FVec Ideal S256x130 .f32) : FVec Ideal S32x51x130 .f32 :=
  matmul dot_S32x51x256_S256x130_S32x51x130_2_0_01_1_n_n none v128 (shapeCast S256x130 w shapeCasts_S256x130_S256x130) (constant S32x51x130 .f32 0x00000000#32)
def pex2 (nd : FVec Ideal S51x51 .f32) (o1 : FVec Ideal S32x51x1 .f32) (o2 : FVec Ideal S32x1x51 .f32) (z : FVec Ideal S32x51x130 .f32) : FVec Ideal S32x51x51 .f32 :=
  have v137 : FVec Ideal S32x51x51 .f32 := matmul dot_S32x51x2_S32x2x51_S32x51x51_2_1_1_2_0_0 none
    (concatenate S32x51x2 2 [⟨S32x51x1, extractStridedSlice S32x51x1 ![0, 0, 128] z slices_S32x51x130_o0_0_128_S32x51x1⟩, ⟨S32x51x1, o1⟩] concatenates_S32x51x1_S32x51x1_S32x51x2_d2)
    (concatenate S32x2x51 1 [⟨S32x1x51, o2⟩, ⟨S32x1x51, transpose S32x1x51 [0, 2, 1] (extractStridedSlice S32x51x1 ![0, 0, 129] z slices_S32x51x130_o0_0_129_S32x51x1) transposes_S32x51x1_p0_2_1_S32x1x51⟩] concatenates_S32x1x51_S32x1x51_S32x2x51_d1)
    (constant S32x51x51 .f32 0x00000000#32)
  mulf (exp (maximumf v137 (mulf (broadcast S32x51x51 (Scalar.ofBits .f32 0x3C23D70A#32 : Ideal .f32)) v137)))
    (broadcastTo S32x51x51 (shapeCast S1x51x51 nd shapeCasts_S51x51_S1x51x51) broadcasts_S1x51x51_S32x51x51)
def h2k (p : FVec Ideal S32x51x51 .f32) (z : FVec Ideal S32x51x130 .f32) : FVec Ideal S32x51x129 .f32 :=
  matmul dot_S32x51x51_S32x51x129_S32x51x129_1_1_2_2_0_0 none p
    (concatenate S32x51x129 2 [⟨S32x51x128, extractStridedSlice S32x51x128 ![0, 0, 0] z slices_S32x51x130_o0_0_0_S32x51x128⟩, ⟨S32x51x1, broadcast S32x51x1 (Scalar.ofBits .f32 0x3F800000#32 : Ideal .f32)⟩] concatenates_S32x51x128_S32x51x1_S32x51x129_d2)
    (constant S32x51x129 .f32 0x00000000#32)
def fin2 (h : FVec Ideal S32x51x129 .f32) : FVec Ideal S32x51 .f32 :=
  divf (multiReduction .add [2] S32x51 (extractStridedSlice S32x51x128 ![0, 0, 0] h slices_S32x51x129_o0_0_0_S32x51x128) 0x00000000#32 reduces_S32x51x128_S32x51 (.inl rfl) rfl)
    (mulf (shapeCast S32x51 (extractStridedSlice S32x51x1 ![0, 0, 128] h slices_S32x51x129_o0_0_128_S32x51x1) shapeCasts_S32x51x1_S32x51) (broadcast S32x51 (Scalar.ofBits .f32 0x43000000#32 : Ideal .f32)))
def ones1 : FVec Ideal S32x51x1 .f32 := k0_pay9 (F := Ideal)
def ones2 : FVec Ideal S32x1x51 .f32 := k0_pay10 (F := Ideal)
/-- The left operand of the four heads' logits. -/
def lhsA (x0 : FVec Ideal S32x51x3 .f32) (x2 : FVec Ideal S4x4 .f32) : FVec Ideal S128x51x2 .f32 :=
  lhs4 (k0_pay11 (F := Ideal) x0 (x2 (ix2 0 0)) (x2 (ix2 0 1))) (k0_pay14 (k0_pay9 (F := Ideal)) (k0_pay13 x0 (x2 (ix2 1 0)) (x2 (ix2 1 1))))
    (k0_pay16 (k0_pay5 x0) (k0_pay6 x0) (k0_pay9 (F := Ideal)) (x2 (ix2 2 0)) (x2 (ix2 2 1))) (k0_pay18 (k0_pay5 x0) (k0_pay6 x0) (k0_pay9 (F := Ideal)) (x2 (ix2 3 0)) (x2 (ix2 3 1)))
/-- The right operand of the four heads' logits. -/
def rhsA (x1 : FVec Ideal S32x2x51 .f32) (x2 : FVec Ideal S4x4 .f32) : FVec Ideal S128x2x51 .f32 :=
  rhs4 (k0_pay12 (F := Ideal) x1 (x2 (ix2 0 2)) (x2 (ix2 0 3))) (k0_pay15 (k0_pay7 x1) (k0_pay8 x1) (k0_pay10 (F := Ideal)) (x2 (ix2 1 2)) (x2 (ix2 1 3)))
    (k0_pay17 (k0_pay7 x1) (k0_pay8 x1) (k0_pay10 (F := Ideal)) (x2 (ix2 2 2)) (x2 (ix2 2 3))) (k0_pay19 (k0_pay7 x1) (k0_pay8 x1) (k0_pay10 (F := Ideal)) (x2 (ix2 3 2)) (x2 (ix2 3 3)))
/-- The first layer's outputs. -/
def hid (x0 : FVec Ideal S32x51x3 .f32) (x1 : FVec Ideal S32x2x51 .f32) (x2 : FVec Ideal S4x4 .f32) (x3 : FVec Ideal S8x256 .f32) : FVec Ideal S32x51x256 .f32 :=
  elu1 (h1p (nall (n4 (q4 (pex4 (k0_pay2 (F := Ideal)) (lhsA x0 x2) (rhsA x1 x2)) (k0_pay3 x0)))) x3)
/-- The block's result. -/
def kout (x0 : FVec Ideal S32x51x3 .f32) (x1 : FVec Ideal S32x2x51 .f32) (x2 : FVec Ideal S4x4 .f32) (x3 : FVec Ideal S8x256 .f32) (x4 : FVec Ideal S256x130 .f32) : FVec Ideal S32x51 .f32 :=
  fin2 (h2k (pex2 (k0_pay2 (F := Ideal)) ones1 ones2 (zc (hid x0 x1 x2 x3) x4)) (zc (hid x0 x1 x2 x3) x4))

theorem whole_read {sp : Space} {s : Shape} {e : EltTy} {arg : Memref sig .tc sp s e} (h : arg.IsWhole) {off : Fin s.rank → ℕ} (inb : ∀ a, off a + s.size a ≤ s.size a) (x : s.Idx → Elt Ideal e) :
    View.readAt (Elt Ideal) arg.view (Rect.unit off s.size inb).toLoadRect (h.unread x) = x := by
  rw [View.readAt_full, h.read_unread]

theorem coef_read {arg : Memref sig .tc .smem S4x4 .f32} (h : arg.IsWhole) (a b : ℕ) (ha : a < 4) (hb : b < 4) (inb) (x : S4x4.Idx → Elt Ideal .f32) (y) :
    View.readAt (Elt Ideal) arg.view (Rect.unit (s := S4x4) ![a, b] S1x1.size inb).toLoadRect (h.unread x) y = x (ix2 ⟨a, ha⟩ ⟨b, hb⟩) := by
  rw [View.readAt_apply, h.read_unread]
  congr 1
  funext d
  have h0 : (y 0).1 = 0 := Nat.lt_one_iff.1 (y 0).2
  have h1 : (y 1).1 = 0 := Nat.lt_one_iff.1 (y 1).2
  match d with
  | ⟨0, _⟩ => exact Fin.ext (by show a + 1 * (y 0).1 = a; omega)
  | ⟨1, _⟩ => exact Fin.ext (by show b + 1 * (y 1).1 = b; omega)

theorem pay20_eq (v4 v6 a b c d e f g h w) : k0_pay20 (F := Ideal) v4 v6 a b c d e f g h w = elu1 (h1p (nall (n4 (q4 (pex4 v4 (lhs4 a c e g) (rhs4 b d f h)) v6))) w) := by
  unfold k0_pay20 elu1 h1p nall n4 q4 pex4 lhs4 rhs4
  with_reducible rfl

theorem pay1_eq (v4 o1 o2 h w) : k0_pay1 (F := Ideal) v4 o1 o2 h w = fin2 (h2k (pex2 v4 o1 o2 (zc h w)) (zc h w)) := by
  unfold k0_pay1 fin2 h2k pex2 zc
  with_reducible rfl

theorem out0_eq (c : Dev nD) (i : grid0.Coords) (arg1 : Memref sig .tc .vmem S32x51x3 .f32) (harg1 : arg1.IsWhole) (arg2 : Memref sig .tc .vmem S32x2x51 .f32) (harg2 : arg2.IsWhole) (arg3 : Memref sig .tc .smem S4x4 .f32) (harg3 : arg3.IsWhole) (arg4 : Memref sig .tc .vmem S8x256 .f32) (harg4 : arg4.IsWhole) (arg5 : Memref sig .tc .vmem S256x130 .f32) (harg5 : arg5.IsWhole) (arg6 : Memref sig .tc .vmem S32x51 .f32) (harg6 : arg6.IsWhole)
    (x0 : Vec Ideal S32x51x3 .f32) (x1 : Vec Ideal S32x2x51 .f32) (x2 : Vec Ideal S4x4 .f32) (x3 : Vec Ideal S8x256 .f32) (x4 : Vec Ideal S256x130 .f32) :
    out0_A_5 c i arg1 harg1 arg2 harg2 arg3 harg3 arg4 harg4 arg5 harg5 arg6 harg6 x0 x1 x2 x3 x4 = kout x0 x1 x2 x3 x4 := by
  funext y
  unfold out0_A_5 kernelRun0_A
  dsimp only
  refine (View.read_writes_cons_unit_of_mem _ _ _ _ _ y y (by funext a; match a with | ⟨0, _⟩ => rfl | ⟨1, _⟩ => rfl : (![0, 0] : Fin 2 → ℕ) = fun _ => 0) (fun a => (Nat.zero_add _).symm)).trans ?_
  unfold kernelRun0_A.sl.r_30
  rw [pay1_eq, pay20_eq]
  unfold kout hid lhsA rhsA
  rw [whole_read (s := S256x130) harg5, whole_read (s := S8x256) harg4]
  simp only [kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_24, kernelRun0_A.sl.r_25, kernelRun0_A.sl.r_26, kernelRun0_A.sl.r_27, kernelRun0_A.sl.r_28, kernelRun0_A.sl.r_29]
  have e : kernelRun0_A.sl.r c arg3 harg3 x2 = x2 (ix2 0 0) := coef_read harg3 0 0 (by decide) (by decide) _ x2 _
  have e_1 : kernelRun0_A.sl.r_1 c arg3 harg3 x2 = x2 (ix2 0 1) := coef_read harg3 0 1 (by decide) (by decide) _ x2 _
  have e_2 : kernelRun0_A.sl.r_2 c arg3 harg3 x2 = x2 (ix2 0 2) := coef_read harg3 0 2 (by decide) (by decide) _ x2 _
  have e_3 : kernelRun0_A.sl.r_3 c arg3 harg3 x2 = x2 (ix2 0 3) := coef_read harg3 0 3 (by decide) (by decide) _ x2 _
  have e_4 : kernelRun0_A.sl.r_4 c arg3 harg3 x2 = x2 (ix2 1 0) := coef_read harg3 1 0 (by decide) (by decide) _ x2 _
  have e_5 : kernelRun0_A.sl.r_5 c arg3 harg3 x2 = x2 (ix2 1 1) := coef_read harg3 1 1 (by decide) (by decide) _ x2 _
  have e_14 : kernelRun0_A.sl.r_14 c arg3 harg3 x2 = x2 (ix2 1 2) := coef_read harg3 1 2 (by decide) (by decide) _ x2 _
  have e_15 : kernelRun0_A.sl.r_15 c arg3 harg3 x2 = x2 (ix2 1 3) := coef_read harg3 1 3 (by decide) (by decide) _ x2 _
  have e_16 : kernelRun0_A.sl.r_16 c arg3 harg3 x2 = x2 (ix2 2 0) := coef_read harg3 2 0 (by decide) (by decide) _ x2 _
  have e_17 : kernelRun0_A.sl.r_17 c arg3 harg3 x2 = x2 (ix2 2 1) := coef_read harg3 2 1 (by decide) (by decide) _ x2 _
  have e_18 : kernelRun0_A.sl.r_18 c arg3 harg3 x2 = x2 (ix2 2 2) := coef_read harg3 2 2 (by decide) (by decide) _ x2 _
  have e_19 : kernelRun0_A.sl.r_19 c arg3 harg3 x2 = x2 (ix2 2 3) := coef_read harg3 2 3 (by decide) (by decide) _ x2 _
  have e_20 : kernelRun0_A.sl.r_20 c arg3 harg3 x2 = x2 (ix2 3 0) := coef_read harg3 3 0 (by decide) (by decide) _ x2 _
  have e_21 : kernelRun0_A.sl.r_21 c arg3 harg3 x2 = x2 (ix2 3 1) := coef_read harg3 3 1 (by decide) (by decide) _ x2 _
  have e_22 : kernelRun0_A.sl.r_22 c arg3 harg3 x2 = x2 (ix2 3 2) := coef_read harg3 3 2 (by decide) (by decide) _ x2 _
  have e_23 : kernelRun0_A.sl.r_23 c arg3 harg3 x2 = x2 (ix2 3 3) := coef_read harg3 3 3 (by decide) (by decide) _ x2 _
  rw [whole_read (s := S32x51x3) harg1, whole_read (s := S32x2x51) harg2]
  simp only [e, e_1, e_2, e_3, e_4, e_5, e_14, e_15, e_16, e_17, e_18, e_19, e_20, e_21, e_22, e_23]
  rfl

theorem lhs4_at (a b c d) (g : Fin 32) (h : Fin 4) (n : Fin 51) (x : Fin 2) : lhs4 a b c d (ix3 ⟨g.1 * 4 + h.1, by omega⟩ n x) = (match h with | 0 => a | 1 => b | 2 => c | 3 => d) (ix3 g n x) := by
  unfold lhs4
  pointwise
  match h with
  | 0 => rw [dif_pos (by decide)]
  | 1 => rw [dif_neg (by decide), dif_pos (by decide)]
  | 2 => rw [dif_neg (by decide), dif_neg (by decide), dif_pos (by decide)]
  | 3 => rw [dif_neg (by decide), dif_neg (by decide), dif_neg (by decide)]

theorem rhs4_at (a b c d) (g : Fin 32) (h : Fin 4) (n : Fin 51) (x : Fin 2) : rhs4 a b c d (ix3 ⟨g.1 * 4 + h.1, by omega⟩ x n) = (match h with | 0 => a | 1 => b | 2 => c | 3 => d) (ix3 g x n) := by
  unfold rhs4
  pointwise
  match h with
  | 0 => rw [dif_pos (by decide)]
  | 1 => rw [dif_neg (by decide), dif_pos (by decide)]
  | 2 => rw [dif_neg (by decide), dif_neg (by decide), dif_pos (by decide)]
  | 3 => rw [dif_neg (by decide), dif_neg (by decide), dif_neg (by decide)]

theorem lhsA_at0 (x0 x2) (g : Fin 32) (h : Fin 4) (n : Fin 51) : lhsA x0 x2 (ix3 ⟨g.1 * 4 + h.1, by omega⟩ n 0) = x0 (ix3 g n 0) * x2 (ix2 h 0) + x0 (ix3 g n 1) * x2 (ix2 h 1) := by
  unfold lhsA
  rw [lhs4_at]
  match h with
  | 0 => unfold k0_pay11 k0_pay5 k0_pay6 k0_pay3 k0_pay9; pointwise
  | 1 => unfold k0_pay14 k0_pay13 k0_pay5 k0_pay6 k0_pay3 k0_pay9; pointwise
  | 2 => unfold k0_pay16 k0_pay5 k0_pay6 k0_pay3 k0_pay9; pointwise
  | 3 => unfold k0_pay18 k0_pay5 k0_pay6 k0_pay3 k0_pay9; pointwise

theorem lhsA_at1 (x0 x2) (g : Fin 32) (h : Fin 4) (n : Fin 51) : lhsA x0 x2 (ix3 ⟨g.1 * 4 + h.1, by omega⟩ n 1) = (1 : EReal) := by
  unfold lhsA
  rw [lhs4_at]
  match h with
  | 0 => unfold k0_pay11 k0_pay5 k0_pay6 k0_pay3 k0_pay9; pointwise
  | 1 => unfold k0_pay14 k0_pay13 k0_pay5 k0_pay6 k0_pay3 k0_pay9; pointwise
  | 2 => unfold k0_pay16 k0_pay5 k0_pay6 k0_pay3 k0_pay9; pointwise
  | 3 => unfold k0_pay18 k0_pay5 k0_pay6 k0_pay3 k0_pay9; pointwise

theorem rhsA_at1 (x1 x2) (g : Fin 32) (h : Fin 4) (n : Fin 51) : rhsA x1 x2 (ix3 ⟨g.1 * 4 + h.1, by omega⟩ 1 n) = x1 (ix3 g 0 n) * x2 (ix2 h 2) + x1 (ix3 g 1 n) * x2 (ix2 h 3) := by
  unfold rhsA
  rw [rhs4_at]
  match h with
  | 0 => unfold k0_pay12 k0_pay7 k0_pay8 k0_pay4 k0_pay10; pointwise
  | 1 => unfold k0_pay15 k0_pay7 k0_pay8 k0_pay4 k0_pay10; pointwise
  | 2 => unfold k0_pay17 k0_pay7 k0_pay8 k0_pay4 k0_pay10; pointwise
  | 3 => unfold k0_pay19 k0_pay7 k0_pay8 k0_pay4 k0_pay10; pointwise

theorem rhsA_at0 (x1 x2) (g : Fin 32) (h : Fin 4) (n : Fin 51) : rhsA x1 x2 (ix3 ⟨g.1 * 4 + h.1, by omega⟩ 0 n) = (1 : EReal) := by
  unfold rhsA
  rw [rhs4_at]
  match h with
  | 0 => unfold k0_pay12 k0_pay7 k0_pay8 k0_pay4 k0_pay10; pointwise
  | 1 => unfold k0_pay15 k0_pay7 k0_pay8 k0_pay4 k0_pay10; pointwise
  | 2 => unfold k0_pay17 k0_pay7 k0_pay8 k0_pay4 k0_pay10; pointwise
  | 3 => unfold k0_pay19 k0_pay7 k0_pay8 k0_pay4 k0_pay10; pointwise

theorem pay2_at (i k : Fin 51) : k0_pay2 (F := Ideal) (ix2 i k) = (if i = k then (0 : EReal) else 1) := by
  unfold k0_pay2
  pointwise
  have h : (BitVec.setWidth 32 (IntOp.cmpi CmpIPredicate.ne (BitVec.ofNat 32 i.1) (BitVec.ofNat 32 k.1))).toInt = if i = k then 0 else 1 := by
    revert i k; decide +kernel
  show (((BitVec.setWidth 32 (IntOp.cmpi CmpIPredicate.ne (BitVec.ofNat 32 i.1) (BitVec.ofNat 32 k.1))).toInt : ℝ) : EReal) = _
  rw [h]
  split <;> simp

theorem pay3_at (x0) (g : Fin 32) (n : Fin 51) (c : Fin 3) : k0_pay3 (F := Ideal) x0 (ix3 g n c) = x0 (ix3 g n c) := by
  unfold k0_pay3
  pointwise

theorem pex4_at (nd l r') (r : Fin 128) (i k : Fin 51) : pex4 nd l r' (ix3 r i k) = Ideal.exp (max (∑ x, l (ix3 r i x) * r' (ix3 r x k)) (Ideal.ofBits .f32 0x3C23D70A#32 * ∑ x, l (ix3 r i x) * r' (ix3 r x k))) * nd (ix2 i k) := by
  unfold pex4
  pointwise

theorem q4_at (p v6) (g : Fin 32) (h : Fin 4) (k : Fin 51) (c : Fin 3) : q4 p v6 (ix3 ⟨g.1 * 4 + h.1, by omega⟩ k c) = ∑ x : Fin 51, p (ix3 ⟨g.1 * 4 + h.1, by omega⟩ x k) * v6 (ix3 g x c) := by
  unfold q4
  pointwise

theorem n4_at (q) (g : Fin 32) (h : Fin 4) (k : Fin 51) (c : Fin 2) : n4 q (ix4 g h k c) = Ideal.div (q (ix3 ⟨g.1 * 4 + h.1, by omega⟩ k ⟨c.1, by omega⟩)) (q (ix3 ⟨g.1 * 4 + h.1, by omega⟩ k 2)) := by
  unfold n4
  pointwise

theorem nall_at (q) (g : Fin 32) (k : Fin 51) (h : Fin 4) (c : Fin 2) : nall q (ix3 g k ⟨h.1 * 2 + c.1, by omega⟩) = q (ix4 g h k c) := by
  unfold nall
  pointwise
  match h with
  | 0 => rw [dif_pos (by show 0 * 2 + c.1 < 2; omega)]; exact congrArg (fun e => q (ix4 g 0 k e)) (Fin.ext (by show 0 * 2 + c.1 = c.1; omega))
  | 1 => rw [dif_neg (by show ¬ 1 * 2 + c.1 < 2; omega), dif_pos (by show 1 * 2 + c.1 - 2 < 2; omega)]; exact congrArg (fun e => q (ix4 g 1 k e)) (Fin.ext (by show 1 * 2 + c.1 - 2 = c.1; omega))
  | 2 => rw [dif_neg (by show ¬ 2 * 2 + c.1 < 2; omega), dif_neg (by show ¬ 2 * 2 + c.1 - 2 < 2; omega), dif_pos (by show 2 * 2 + c.1 - 2 - 2 < 2; omega)]; exact congrArg (fun e => q (ix4 g 2 k e)) (Fin.ext (by show 2 * 2 + c.1 - 2 - 2 = c.1; omega))
  | 3 => rw [dif_neg (by show ¬ 3 * 2 + c.1 < 2; omega), dif_neg (by show ¬ 3 * 2 + c.1 - 2 < 2; omega), dif_neg (by show ¬ 3 * 2 + c.1 - 2 - 2 < 2; omega)]; exact congrArg (fun e => q (ix4 g 3 k e)) (Fin.ext (by show 3 * 2 + c.1 - 2 - 2 - 2 = c.1; omega))

theorem h1p_at (n w) (g : Fin 32) (k : Fin 51) (j : Fin 256) : h1p n w (ix3 g k j) = ∑ x : Fin 8, n (ix3 g k x) * w (ix2 x j) := by
  unfold h1p
  pointwise

theorem elu1_at (n) (g : Fin 32) (k : Fin 51) (j : Fin 256) : elu1 n (ix3 g k j) = (if 0 < n (ix3 g k j) then n (ix3 g k j) else Ideal.exp (min (n (ix3 g k j)) 0) - 1) := by
  unfold elu1
  pointwise

theorem zc_at (n w) (g : Fin 32) (k : Fin 51) (j : Fin 130) : zc n w (ix3 g k j) = ∑ x : Fin 256, n (ix3 g k x) * w (ix2 x j) := by
  unfold zc
  pointwise

theorem ones1_at (g : Fin 32) (k : Fin 51) (c : Fin 1) : ones1 (ix3 g k c) = (1 : EReal) := by
  unfold ones1 k0_pay9
  pointwise

theorem ones2_at (g : Fin 32) (k : Fin 51) (c : Fin 1) : ones2 (ix3 g c k) = (1 : EReal) := by
  unfold ones2 k0_pay10
  pointwise

theorem pex2_at (nd z o1 o2) (g : Fin 32) (i k : Fin 51) : pex2 nd o1 o2 z (ix3 g i k) = Ideal.exp
        (max (∑ x : Fin 1, z (ix3 g i 128) * o2 (ix3 g 0 k) + ∑ x : Fin 1, o1 (ix3 g i 0) * z (ix3 g k 129))
          (Ideal.ofBits .f32 0x3C23D70A#32 * (∑ x : Fin 1, z (ix3 g i 128) * o2 (ix3 g 0 k) + ∑ x : Fin 1, o1 (ix3 g i 0) * z (ix3 g k 129)))) * nd (ix2 i k) := by
  unfold pex2
  pointwise

theorem h2k_at (p z) (g : Fin 32) (k : Fin 51) (c : Fin 129) : h2k p z (ix3 g k c) = ∑ x : Fin 51, p (ix3 g x k) * if h : c.1 < 128 then z (ix3 g x ⟨c.1, by omega⟩) else (1 : EReal) := by
  unfold h2k
  pointwise

theorem fin2_at (h) (g : Fin 32) (k : Fin 51) : fin2 h (ix2 g k) = Ideal.div (∑ x : Fin 128, h (ix3 g k ⟨x.1, by omega⟩)) (h (ix3 g k 128) * Ideal.ofBits .f32 0x43000000#32) := by
  unfold fin2
  pointwise

end Cert.KernelIdeal.Hand
-- ==== Proof.KGatReal.lean ====
module
public import proofs.«01_k».proof.Proof.KGat

/-!
The first kernel's block in real numbers: where its five blocks hold real values prepared as the host prepares them, its result is the two layers' answer.
-/

@[expose] public section
noncomputable section
namespace Cert.KernelIdeal.Hand
open Cert.KernelIdeal Cert.KernelIdeal.Gen
open Idealize.ShloMosaic Idealize.ShloMosaic.TcCoe Idealize.ShloMosaic.Pointwise
open Cert.Gat (coe_sum div_real wt att lr elu wt_sum_pos)

theorem sum8 (f : Fin 8 → EReal) : ∑ x, f x = ∑ h : Fin 4, ∑ c : Fin 2, f ⟨h.1 * 2 + c.1, by omega⟩ := by
  rw [Fin.sum_univ_eight, Fin.sum_univ_four]
  simp only [Fin.sum_univ_two, ← add_assoc]
  rfl

section
variable {x0 : FVec Ideal S32x51x3 .f32} {x1 : FVec Ideal S32x2x51 .f32} {x2 : FVec Ideal S4x4 .f32} {x3 : FVec Ideal S8x256 .f32} {x4 : FVec Ideal S256x130 .f32}
  (X : Fin 32 → Fin 51 → Fin 2 → ℝ) (w1 : Fin 4 → Fin 64 → Fin 2 → ℝ) (a1 : Fin 4 → Fin 128 → ℝ) (w2 : Fin 128 → Fin 256 → ℝ) (a2 : Fin 256 → ℝ)

/-- The blocks hold what the host prepares from real arguments. -/
structure Prepared (x0 : FVec Ideal S32x51x3 .f32) (x1 : FVec Ideal S32x2x51 .f32) (x2 : FVec Ideal S4x4 .f32) (x3 : FVec Ideal S8x256 .f32) (x4 : FVec Ideal S256x130 .f32) : Prop where
  h0 : ∀ (g : Fin 32) (n : Fin 51) (c : Fin 2), x0 (ix3 g n ⟨c.1, by omega⟩) = ((X g n c : ℝ) : EReal)
  h0' : ∀ (g : Fin 32) (n : Fin 51), x0 (ix3 g n 2) = (1 : EReal)
  h1 : ∀ (g : Fin 32) (n : Fin 51) (c : Fin 2), x1 (ix3 g c n) = ((X g n c : ℝ) : EReal)
  h2a : ∀ (h : Fin 4) (c : Fin 2), x2 (ix2 h ⟨c.1, by omega⟩) = ∑ d : Fin 64, ((w1 h d c : ℝ) : EReal) * ((a1 h ⟨d.1, by omega⟩ : ℝ) : EReal)
  h2b : ∀ (h : Fin 4) (c : Fin 2), x2 (ix2 h ⟨2 + c.1, by omega⟩) = ∑ d : Fin 64, ((w1 h d c : ℝ) : EReal) * ((a1 h ⟨64 + d.1, by omega⟩ : ℝ) : EReal)
  h3 : ∀ (h : Fin 4) (c : Fin 2) (h' : Fin 4) (d : Fin 64), x3 (ix2 ⟨h.1 * 2 + c.1, by omega⟩ ⟨h'.1 * 64 + d.1, by omega⟩) = if h = h' then ((w1 h d c : ℝ) : EReal) else 0
  h4a : ∀ (j : Fin 256) (o : Fin 128), x4 (ix2 j ⟨o.1, by omega⟩) = ((w2 o j : ℝ) : EReal)
  h4b : ∀ (j : Fin 256), x4 (ix2 j 128) = ∑ o : Fin 128, ((w2 o j : ℝ) : EReal) * ((a2 ⟨o.1, by omega⟩ : ℝ) : EReal)
  h4c : ∀ (j : Fin 256), x4 (ix2 j 129) = ∑ o : Fin 128, ((w2 o j : ℝ) : EReal) * ((a2 ⟨128 + o.1, by omega⟩ : ℝ) : EReal)

variable (P : Prepared X w1 a1 w2 a2 x0 x1 x2 x3 x4)
include P

theorem logit_real (g : Fin 32) (h : Fin 4) (i k : Fin 51) :
    ∑ x, lhsA x0 x2 (ix3 ⟨g.1 * 4 + h.1, by omega⟩ i x) * rhsA x1 x2 (ix3 ⟨g.1 * 4 + h.1, by omega⟩ x k)
      = ((∑ d : Fin 64, Gat.z1 (X g) w1 h i d * a1 h ⟨d.1, by omega⟩ + ∑ d : Fin 64, Gat.z1 (X g) w1 h k d * a1 h ⟨64 + d.1, by omega⟩ : ℝ) : EReal) := by
  rw [Fin.sum_univ_two, lhsA_at0, lhsA_at1, rhsA_at0, rhsA_at1, mul_one, one_mul]
  have r0 : x0 (ix3 g i 0) = ((X g i 0 : ℝ) : EReal) := P.h0 g i 0
  have r1 : x0 (ix3 g i 1) = ((X g i 1 : ℝ) : EReal) := P.h0 g i 1
  have r2 : x2 (ix2 h 0) = ∑ d : Fin 64, ((w1 h d 0 : ℝ) : EReal) * ((a1 h ⟨d.1, by omega⟩ : ℝ) : EReal) := P.h2a h 0
  have r3 : x2 (ix2 h 1) = ∑ d : Fin 64, ((w1 h d 1 : ℝ) : EReal) * ((a1 h ⟨d.1, by omega⟩ : ℝ) : EReal) := P.h2a h 1
  have r4 : x2 (ix2 h 2) = ∑ d : Fin 64, ((w1 h d 0 : ℝ) : EReal) * ((a1 h ⟨64 + d.1, by omega⟩ : ℝ) : EReal) := P.h2b h 0
  have r5 : x2 (ix2 h 3) = ∑ d : Fin 64, ((w1 h d 1 : ℝ) : EReal) * ((a1 h ⟨64 + d.1, by omega⟩ : ℝ) : EReal) := P.h2b h 1
  rw [r0, r1, r2, r3, r4, r5, P.h1, P.h1]
  simp only [← EReal.coe_mul, ← coe_sum, ← EReal.coe_add]
  congr 2
  · rw [← Fin.sum_univ_two fun c => X g i c * ∑ d : Fin 64, w1 h d c * a1 h ⟨d.1, by omega⟩]
    exact Gat.src_swap (X g i) (w1 h) fun d : Fin 64 => a1 h ⟨d.1, by omega⟩
  · rw [← Fin.sum_univ_two fun c => X g k c * ∑ d : Fin 64, w1 h d c * a1 h ⟨64 + d.1, by omega⟩]
    exact Gat.src_swap (X g k) (w1 h) fun d : Fin 64 => a1 h ⟨64 + d.1, by omega⟩

theorem weight_real (g : Fin 32) (h : Fin 4) (i k : Fin 51) :
    pex4 (k0_pay2 (F := Ideal)) (lhsA x0 x2) (rhsA x1 x2) (ix3 ⟨g.1 * 4 + h.1, by omega⟩ i k) = ((wt (Gat.e1 (X g) w1 a1 h) i k : ℝ) : EReal) := by
  rw [pex4_at, logit_real X w1 a1 w2 a2 P, pay2_at, Gat.weight_mask]
  rfl

theorem norm_real (g : Fin 32) (h : Fin 4) (k : Fin 51) (c : Fin 2) :
    n4 (q4 (pex4 (k0_pay2 (F := Ideal)) (lhsA x0 x2) (rhsA x1 x2)) (k0_pay3 x0)) (ix4 g h k c)
      = (((∑ i, wt (Gat.e1 (X g) w1 a1 h) i k * X g i c) / ∑ i, wt (Gat.e1 (X g) w1 a1 h) i k : ℝ) : EReal) := by
  rw [n4_at, q4_at, q4_at]
  simp only [weight_real X w1 a1 w2 a2 P, pay3_at, P.h0, P.h0', mul_one]
  simp only [← EReal.coe_mul, ← coe_sum]
  exact div_real _ _ (wt_sum_pos _ k).ne'

theorem head_real (g : Fin 32) (k : Fin 51) (h' : Fin 4) (d : Fin 64) :
    h1p (nall (n4 (q4 (pex4 (k0_pay2 (F := Ideal)) (lhsA x0 x2) (rhsA x1 x2)) (k0_pay3 x0)))) x3 (ix3 g k ⟨h'.1 * 64 + d.1, by omega⟩)
      = ((Gat.o1 (X g) w1 a1 h' k d : ℝ) : EReal) := by
  rw [h1p_at, sum8]
  simp only [nall_at, norm_real X w1 a1 w2 a2 P, P.h3]
  rw [Finset.sum_eq_single h' (fun h _ hne => by simp only [if_neg hne, mul_zero, Finset.sum_const_zero]) (fun h => absurd (Finset.mem_univ _) h)]
  simp only [if_true, ← EReal.coe_mul, ← coe_sum]
  exact congrArg _ (Gat.mix_swap (fun i => wt (Gat.e1 (X g) w1 a1 h') i k) _ (X g) (w1 h' d))

theorem hid_real (g : Fin 32) (k : Fin 51) (j : Fin 256) : hid x0 x1 x2 x3 (ix3 g k j) = ((Gat.h1 (X g) w1 a1 k j : ℝ) : EReal) := by
  unfold hid
  have hs : h1p (nall (n4 (q4 (pex4 (k0_pay2 (F := Ideal)) (lhsA x0 x2) (rhsA x1 x2)) (k0_pay3 x0)))) x3 (ix3 g k j)
      = ((Gat.o1 (X g) w1 a1 ⟨j.1 / 64, by omega⟩ k ⟨j.1 % 64, by omega⟩ : ℝ) : EReal) := by
    rw [← head_real X w1 a1 w2 a2 P]
    exact congrArg (fun t => h1p _ x3 (ix3 g k t)) (Fin.ext (by show j.1 = j.1 / 64 * 64 + j.1 % 64; omega))
  rw [elu1_at, hs, Gat.elu_min]
  rfl

theorem zc_real (g : Fin 32) (n : Fin 51) (o : Fin 128) : zc (hid x0 x1 x2 x3) x4 (ix3 g n ⟨o.1, by omega⟩) = ((Gat.z2 (X g) w1 a1 w2 n o : ℝ) : EReal) := by
  rw [zc_at]
  simp only [hid_real X w1 a1 w2 a2 P, P.h4a]
  simp only [← EReal.coe_mul, ← coe_sum]
  rfl

theorem zc_src (g : Fin 32) (n : Fin 51) : zc (hid x0 x1 x2 x3) x4 (ix3 g n 128) = ((∑ o : Fin 128, Gat.z2 (X g) w1 a1 w2 n o * a2 ⟨o.1, by omega⟩ : ℝ) : EReal) := by
  rw [zc_at]
  simp only [hid_real X w1 a1 w2 a2 P, P.h4b]
  simp only [← EReal.coe_mul, ← coe_sum]
  exact congrArg _ (Gat.src_swap (Gat.h1 (X g) w1 a1 n) w2 fun o : Fin 128 => a2 ⟨o.1, by omega⟩)

theorem zc_dst (g : Fin 32) (n : Fin 51) : zc (hid x0 x1 x2 x3) x4 (ix3 g n 129) = ((∑ o : Fin 128, Gat.z2 (X g) w1 a1 w2 n o * a2 ⟨128 + o.1, by omega⟩ : ℝ) : EReal) := by
  rw [zc_at]
  simp only [hid_real X w1 a1 w2 a2 P, P.h4c]
  simp only [← EReal.coe_mul, ← coe_sum]
  exact congrArg _ (Gat.src_swap (Gat.h1 (X g) w1 a1 n) w2 fun o : Fin 128 => a2 ⟨128 + o.1, by omega⟩)

theorem weight2_real (g : Fin 32) (i k : Fin 51) :
    pex2 (k0_pay2 (F := Ideal)) ones1 ones2 (zc (hid x0 x1 x2 x3) x4) (ix3 g i k) = ((wt (Gat.e2 (X g) w1 a1 w2 a2) i k : ℝ) : EReal) := by
  rw [pex2_at]
  simp only [Fin.sum_univ_one, ones1_at, ones2_at, one_mul, mul_one, zc_src X w1 a1 w2 a2 P, zc_dst X w1 a1 w2 a2 P, ← EReal.coe_add]
  rw [pay2_at, Gat.weight_mask]
  rfl

/-- The block's result: the mean of the second layer's outputs at each node. -/
theorem kout_real (g : Fin 32) (k : Fin 51) : kout x0 x1 x2 x3 x4 (ix2 g k) = ((Gat.ext (X g) w1 a1 w2 a2 k : ℝ) : EReal) := by
  unfold kout
  have hd : h2k (pex2 (k0_pay2 (F := Ideal)) ones1 ones2 (zc (hid x0 x1 x2 x3) x4)) (zc (hid x0 x1 x2 x3) x4) (ix3 g k 128)
      = ((∑ i, wt (Gat.e2 (X g) w1 a1 w2 a2) i k : ℝ) : EReal) := by
    rw [h2k_at, Finset.sum_congr rfl fun i _ => by rw [dif_neg (by decide), weight2_real X w1 a1 w2 a2 P, mul_one]]
    simp only [← coe_sum]
  rw [fin2_at, hd]
  have hz : ∀ o : Fin 128, h2k (pex2 (k0_pay2 (F := Ideal)) ones1 ones2 (zc (hid x0 x1 x2 x3) x4)) (zc (hid x0 x1 x2 x3) x4) (ix3 g k ⟨o.1, by omega⟩)
      = ((∑ i, wt (Gat.e2 (X g) w1 a1 w2 a2) i k * Gat.z2 (X g) w1 a1 w2 i o : ℝ) : EReal) := fun o => by
    rw [h2k_at, Finset.sum_congr rfl fun i _ => by rw [dif_pos (show (⟨o.1, by omega⟩ : Fin 129).1 < 128 from o.2)]]
    simp only [weight2_real X w1 a1 w2 a2 P, zc_real X w1 a1 w2 a2 P]
    simp only [← EReal.coe_mul, ← coe_sum]
  simp only [hz, Gat.w128_bits]
  simp only [← EReal.coe_mul, ← coe_sum]
  rw [div_real _ _ (mul_pos (wt_sum_pos _ k) (by norm_num)).ne']
  exact congrArg _ (Gat.mean_swap (fun i => wt (Gat.e2 (X g) w1 a1 w2 a2) i k) _ (Gat.z2 (X g) w1 a1 w2))

end
end Cert.KernelIdeal.Hand
-- ==== Proof.Lstm.lean ====
module
public import Idealize.ShloMosaic.PureOps.Ideal

/-!
The recurrent layers as one recurrence over extended reals, one batch row at a time: what both programs' loops are shown to compute.
-/

@[expose] public section
noncomputable section
namespace Cert.Gat
open Idealize.ShloMosaic

/-- The gates before their nonlinearities: input and hidden projections and the bias. -/
def pre {K : ℕ} (x : Fin K → EReal) (h : Fin 32 → EReal) (wi : Fin 128 → Fin K → EReal) (wh : Fin 128 → Fin 32 → EReal) (b : Fin 128 → EReal) (j : Fin 128) : EReal :=
  ∑ c, x c * wi j c + ∑ c, h c * wh j c + b j

/-- The next cell state from the gates (input, forget, candidate, output in order). -/
def cellN (g : Fin 128 → EReal) (c : Fin 32 → EReal) (u : Fin 32) : EReal :=
  Ideal.logistic (g ⟨32 + u.1, by omega⟩) * c u + Ideal.logistic (g ⟨u.1, by omega⟩) * Ideal.tanh (g ⟨64 + u.1, by omega⟩)

/-- The next hidden state. -/
def hidN (g : Fin 128 → EReal) (c : Fin 32 → EReal) (u : Fin 32) : EReal :=
  Ideal.logistic (g ⟨96 + u.1, by omega⟩) * Ideal.tanh (cellN g c u)

/-- Hidden and cell state after `n` steps. -/
def rec {K : ℕ} (xs : ℕ → Fin K → EReal) (wi : Fin 128 → Fin K → EReal) (wh : Fin 128 → Fin 32 → EReal) (b : Fin 128 → EReal) : ℕ → (Fin 32 → EReal) × (Fin 32 → EReal)
  | 0 => (fun _ => 0, fun _ => 0)
  | n + 1 => (hidN (pre (xs n) (rec xs wi wh b n).1 wi wh b) (rec xs wi wh b n).2, cellN (pre (xs n) (rec xs wi wh b n).1 wi wh b) (rec xs wi wh b n).2)

theorem rec_succ {K : ℕ} (xs : ℕ → Fin K → EReal) (wi : Fin 128 → Fin K → EReal) (wh : Fin 128 → Fin 32 → EReal) (b : Fin 128 → EReal) (n : ℕ) :
    rec xs wi wh b (n + 1) = (hidN (pre (xs n) (rec xs wi wh b n).1 wi wh b) (rec xs wi wh b n).2, cellN (pre (xs n) (rec xs wi wh b n).1 wi wh b) (rec xs wi wh b n).2) := rfl

end Cert.Gat
-- ==== Proof.KLstm.lean ====
module
public import proofs.«01_k».proof.Proof.KerILstm
public import proofs.«01_k».proof.Proof.Lstm
public import Idealize.ShloMosaic.PureOps.Ideal
public import Idealize.ShloMosaic.Lib.Pointwise

/-!
The second kernel's loop over time read one batch row at a time: its carried states are the recurrence of the two layers, and its result the last projection.
-/

@[expose] public section
noncomputable section
namespace Cert.KernelIdeal.Hand
open Cert.KernelIdeal Cert.KernelIdeal.Gen
open Idealize.ShloMosaic Idealize.ShloMosaic.TcCoe Idealize.ShloMosaic.Pointwise

theorem gates1_at (v0 : FVec Ideal S51x128 .f32) (v2 : FVec Ideal S32x128 .f32) (v4 : FVec Ideal S1x128 .f32) (h : FVec Ideal S50x32 .f32) (x : FVec Ideal S1x50x51 .f32) (b : Fin 50) (j : Fin 128) :
    k1_pay2 v0 v2 v4 h x (ix2 b j) = Gat.pre (fun c => x (ix3 0 b c)) (fun c => h (ix2 b c)) (fun j c => v0 (ix2 c j)) (fun j c => v2 (ix2 c j)) (fun j => v4 (ix2 0 j)) j := by
  unfold k1_pay2 Gat.pre
  pointwise

theorem cell1_at (v0 : FVec Ideal S51x128 .f32) (v2 : FVec Ideal S32x128 .f32) (v4 : FVec Ideal S1x128 .f32) (h c : FVec Ideal S50x32 .f32) (x : FVec Ideal S1x50x51 .f32) (b : Fin 50) (u : Fin 32) :
    k1_pay3 v0 v2 v4 h c x (ix2 b u) = Gat.cellN (fun j => k1_pay2 v0 v2 v4 h x (ix2 b j)) (fun u => c (ix2 b u)) u := by
  unfold k1_pay3 Gat.cellN
  generalize k1_pay2 v0 v2 v4 h x = g
  pointwise

theorem hid1_at (v0 : FVec Ideal S51x128 .f32) (v2 : FVec Ideal S32x128 .f32) (v4 : FVec Ideal S1x128 .f32) (h c : FVec Ideal S50x32 .f32) (x : FVec Ideal S1x50x51 .f32) (b : Fin 50) (u : Fin 32) :
    k1_pay4 v0 v2 v4 h c x (ix2 b u) = Gat.hidN (fun j => k1_pay2 v0 v2 v4 h x (ix2 b j)) (fun u => c (ix2 b u)) u := by
  unfold Gat.hidN
  rw [← cell1_at]
  unfold k1_pay4
  generalize k1_pay3 v0 v2 v4 h c x = cc
  generalize k1_pay2 v0 v2 v4 h x = g
  pointwise

theorem gates2_at (v0 : FVec Ideal S51x128 .f32) (v2 : FVec Ideal S32x128 .f32) (v4 : FVec Ideal S1x128 .f32) (v6 v8 : FVec Ideal S32x128 .f32) (v10 : FVec Ideal S1x128 .f32) (h c h2 : FVec Ideal S50x32 .f32) (x : FVec Ideal S1x50x51 .f32) (b : Fin 50) (j : Fin 128) :
    k1_pay5 v0 v2 v4 v6 v8 v10 h c h2 x (ix2 b j) = Gat.pre (fun u => k1_pay4 (F := Ideal) v0 v2 v4 h c x (ix2 b u)) (fun c => h2 (ix2 b c)) (fun j c => v6 (ix2 c j)) (fun j c => v8 (ix2 c j)) (fun j => v10 (ix2 0 j)) j := by
  unfold k1_pay5 Gat.pre
  generalize k1_pay4 v0 v2 v4 h c x = hh
  pointwise

theorem cell2_at (v0 : FVec Ideal S51x128 .f32) (v2 : FVec Ideal S32x128 .f32) (v4 : FVec Ideal S1x128 .f32) (v6 v8 : FVec Ideal S32x128 .f32) (v10 : FVec Ideal S1x128 .f32) (h c h2 c2 : FVec Ideal S50x32 .f32) (x : FVec Ideal S1x50x51 .f32) (b : Fin 50) (u : Fin 32) :
    k1_pay6 v0 v2 v4 v6 v8 v10 h c h2 c2 x (ix2 b u) = Gat.cellN (fun j => k1_pay5 v0 v2 v4 v6 v8 v10 h c h2 x (ix2 b j)) (fun u => c2 (ix2 b u)) u := by
  unfold k1_pay6 Gat.cellN
  generalize k1_pay5 v0 v2 v4 v6 v8 v10 h c h2 x = g
  pointwise

theorem hid2_at (v0 : FVec Ideal S51x128 .f32) (v2 : FVec Ideal S32x128 .f32) (v4 : FVec Ideal S1x128 .f32) (v6 v8 : FVec Ideal S32x128 .f32) (v10 : FVec Ideal S1x128 .f32) (h c h2 c2 : FVec Ideal S50x32 .f32) (x : FVec Ideal S1x50x51 .f32) (b : Fin 50) (u : Fin 32) :
    k1_pay7 v0 v2 v4 v6 v8 v10 h c h2 c2 x (ix2 b u) = Gat.hidN (fun j => k1_pay5 v0 v2 v4 v6 v8 v10 h c h2 x (ix2 b j)) (fun u => c2 (ix2 b u)) u := by
  unfold Gat.hidN
  rw [← cell2_at]
  unfold k1_pay7
  generalize k1_pay6 v0 v2 v4 v6 v8 v10 h c h2 c2 x = cc
  generalize k1_pay5 v0 v2 v4 v6 v8 v10 h c h2 x = g
  pointwise

theorem zero_at (b : Fin 50) (u : Fin 32) : k1_pay1 (F := Ideal) (ix2 b u) = (0 : EReal) := by
  unfold k1_pay1
  pointwise

theorem proj_at (hs : FVec Ideal S256x50x32 .f32) (w : FVec Ideal S8x50x32 .f32) (o : FVec Ideal S1x8 .f32) (t : Fin 256) (q : Fin 8) :
    k1_pay9 hs w o (ix2 t q) = ∑ p : Fin 50, ∑ u : Fin 32, hs (ix3 t p u) * w (ix3 q p u) + o (ix2 0 q) := by
  unfold k1_pay9
  pointwise

theorem row_at (x : FVec Ideal S256x50x51 .f32) (k : Fin k1_t1_loop.trips) (hk : k.1 < 256) (b : Fin 50) (c : Fin 51) : rowAt (F := Ideal) x k (ix3 0 b c) = x (ix3 ⟨k.1, hk⟩ b c) := by
  unfold rowAt VecWindow.window
  congr 1
  funext a
  apply Fin.ext
  have e1 : k1_off1 k 1 = 0 := congrFun (off1_eq k) 1
  have e2 : k1_off1 k 2 = 0 := congrFun (off1_eq k) 2
  have e0 : k1_off1 k 0 = k.1 := congrFun (off1_eq k) 0
  match a with
  | ⟨0, _⟩ => show k1_off1 k 0 + 1 * 0 = k.1; omega
  | ⟨1, _⟩ => show k1_off1 k 1 + 1 * b.1 = b.1; omega
  | ⟨2, _⟩ => show k1_off1 k 2 + 1 * c.1 = c.1; omega

section
variable (x : FVec Ideal S256x50x51 .f32) (v0 : FVec Ideal S51x128 .f32) (v2 : FVec Ideal S32x128 .f32) (v4 : FVec Ideal S1x128 .f32) (v6 v8 : FVec Ideal S32x128 .f32) (v10 : FVec Ideal S1x128 .f32)

/-- The first layer's inputs at a batch row. -/
def seqIn (b : Fin 50) (n : ℕ) (c : Fin 51) : EReal := if h : n < 256 then x (ix3 ⟨n, h⟩ b c) else 0
/-- The first layer's states at a batch row. -/
def lay1 (b : Fin 50) : ℕ → (Fin 32 → EReal) × (Fin 32 → EReal) := Gat.rec (seqIn x b) (fun j c => v0 (ix2 c j)) (fun j c => v2 (ix2 c j)) (fun j => v4 (ix2 0 j))
/-- The second layer's states at a batch row. -/
def lay2 (b : Fin 50) : ℕ → (Fin 32 → EReal) × (Fin 32 → EReal) := Gat.rec (fun n => (lay1 x v0 v2 v4 b (n + 1)).1) (fun j c => v6 (ix2 c j)) (fun j c => v8 (ix2 c j)) (fun j => v10 (ix2 0 j))

theorem seq_rec (b : Fin 50) (n : ℕ) (hn : n ≤ 256) :
    (fun u => (seqOf (F := Ideal) x v0 v2 v4 v6 v8 v10 n).1 (ix2 b u)) = (lay1 x v0 v2 v4 b n).1
    ∧ (fun u => (seqOf (F := Ideal) x v0 v2 v4 v6 v8 v10 n).2.1 (ix2 b u)) = (lay1 x v0 v2 v4 b n).2
    ∧ (fun u => (seqOf (F := Ideal) x v0 v2 v4 v6 v8 v10 n).2.2.1 (ix2 b u)) = (lay2 x v0 v2 v4 v6 v8 v10 b n).1
    ∧ (fun u => (seqOf (F := Ideal) x v0 v2 v4 v6 v8 v10 n).2.2.2 (ix2 b u)) = (lay2 x v0 v2 v4 v6 v8 v10 b n).2 := by
  induction n with
  | zero => exact ⟨funext fun u => zero_at b u, funext fun u => zero_at b u, funext fun u => zero_at b u, funext fun u => zero_at b u⟩
  | succ n ih =>
    obtain ⟨i1, i2, i3, i4⟩ := ih (by omega)
    have ht : n < k1_t1_loop.trips := by rw [trips_eq]; omega
    have hs := seqOf_succ (F := Ideal) x v0 v2 v4 v6 v8 v10 ⟨n, ht⟩
    have hx : (fun c => rowAt (F := Ideal) x ⟨n, ht⟩ (ix3 0 b c)) = seqIn x b n := funext fun c => by
      rw [row_at x ⟨n, ht⟩ (show n < 256 by omega)]; unfold seqIn; rw [dif_pos (show n < 256 by omega)]
    dsimp only at hs
    rw [hs]
    unfold stepOf
    dsimp only
    generalize seqOf (F := Ideal) x v0 v2 v4 v6 v8 v10 n = s at i1 i2 i3 i4 ⊢
    have e1 : (fun u => k1_pay4 (F := Ideal) v0 v2 v4 s.1 s.2.1 (rowAt x ⟨n, ht⟩) (ix2 b u)) = (lay1 x v0 v2 v4 b (n + 1)).1 := funext fun u => by
      simp only [hid1_at, gates1_at, hx, i1, i2]; rfl
    refine ⟨e1, funext fun u => ?_, funext fun u => ?_, funext fun u => ?_⟩
    · simp only [cell1_at, gates1_at, hx, i1, i2]; rfl
    · simp only [hid2_at, gates2_at, e1, i3, i4]; rfl
    · simp only [cell2_at, gates2_at, e1, i3, i4]; rfl

/-- The second layer's hidden states, and the projection of them. -/
theorem out1_at (w : FVec Ideal S8x50x32 .f32) (o : FVec Ideal S1x8 .f32) (t : Fin 256) (q : Fin 8) :
    k1_pay9 (F := Ideal) (hsOf x v0 v2 v4 v6 v8 v10) w o (ix2 t q) = ∑ p : Fin 50, ∑ u : Fin 32, (lay2 x v0 v2 v4 v6 v8 v10 p (t.1 + 1)).1 u * w (ix3 q p u) + o (ix2 0 q) := by
  rw [proj_at]
  congr 1
  refine Finset.sum_congr rfl fun p _ => Finset.sum_congr rfl fun u _ => ?_
  rw [← (seq_rec x v0 v2 v4 v6 v8 v10 p (t.1 + 1) (by omega)).2.2.1]
  rfl
end
end Cert.KernelIdeal.Hand
-- ==== Proof.Net.lean ====
module
public import proofs.«01_k».proof.Proof.Lstm

/-!
The whole answer after the attention layers: two recurrent layers over each batch row, then one sum over every row and hidden unit.
-/

@[expose] public section
noncomputable section
namespace Cert.Gat

/-- Two recurrences agree up to a step when their inputs do before it. -/
theorem rec_congr {K : ℕ} (xs ys : ℕ → Fin K → EReal) (wi : Fin 128 → Fin K → EReal) (wh : Fin 128 → Fin 32 → EReal) (b : Fin 128 → EReal) :
    ∀ n, (∀ i, i < n → xs i = ys i) → Gat.rec xs wi wh b n = Gat.rec ys wi wh b n
  | 0, _ => rfl
  | n + 1, h => by
    have ih := rec_congr xs ys wi wh b n fun i hi => h i (by omega)
    rw [rec_succ, rec_succ, ih, h n (by omega)]

/-- A sum over 1600 numbers is one over 50 rows of 32. -/
theorem sum_rows (g : Fin 1600 → EReal) : ∑ x, g x = ∑ p : Fin 50, ∑ u : Fin 32, g ⟨p.1 * 32 + u.1, by omega⟩ := by
  rw [← Fintype.sum_prod_type']
  refine (Fintype.sum_equiv (finProdFinEquiv (m := 50) (n := 32)) (fun y : Fin 50 × Fin 32 => g ⟨y.1.1 * 32 + y.2.1, by omega⟩) g fun y => ?_).symm
  refine congrArg g (Fin.ext ?_)
  show y.1.1 * 32 + y.2.1 = y.2.1 + 32 * y.1.1
  omega

/-- The answer at a step and an output. -/
def net (x : ℕ → Fin 50 → Fin 51 → EReal) (wi0 : Fin 128 → Fin 51 → EReal) (wh0 : Fin 128 → Fin 32 → EReal) (b0 : Fin 128 → EReal) (wi1 wh1 : Fin 128 → Fin 32 → EReal) (b1 : Fin 128 → EReal)
    (wo : Fin 8 → Fin 1600 → EReal) (bo : Fin 8 → EReal) (t : Fin 256) (q : Fin 8) : EReal :=
  ∑ p : Fin 50, ∑ u : Fin 32, (Gat.rec (fun n => (Gat.rec (fun n => x n p) wi0 wh0 b0 (n + 1)).1) wi1 wh1 b1 (t.1 + 1)).1 u * wo q ⟨p.1 * 32 + u.1, by omega⟩ + bo q

end Cert.Gat
-- ==== Proof.KRead.lean ====
module
public import proofs.«01_k».proof.Proof.KHost
public import proofs.«01_k».proof.Proof.KGatReal
public import proofs.«01_k».proof.Proof.KLstm
public import proofs.«01_k».proof.Proof.Net
public import Idealize.ShloMosaic.Lib.Pipeline.Value

/-!
The kernel's two calls read back: the first call's array block by block, the second call's whole array.
-/

@[expose] public section
noncomputable section
namespace Cert.KernelIdeal.Hand
open Cert.KernelIdeal Cert.KernelIdeal.Gen
open Idealize.ShloMosaic Idealize.ShloMosaic.TcCoe Idealize.ShloMosaic.StableHlo Idealize.ShloMosaic.Pointwise
open Idealize.ShloMosaic.Pipeline (Dat)

/-! ## Where each block sits -/

theorem at0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem at0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem at0_2 : ∀ t : Fin cfg0.N, win0_2.index t 0 = 0 ∧ win0_2.index t 1 = 0 :=
  (by decide +kernel : ∀ t : Fin grid0.N, win0_2.index t 0 = 0 ∧ win0_2.index t 1 = 0)
theorem at0_3 : ∀ t : Fin cfg0.N, win0_3.index t 0 = 0 ∧ win0_3.index t 1 = 0 :=
  (by decide +kernel : ∀ t : Fin grid0.N, win0_3.index t 0 = 0 ∧ win0_3.index t 1 = 0)
theorem at0_4 : ∀ t : Fin cfg0.N, win0_4.index t 0 = 0 ∧ win0_4.index t 1 = 0 :=
  (by decide +kernel : ∀ t : Fin grid0.N, win0_4.index t 0 = 0 ∧ win0_4.index t 1 = 0)
theorem at0_5 : ∀ t : Fin cfg0.N, win0_5.index t 0 = t.val ∧ win0_5.index t 1 = 0 :=
  (by decide +kernel : ∀ t : Fin grid0.N, win0_5.index t 0 = t.val ∧ win0_5.index t 1 = 0)

theorem points0 : cfg0.N = 400 := by decide +kernel

section
variable (V : (c : Dev nD) → (b : Ref sig .tc) → Buf (Elt Ideal) ((c : Thread nD τ).loc b)) (c : Dev nD) (t : Fin cfg0.N)

theorem blk0_0 (g : Fin 32) (n : Fin 51) (x : Fin 3) :
    (iblk0 V c 0 t : FVec Ideal S32x51x3 .f32) (ix3 g n x) = (V c main_v2 : FVec Ideal S12800x51x3 .f32) (ix3 ⟨t.1 * 32 + g.1, by have := t.2; have := points0; omega⟩ n x) := by
  have h := at0_0 t
  refine congrArg (V c main_v2 : FVec Ideal S12800x51x3 .f32) (funext fun a => Fin.ext ?_)
  match a with
  | ⟨0, _⟩ => show win0_0.index t 0 * 32 + 1 * g.1 = t.1 * 32 + g.1; rw [h.1]; omega
  | ⟨1, _⟩ => show win0_0.index t 1 * 51 + 1 * n.1 = n.1; rw [h.2.1]; omega
  | ⟨2, _⟩ => show win0_0.index t 2 * 3 + 1 * x.1 = x.1; rw [h.2.2]; omega
theorem blk0_1 (g : Fin 32) (x : Fin 2) (n : Fin 51) :
    (iblk0 V c 1 t : FVec Ideal S32x2x51 .f32) (ix3 g x n) = (V c main_v3 : FVec Ideal S12800x2x51 .f32) (ix3 ⟨t.1 * 32 + g.1, by have := t.2; have := points0; omega⟩ x n) := by
  have h := at0_1 t
  refine congrArg (V c main_v3 : FVec Ideal S12800x2x51 .f32) (funext fun a => Fin.ext ?_)
  match a with
  | ⟨0, _⟩ => show win0_1.index t 0 * 32 + 1 * g.1 = t.1 * 32 + g.1; rw [h.1]; omega
  | ⟨1, _⟩ => show win0_1.index t 1 * 2 + 1 * x.1 = x.1; rw [h.2.1]; omega
  | ⟨2, _⟩ => show win0_1.index t 2 * 51 + 1 * n.1 = n.1; rw [h.2.2]; omega
theorem blk0_2 (i : Fin 4) (j : Fin 4) : (iblk0 V c 2 t : FVec Ideal S4x4 .f32) (ix2 i j) = (V c main_v10 : FVec Ideal S4x4 .f32) (ix2 i j) := by
  have h := at0_2 t
  refine congrArg (V c main_v10 : FVec Ideal S4x4 .f32) (funext fun a => Fin.ext ?_)
  match a with
  | ⟨0, _⟩ => show win0_2.index t 0 * 4 + 1 * i.1 = i.1; rw [h.1]; omega
  | ⟨1, _⟩ => show win0_2.index t 1 * 4 + 1 * j.1 = j.1; rw [h.2]; omega
theorem blk0_3 (i : Fin 8) (j : Fin 256) : (iblk0 V c 3 t : FVec Ideal S8x256 .f32) (ix2 i j) = (V c main_v39 : FVec Ideal S8x256 .f32) (ix2 i j) := by
  have h := at0_3 t
  refine congrArg (V c main_v39 : FVec Ideal S8x256 .f32) (funext fun a => Fin.ext ?_)
  match a with
  | ⟨0, _⟩ => show win0_3.index t 0 * 8 + 1 * i.1 = i.1; rw [h.1]; omega
  | ⟨1, _⟩ => show win0_3.index t 1 * 256 + 1 * j.1 = j.1; rw [h.2]; omega
theorem blk0_4 (i : Fin 256) (j : Fin 130) : (iblk0 V c 4 t : FVec Ideal S256x130 .f32) (ix2 i j) = (V c main_v49 : FVec Ideal S256x130 .f32) (ix2 i j) := by
  have h := at0_4 t
  refine congrArg (V c main_v49 : FVec Ideal S256x130 .f32) (funext fun a => Fin.ext ?_)
  match a with
  | ⟨0, _⟩ => show win0_4.index t 0 * 256 + 1 * i.1 = i.1; rw [h.1]; omega
  | ⟨1, _⟩ => show win0_4.index t 1 * 130 + 1 * j.1 = j.1; rw [h.2]; omega

theorem apart : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have e := congrFun (show win0_5.index t = win0_5.index t' from h) 0
    rw [(at0_5 t).1, (at0_5 t').1] at e
    exact e))

theorem flushes : ∀ t : Fin cfg0.N, (cfg0.win 5).flush t = true := (by decide +kernel : ∀ t : Fin grid0.N, win0_5.flush t = true)

/-- A block of the first call's array is what its point computed. -/
theorem out0_at (g : Fin 32) (k : Fin 51) :
    ((dat0 V c).arrAt 5 cfg0.N : FVec Ideal S12800x51 .f32) (ix2 ⟨t.1 * 32 + g.1, by have := t.2; have := points0; omega⟩ k)
      = kout (iblk0 V c 0 t) (iblk0 V c 1 t) (iblk0 V c 2 t) (iblk0 V c 3 t) (iblk0 V c 4 t) (ix2 g k) := by
  have h := (dat0 V c).read_blk_arrAt_eq_flushed 5 apart cfg0.N t t.isLt (flushes t)
  have hf : (dat0 V c).flushed 5 t = (cfg0.win 5).cut (grid0.coords t) (outsAt0 V c t) := by
    show (cfg0.win 5).cut (grid0.coords t) ((dat0 V c).after 5 t) = _
    rw [after0_5]
  rw [hf] at h
  have h2 := congrFun h (ix2 g k)
  have h5 := at0_5 t
  refine Eq.trans ?_ (h2.trans ?_)
  · refine congrArg ((dat0 V c).arrAt 5 cfg0.N : FVec Ideal S12800x51 .f32) (funext fun a => Fin.ext ?_)
    match a with
    | ⟨0, _⟩ => show t.1 * 32 + g.1 = win0_5.index t 0 * 32 + 1 * g.1; rw [h5.1]; omega
    | ⟨1, _⟩ => show k.1 = win0_5.index t 1 * 51 + 1 * k.1; rw [h5.2]; omega
  · show outsAt0 V c t (ix2 g k) = _
    unfold outsAt0
    rw [out0_eq]
end

/-! ## The second call, whole -/

theorem points1 : 0 < cfg1.N := by decide +kernel
theorem at1_0 : ∀ t : Fin cfg1.N, win1_0.index t 0 = 0 ∧ win1_0.index t 1 = 0 ∧ win1_0.index t 2 = 0 :=
  (by decide +kernel : ∀ t : Fin grid1.N, win1_0.index t 0 = 0 ∧ win1_0.index t 1 = 0 ∧ win1_0.index t 2 = 0)
theorem at1_1 : ∀ t : Fin cfg1.N, win1_1.index t 0 = 0 ∧ win1_1.index t 1 = 0 :=
  (by decide +kernel : ∀ t : Fin grid1.N, win1_1.index t 0 = 0 ∧ win1_1.index t 1 = 0)
theorem at1_2 : ∀ t : Fin cfg1.N, win1_2.index t 0 = 0 ∧ win1_2.index t 1 = 0 :=
  (by decide +kernel : ∀ t : Fin grid1.N, win1_2.index t 0 = 0 ∧ win1_2.index t 1 = 0)
theorem at1_3 : ∀ t : Fin cfg1.N, win1_3.index t 0 = 0 ∧ win1_3.index t 1 = 0 :=
  (by decide +kernel : ∀ t : Fin grid1.N, win1_3.index t 0 = 0 ∧ win1_3.index t 1 = 0)
theorem at1_4 : ∀ t : Fin cfg1.N, win1_4.index t 0 = 0 ∧ win1_4.index t 1 = 0 :=
  (by decide +kernel : ∀ t : Fin grid1.N, win1_4.index t 0 = 0 ∧ win1_4.index t 1 = 0)
theorem at1_5 : ∀ t : Fin cfg1.N, win1_5.index t 0 = 0 ∧ win1_5.index t 1 = 0 :=
  (by decide +kernel : ∀ t : Fin grid1.N, win1_5.index t 0 = 0 ∧ win1_5.index t 1 = 0)
theorem at1_6 : ∀ t : Fin cfg1.N, win1_6.index t 0 = 0 ∧ win1_6.index t 1 = 0 :=
  (by decide +kernel : ∀ t : Fin grid1.N, win1_6.index t 0 = 0 ∧ win1_6.index t 1 = 0)
theorem at1_7 : ∀ t : Fin cfg1.N, win1_7.index t 0 = 0 ∧ win1_7.index t 1 = 0 ∧ win1_7.index t 2 = 0 :=
  (by decide +kernel : ∀ t : Fin grid1.N, win1_7.index t 0 = 0 ∧ win1_7.index t 1 = 0 ∧ win1_7.index t 2 = 0)
theorem at1_8 : ∀ t : Fin cfg1.N, win1_8.index t 0 = 0 ∧ win1_8.index t 1 = 0 :=
  (by decide +kernel : ∀ t : Fin grid1.N, win1_8.index t 0 = 0 ∧ win1_8.index t 1 = 0)
theorem at1_9 : ∀ t : Fin cfg1.N, win1_9.index t 0 = 0 ∧ win1_9.index t 1 = 0 :=
  (by decide +kernel : ∀ t : Fin grid1.N, win1_9.index t 0 = 0 ∧ win1_9.index t 1 = 0)

section
variable (V : (c : Dev nD) → (b : Ref sig .tc) → Buf (Elt Ideal) ((c : Thread nD τ).loc b)) (c : Dev nD) (t : Fin cfg1.N)

theorem blk1_0 : (iblk1 V c 0 t : FVec Ideal S256x50x51 .f32) = (V c main_v51 : FVec Ideal S256x50x51 .f32) := by
  have h := at1_0 t
  refine funext fun i => congrArg (V c main_v51 : FVec Ideal S256x50x51 .f32) (funext fun a => Fin.ext ?_)
  match a with
  | ⟨0, _⟩ => show win1_0.index t 0 * 256 + 1 * (i 0).1 = (i 0).1; rw [h.1]; omega
  | ⟨1, _⟩ => show win1_0.index t 1 * 50 + 1 * (i 1).1 = (i 1).1; rw [h.2.1]; omega
  | ⟨2, _⟩ => show win1_0.index t 2 * 51 + 1 * (i 2).1 = (i 2).1; rw [h.2.2]; omega
theorem blk1_1 : (iblk1 V c 1 t : FVec Ideal S51x128 .f32) = (V c main_v58 : FVec Ideal S51x128 .f32) := by
  have h := at1_1 t
  refine funext fun i => congrArg (V c main_v58 : FVec Ideal S51x128 .f32) (funext fun a => Fin.ext ?_)
  match a with
  | ⟨0, _⟩ => show win1_1.index t 0 * 51 + 1 * (i 0).1 = (i 0).1; rw [h.1]; omega
  | ⟨1, _⟩ => show win1_1.index t 1 * 128 + 1 * (i 1).1 = (i 1).1; rw [h.2]; omega
theorem blk1_2 : (iblk1 V c 2 t : FVec Ideal S32x128 .f32) = (V c main_v59 : FVec Ideal S32x128 .f32) := by
  have h := at1_2 t
  refine funext fun i => congrArg (V c main_v59 : FVec Ideal S32x128 .f32) (funext fun a => Fin.ext ?_)
  match a with
  | ⟨0, _⟩ => show win1_2.index t 0 * 32 + 1 * (i 0).1 = (i 0).1; rw [h.1]; omega
  | ⟨1, _⟩ => show win1_2.index t 1 * 128 + 1 * (i 1).1 = (i 1).1; rw [h.2]; omega
theorem blk1_3 : (iblk1 V c 3 t : FVec Ideal S1x128 .f32) = (V c main_v53 : FVec Ideal S1x128 .f32) := by
  have h := at1_3 t
  refine funext fun i => congrArg (V c main_v53 : FVec Ideal S1x128 .f32) (funext fun a => Fin.ext ?_)
  match a with
  | ⟨0, _⟩ => show win1_3.index t 0 * 1 + 1 * (i 0).1 = (i 0).1; rw [h.1]; omega
  | ⟨1, _⟩ => show win1_3.index t 1 * 128 + 1 * (i 1).1 = (i 1).1; rw [h.2]; omega
theorem blk1_4 : (iblk1 V c 4 t : FVec Ideal S32x128 .f32) = (V c main_v60 : FVec Ideal S32x128 .f32) := by
  have h := at1_4 t
  refine funext fun i => congrArg (V c main_v60 : FVec Ideal S32x128 .f32) (funext fun a => Fin.ext ?_)
  match a with
  | ⟨0, _⟩ => show win1_4.index t 0 * 32 + 1 * (i 0).1 = (i 0).1; rw [h.1]; omega
  | ⟨1, _⟩ => show win1_4.index t 1 * 128 + 1 * (i 1).1 = (i 1).1; rw [h.2]; omega
theorem blk1_5 : (iblk1 V c 5 t : FVec Ideal S32x128 .f32) = (V c main_v61 : FVec Ideal S32x128 .f32) := by
  have h := at1_5 t
  refine funext fun i => congrArg (V c main_v61 : FVec Ideal S32x128 .f32) (funext fun a => Fin.ext ?_)
  match a with
  | ⟨0, _⟩ => show win1_5.index t 0 * 32 + 1 * (i 0).1 = (i 0).1; rw [h.1]; omega
  | ⟨1, _⟩ => show win1_5.index t 1 * 128 + 1 * (i 1).1 = (i 1).1; rw [h.2]; omega
theorem blk1_6 : (iblk1 V c 6 t : FVec Ideal S1x128 .f32) = (V c main_v55 : FVec Ideal S1x128 .f32) := by
  have h := at1_6 t
  refine funext fun i => congrArg (V c main_v55 : FVec Ideal S1x128 .f32) (funext fun a => Fin.ext ?_)
  match a with
  | ⟨0, _⟩ => show win1_6.index t 0 * 1 + 1 * (i 0).1 = (i 0).1; rw [h.1]; omega
  | ⟨1, _⟩ => show win1_6.index t 1 * 128 + 1 * (i 1).1 = (i 1).1; rw [h.2]; omega
theorem blk1_7 : (iblk1 V c 7 t : FVec Ideal S8x50x32 .f32) = (V c main_v56 : FVec Ideal S8x50x32 .f32) := by
  have h := at1_7 t
  refine funext fun i => congrArg (V c main_v56 : FVec Ideal S8x50x32 .f32) (funext fun a => Fin.ext ?_)
  match a with
  | ⟨0, _⟩ => show win1_7.index t 0 * 8 + 1 * (i 0).1 = (i 0).1; rw [h.1]; omega
  | ⟨1, _⟩ => show win1_7.index t 1 * 50 + 1 * (i 1).1 = (i 1).1; rw [h.2.1]; omega
  | ⟨2, _⟩ => show win1_7.index t 2 * 32 + 1 * (i 2).1 = (i 2).1; rw [h.2.2]; omega
theorem blk1_8 : (iblk1 V c 8 t : FVec Ideal S1x8 .f32) = (V c main_v57 : FVec Ideal S1x8 .f32) := by
  have h := at1_8 t
  refine funext fun i => congrArg (V c main_v57 : FVec Ideal S1x8 .f32) (funext fun a => Fin.ext ?_)
  match a with
  | ⟨0, _⟩ => show win1_8.index t 0 * 1 + 1 * (i 0).1 = (i 0).1; rw [h.1]; omega
  | ⟨1, _⟩ => show win1_8.index t 1 * 8 + 1 * (i 1).1 = (i 1).1; rw [h.2]; omega

theorem flushes1 : ∀ t : Fin cfg1.N, (cfg1.win 9).flush t = true := (by decide +kernel : ∀ t : Fin grid1.N, win1_9.flush t = true)
theorem one_point : ∀ t t' : Fin cfg1.N, t = t' := (by decide +kernel : ∀ t t' : Fin grid1.N, t = t')

include t in
/-- The second call's array is what its one point computed. -/
theorem outWhole_at (s : Fin 256) (q : Fin 8) : ((dat1 V c).arrAt 9 cfg1.N : FVec Ideal S256x8 .f32) (ix2 s q)
    = k1_pay9 (F := Ideal) (hsOf (F := Ideal) (V c main_v51 : FVec Ideal S256x50x51 .f32) (V c main_v58) (V c main_v59) (V c main_v53) (V c main_v60) (V c main_v61) (V c main_v55)) (V c main_v56) (V c main_v57) (ix2 s q) := by
  have h := (dat1 V c).read_blk_arrAt_eq_flushed 9 (fun t t' _ _ hne => absurd (one_point t t') hne) cfg1.N t t.isLt (flushes1 t)
  have hf : (dat1 V c).flushed 9 t = (cfg1.win 9).cut (grid1.coords t) (outsAt1 V c t) := by
    show (cfg1.win 9).cut (grid1.coords t) ((dat1 V c).after 9 t) = _
    rw [after1_9]
  rw [hf] at h
  have h2 := congrFun h (ix2 s q)
  have h5 := at1_9 t
  refine Eq.trans ?_ (h2.trans ?_)
  · refine congrArg ((dat1 V c).arrAt 9 cfg1.N : FVec Ideal S256x8 .f32) (funext fun a => Fin.ext ?_)
    match a with
    | ⟨0, _⟩ => show s.1 = win1_9.index t 0 * 256 + 1 * s.1; rw [h5.1]; omega
    | ⟨1, _⟩ => show q.1 = win1_9.index t 1 * 8 + 1 * q.1; rw [h5.2]; omega
  · show outsAt1 V c t (ix2 s q) = _
    unfold outsAt1
    rw [blk1_0, blk1_1, blk1_2, blk1_3, blk1_4, blk1_5, blk1_6, blk1_7, blk1_8]
end

/-! ## The kernel's answer -/

section
variable (m : (ℓ : Loc nD τ sig) → Buf (Elt Ideal) ℓ) (ρ : Dev nD → PrngReg) (c : Dev nD)

abbrev kr0 : FVec Ideal S256x50x51x2 .f32 := m ((c.tc : Thread nD τ).loc main_arg0)
abbrev kr1 : FVec Ideal S4x64x2 .f32 := m ((c.tc : Thread nD τ).loc main_arg1)
abbrev kr2 : FVec Ideal S4x1x128 .f32 := m ((c.tc : Thread nD τ).loc main_arg2)
abbrev kr3 : FVec Ideal S128x256 .f32 := m ((c.tc : Thread nD τ).loc main_arg3)
abbrev kr4 : FVec Ideal S1x256 .f32 := m ((c.tc : Thread nD τ).loc main_arg4)
abbrev kr5 : FVec Ideal S128x51 .f32 := m ((c.tc : Thread nD τ).loc main_arg5)
abbrev kr6 : FVec Ideal S128x32 .f32 := m ((c.tc : Thread nD τ).loc main_arg6)
abbrev kr7 : FVec Ideal S128 .f32 := m ((c.tc : Thread nD τ).loc main_arg7)
abbrev kr8 : FVec Ideal S128 .f32 := m ((c.tc : Thread nD τ).loc main_arg8)
abbrev kr9 : FVec Ideal S128x32 .f32 := m ((c.tc : Thread nD τ).loc main_arg9)
abbrev kr10 : FVec Ideal S128x32 .f32 := m ((c.tc : Thread nD τ).loc main_arg10)
abbrev kr11 : FVec Ideal S128 .f32 := m ((c.tc : Thread nD τ).loc main_arg11)
abbrev kr12 : FVec Ideal S128 .f32 := m ((c.tc : Thread nD τ).loc main_arg12)
abbrev kr13 : FVec Ideal S8x1600 .f32 := m ((c.tc : Thread nD τ).loc main_arg13)
abbrev kr14 : FVec Ideal S8 .f32 := m ((c.tc : Thread nD τ).loc main_arg14)

/-- The first call's array. -/
abbrev graphs : FVec Ideal S12800x51 .f32 := (dat0 (V1 m ρ) c).arrAt 5 cfg0.N
/-- Two bias vectors added. -/
def ksum (a b : FVec Ideal S128 .f32) (j : Fin 128) : EReal := a (ix1 j) + b (ix1 j)
/-- The inputs of the recurrent layers. -/
def kfeed (n : ℕ) (b : Fin 50) (k : Fin 51) : EReal := if h : n < 256 then graphs m ρ c (ix2 ⟨n * 50 + b.1, by omega⟩ k) else 0

theorem seqIn_v51 (b : Fin 50) (n : ℕ) : seqIn (W3 m ρ c (Proc.devRef .tc main_v51)) b n = kfeed m ρ c n b := by
  funext k
  unfold seqIn kfeed
  by_cases h : n < 256
  · rw [dif_pos h, dif_pos h]
    refine (v51_at (W2 m ρ c) ⟨n, h⟩ b k).trans ?_
    exact congrFun (W2_arr m ρ c 5) (ix2 ⟨n * 50 + b.1, by omega⟩ k)
  · rw [dif_neg h, dif_neg h]

theorem kernel_net (t : Fin 256) (q : Fin 8) : (W4 m ρ c (Proc.devRef .tc main_v62) : FVec Ideal S256x8 .f32) (ix2 t q)
    = Gat.net (kfeed m ρ c) (fun j k => kr5 m c (ix2 j k)) (fun j k => kr6 m c (ix2 j k)) (ksum (kr7 m c) (kr8 m c)) (fun j k => kr9 m c (ix2 j k)) (fun j k => kr10 m c (ix2 j k)) (ksum (kr11 m c) (kr12 m c))
      (fun q x => kr13 m c (ix2 q x)) (fun q => kr14 m c (ix1 q)) t q := by
  refine (congrFun (W4_arr m ρ c 9) (ix2 t q)).trans ?_
  refine (outWhole_at (V3 m ρ) c ⟨0, points1⟩ t q).trans ?_
  refine (out1_at _ _ _ _ _ _ _ _ _ t q).trans ?_
  have e5 : (fun (j : Fin 128) (k : Fin 51) => (V3 m ρ c main_v58 : FVec Ideal S51x128 .f32) (ix2 k j)) = fun j k => kr5 m c (ix2 j k) :=
    funext fun j => funext fun k => (v58_at (W2 m ρ c) k j).trans (congrFun (W2_args m ρ c main_arg5 (by decide)) (ix2 j k))
  have e6 : (fun (j : Fin 128) (k : Fin 32) => (V3 m ρ c main_v59 : FVec Ideal S32x128 .f32) (ix2 k j)) = fun j k => kr6 m c (ix2 j k) :=
    funext fun j => funext fun k => (v59_at (W2 m ρ c) k j).trans (congrFun (W2_args m ρ c main_arg6 (by decide)) (ix2 j k))
  have e9 : (fun (j : Fin 128) (k : Fin 32) => (V3 m ρ c main_v60 : FVec Ideal S32x128 .f32) (ix2 k j)) = fun j k => kr9 m c (ix2 j k) :=
    funext fun j => funext fun k => (v60_at (W2 m ρ c) k j).trans (congrFun (W2_args m ρ c main_arg9 (by decide)) (ix2 j k))
  have e10 : (fun (j : Fin 128) (k : Fin 32) => (V3 m ρ c main_v61 : FVec Ideal S32x128 .f32) (ix2 k j)) = fun j k => kr10 m c (ix2 j k) :=
    funext fun j => funext fun k => (v61_at (W2 m ρ c) k j).trans (congrFun (W2_args m ρ c main_arg10 (by decide)) (ix2 j k))
  have e7 : (fun (j : Fin 128) => (V3 m ρ c main_v53 : FVec Ideal S1x128 .f32) (ix2 0 j)) = ksum (kr7 m c) (kr8 m c) :=
    funext fun j => (v53_at (W2 m ρ c) j).trans (congrArg₂ (fun a b : EReal => a + b) (congrFun (W2_args m ρ c main_arg7 (by decide)) (ix1 j)) (congrFun (W2_args m ρ c main_arg8 (by decide)) (ix1 j)))
  have e11 : (fun (j : Fin 128) => (V3 m ρ c main_v55 : FVec Ideal S1x128 .f32) (ix2 0 j)) = ksum (kr11 m c) (kr12 m c) :=
    funext fun j => (v55_at (W2 m ρ c) j).trans (congrArg₂ (fun a b : EReal => a + b) (congrFun (W2_args m ρ c main_arg11 (by decide)) (ix1 j)) (congrFun (W2_args m ρ c main_arg12 (by decide)) (ix1 j)))
  have l1 : ∀ b : Fin 50, lay1 (V3 m ρ c main_v51) (V3 m ρ c main_v58) (V3 m ρ c main_v59) (V3 m ρ c main_v53) b
      = Gat.rec (fun n => kfeed m ρ c n b) (fun j k => kr5 m c (ix2 j k)) (fun j k => kr6 m c (ix2 j k)) (ksum (kr7 m c) (kr8 m c)) := fun b => by
    unfold lay1
    rw [e5, e6, e7, show seqIn (V3 m ρ c main_v51) b = fun n => kfeed m ρ c n b from funext fun n => seqIn_v51 m ρ c b n]
  unfold Gat.net
  refine congrArg₂ (fun a b : EReal => a + b) (Finset.sum_congr rfl fun p _ => Finset.sum_congr rfl fun u _ => congrArg₂ (fun a b : EReal => a * b) ?_ ?_) ?_
  · unfold lay2
    rw [l1, e9, e10, e11]
  · exact (v56_at (W2 m ρ c) q p u).trans (congrFun (W2_args m ρ c main_arg13 (by decide)) (ix2 q ⟨p.1 * 32 + u.1, by omega⟩))
  · exact (v57_at (W2 m ρ c) q).trans (congrFun (W2_args m ρ c main_arg14 (by decide)) (ix1 q))

variable (X : Fin 256 → Fin 50 → Fin 51 → Fin 2 → ℝ) (w1 : Fin 4 → Fin 64 → Fin 2 → ℝ) (a1 : Fin 4 → Fin 128 → ℝ) (w2 : Fin 128 → Fin 256 → ℝ) (a2 : Fin 256 → ℝ)

theorem prepared (h0 : ∀ s b n x, kr0 m c (ix4 s b n x) = ((X s b n x : ℝ) : EReal)) (h1 : ∀ h d x, kr1 m c (ix3 h d x) = ((w1 h d x : ℝ) : EReal)) (h2 : ∀ h d, kr2 m c (ix3 h 0 d) = ((a1 h d : ℝ) : EReal))
    (h3 : ∀ o j, kr3 m c (ix2 o j) = ((w2 o j : ℝ) : EReal)) (h4 : ∀ j, kr4 m c (ix2 0 j) = ((a2 j : ℝ) : EReal)) (t : Fin cfg0.N) :
    Prepared (fun g : Fin 32 => X ⟨(t.1 * 32 + g.1) / 50, by have := t.2; have := points0; omega⟩ ⟨(t.1 * 32 + g.1) % 50, by omega⟩) w1 a1 w2 a2
      (iblk0 (V1 m ρ) c 0 t) (iblk0 (V1 m ρ) c 1 t) (iblk0 (V1 m ρ) c 2 t) (iblk0 (V1 m ρ) c 3 t) (iblk0 (V1 m ρ) c 4 t) where
  h0 g n x := by
    refine (blk0_0 (V1 m ρ) c t g n ⟨x.1, by omega⟩).trans ((v2_at (W0 m ρ c) _ _ _).trans ?_)
    rw [dif_pos (show (⟨x.1, by omega⟩ : Fin 3).1 < 2 from x.2)]
    exact h0 _ _ _ _
  h0' g n := by
    refine (blk0_0 (V1 m ρ) c t g n 2).trans ((v2_at (W0 m ρ c) _ _ _).trans ?_)
    rw [dif_neg (show ¬ (2 : Fin 3).1 < 2 by decide)]
  h1 g n x := (blk0_1 (V1 m ρ) c t g x n).trans ((v3_at (W0 m ρ c) _ _ _).trans (h0 _ _ _ _))
  h2a h x := by
    refine (blk0_2 (V1 m ρ) c t h ⟨x.1, by omega⟩).trans ((v10_at (W0 m ρ c) _ _).trans ?_)
    rw [dif_pos (show (⟨x.1, by omega⟩ : Fin 4).1 < 2 from x.2)]
    exact Finset.sum_congr rfl fun d _ => congrArg₂ (fun a b : EReal => a * b) (h1 _ _ _) (h2 _ _)
  h2b h x := by
    refine (blk0_2 (V1 m ρ) c t h ⟨2 + x.1, by omega⟩).trans ((v10_at (W0 m ρ c) _ _).trans ?_)
    rw [dif_neg (show ¬ (⟨2 + x.1, by omega⟩ : Fin 4).1 < 2 from fun hh => by have hh' : 2 + x.1 < 2 := hh; omega)]
    refine Finset.sum_congr rfl fun d _ => congrArg₂ (fun a b : EReal => a * b) ?_ (h2 _ _)
    rw [show (⟨(⟨2 + x.1, by omega⟩ : Fin 4).1 - 2, by show 2 + x.1 - 2 < 2; omega⟩ : Fin 2) = x from Fin.ext (by show 2 + x.1 - 2 = x.1; omega)]
    exact h1 _ _ _
  h3 h x h' d := by
    refine (blk0_3 (V1 m ρ) c t _ _).trans ((congrFun (v39_eq (W0 m ρ c)) _).trans ((w1bd_at _ h h' x d).trans ?_))
    by_cases e : h = h'
    · rw [if_pos e, if_pos e]; exact h1 _ _ _
    · rw [if_neg e, if_neg e]
  h4a j o := by
    refine (blk0_4 (V1 m ρ) c t _ _).trans ((congrFun (v49_eq (W0 m ρ c)) _).trans ((wc_at0 _ _ _ j o).trans ((wt2_at _ j o).trans (h3 o j))))
  h4b j := by
    refine (blk0_4 (V1 m ρ) c t _ _).trans ((congrFun (v49_eq (W0 m ρ c)) _).trans ((wc_at1 _ _ _ j).trans ((wcol_at _ _ j).trans ?_)))
    exact Finset.sum_congr rfl fun o _ => congrArg₂ (fun a b : EReal => a * b) ((wt2_at _ j o).trans (h3 o j)) ((alo_at _ o).trans (h4 _))
  h4c j := by
    refine (blk0_4 (V1 m ρ) c t _ _).trans ((congrFun (v49_eq (W0 m ρ c)) _).trans ((wc_at2 _ _ _ j).trans ((wcol_at _ _ j).trans ?_)))
    exact Finset.sum_congr rfl fun o _ => congrArg₂ (fun a b : EReal => a * b) ((wt2_at _ j o).trans (h3 o j)) ((ahi_at _ o).trans (h4 _))

/-- The first call's array is the two layers' answer at each graph. -/
theorem graphs_real (h0 : ∀ s b n x, kr0 m c (ix4 s b n x) = ((X s b n x : ℝ) : EReal)) (h1 : ∀ h d x, kr1 m c (ix3 h d x) = ((w1 h d x : ℝ) : EReal)) (h2 : ∀ h d, kr2 m c (ix3 h 0 d) = ((a1 h d : ℝ) : EReal))
    (h3 : ∀ o j, kr3 m c (ix2 o j) = ((w2 o j : ℝ) : EReal)) (h4 : ∀ j, kr4 m c (ix2 0 j) = ((a2 j : ℝ) : EReal)) (s : Fin 256) (b : Fin 50) (k : Fin 51) :
    graphs m ρ c (ix2 ⟨s.1 * 50 + b.1, by omega⟩ k) = ((Gat.ext (X s b) w1 a1 w2 a2 k : ℝ) : EReal) := by
  have hN := points0
  have hP := prepared m ρ c X w1 a1 w2 a2 h0 h1 h2 h3 h4 ⟨(s.1 * 50 + b.1) / 32, by omega⟩
  have hr := kout_real _ w1 a1 w2 a2 hP ⟨(s.1 * 50 + b.1) % 32, by omega⟩ k
  have ho := out0_at (V1 m ρ) c ⟨(s.1 * 50 + b.1) / 32, by omega⟩ ⟨(s.1 * 50 + b.1) % 32, by omega⟩ k
  have hi : (s.1 * 50 + b.1) / 32 * 32 + (s.1 * 50 + b.1) % 32 = s.1 * 50 + b.1 := by omega
  refine Eq.trans ?_ (ho.trans (hr.trans ?_))
  · exact congrArg (fun n : Fin 12800 => graphs m ρ c (ix2 n k)) (Fin.ext hi.symm)
  · refine congrArg (fun x : Fin 51 → Fin 2 → ℝ => ((Gat.ext x w1 a1 w2 a2 k : ℝ) : EReal)) ?_
    refine congrArg₂ X (Fin.ext ?_) (Fin.ext ?_)
    · show ((s.1 * 50 + b.1) / 32 * 32 + (s.1 * 50 + b.1) % 32) / 50 = s.1; rw [hi]; omega
    · show ((s.1 * 50 + b.1) / 32 * 32 + (s.1 * 50 + b.1) % 32) % 50 = b.1; rw [hi]; omega
end
end Cert.KernelIdeal.Hand
-- ==== Proof.RefGat.lean ====
module
public import proofs.«01_k».proof.Proof.RefOps
public import proofs.«01_k».proof.Proof.Spec
public import Idealize.ShloMosaic.PureOps.Ideal
public import Idealize.ShloMosaic.Lib.Pointwise
public import Idealize.ShloMosaic.Lib.StableHlo.ReadAt

/-!
The reference program's two attention layers: what each stretch of host operations leaves, as one function per stage, and each stage read at an index.
-/

@[expose] public section
noncomputable section
namespace Cert.ReferenceIdeal.Hand
open Cert.ReferenceIdeal Cert.ReferenceIdeal.Gen
open Idealize.ShloMosaic Idealize.ShloMosaic.TcCoe Idealize.ShloMosaic.StableHlo Idealize.ShloMosaic.Pointwise

/-! ## The first layer's stages -/

/-- The projected features, by head. -/
def prj1 (x : FVec Ideal S256x50x51x2 .f32) (w : FVec Ideal S4x64x2 .f32) : FVec Ideal S256x50x51x4x64 .f32 :=
  Host.dotGeneral dot_S256x50x51x2_S4x2x64_S256x50x51x4x64_3_1_012_02_n_n none x (transpose S4x2x64 [0, 2, 1] w transposes_S4x64x2_S4x2x64_0_2_1)
/-- The source logits. -/
def src1 (z : FVec Ideal S256x50x51x4x64 .f32) (a : FVec Ideal S4x1x128 .f32) : FVec Ideal S256x50x4x51 .f32 :=
  transpose S256x50x4x51 [1, 2, 0, 3] (Host.dotGeneral dot_S256x50x51x4x64_S4x64_S4x256x50x51_4_1_012_n_3_0 none z (shapeCast S4x64 (extractStridedSlice S4x1x64 ![0, 0, 0] a slices_S4x1x128_S4x1x64_0_0_0) shapeCasts_S4x1x64_S4x64)) transposes_S4x256x50x51_S256x50x4x51_1_2_0_3
/-- The destination logits. -/
def dst1 (z : FVec Ideal S256x50x51x4x64 .f32) (a : FVec Ideal S4x1x128 .f32) : FVec Ideal S256x50x4x51 .f32 :=
  transpose S256x50x4x51 [1, 2, 0, 3] (Host.dotGeneral dot_S256x50x51x4x64_S4x64_S4x256x50x51_4_1_012_n_3_0 none z (shapeCast S4x64 (extractStridedSlice S4x1x64 ![0, 0, 64] a slices_S4x1x128_S4x1x64_0_0_64) shapeCasts_S4x1x64_S4x64)) transposes_S4x256x50x51_S256x50x4x51_1_2_0_3
/-- Every pair's logit. -/
def pair1 (s d : FVec Ideal S256x50x4x51 .f32) : FVec Ideal S256x50x4x51x51 .f32 :=
  addf (broadcastInDim S256x50x4x51x51 ![0, 1, 2, 3, 4] bcast_S256x50x4x51x1_S256x50x4x51x51_0_1_2_3_4 (broadcastInDim S256x50x4x51x1 ![0, 1, 2, 3] bcast_S256x50x4x51_S256x50x4x51x1_0_1_2_3 s))
    (broadcastInDim S256x50x4x51x51 ![0, 1, 2, 3, 4] bcast_S256x50x4x1x51_S256x50x4x51x51_0_1_2_3_4 (broadcastInDim S256x50x4x1x51 ![0, 1, 2, 4] bcast_S256x50x4x51_S256x50x4x1x51_0_1_2_4 d))
/-- The leaky rectifier. -/
def leak1 (s : FVec Ideal S_ .f32) (t : FVec Ideal S256x50x4x51x51 .f32) : FVec Ideal S256x50x4x51x51 .f32 :=
  select (cmpf .oge t (broadcastInDim S256x50x4x51x51 ![] bcast_S_S256x50x4x51x51 (constant S_ .f32 0x00000000#32))) t (mulf (broadcastInDim S256x50x4x51x51 ![] bcast_S_S256x50x4x51x51 s) t)
/-- Where the two node numbers agree. -/
def same : IVec S51x51 1 := cmpi .eq (addi (iotaInDim S51x51 32 0) (broadcastInDim S51x51 ![] bcast_S_S51x51 (constantI S_ 32 0#32))) (iotaInDim S51x51 32 1)
/-- The logits with each node's own masked. -/
def mask1 (q : IVec S51x51 1) (s : FVec Ideal S_ .f32) (t : FVec Ideal S256x50x4x51x51 .f32) : FVec Ideal S256x50x4x51x51 .f32 :=
  select (broadcastInDim S256x50x4x51x51 ![1, 2, 3, 4] bcast_S50x4x51x51_S256x50x4x51x51_1_2_3_4 (broadcastInDim S50x4x51x51 ![1, 2, 3] bcast_S4x51x51_S50x4x51x51_1_2_3 (broadcastInDim S4x51x51 ![1, 2] bcast_S51x51_S4x51x51_1_2 q)))
    (broadcastInDim S256x50x4x51x51 ![1, 2, 3, 4] bcast_S50x4x51x51_S256x50x4x51x51_1_2_3_4 (broadcastInDim S50x4x51x51 ![1, 2, 3] bcast_S4x51x51_S50x4x51x51_1_2_3 (broadcastInDim S4x51x51 ![1, 2] bcast_S51x51_S4x51x51_1_2 (broadcastInDim S51x51 ![] bcast_S_S51x51 s)))) t
/-- Each column's maximum. -/
def mx1 (e : FVec Ideal S256x50x4x51x51 .f32) : FVec Ideal S256x50x4x51 .f32 :=
  maximumf (broadcastInDim S256x50x4x51 ![] bcast_S_S256x50x4x51 (constant S_ .f32 0xFF800000#32)) (Host.reduce FloatOps.maximumf e (constant S_ .f32 0xFF800000#32) reducesTo_S256x50x4x51x51_S256x50x4x51_d3 h_S_)
/-- The shifted exponentials. -/
def pex1 (e : FVec Ideal S256x50x4x51x51 .f32) : FVec Ideal S256x50x4x51x51 .f32 :=
  Host.exp (subf e (broadcastInDim S256x50x4x51x51 ![0, 1, 2, 3, 4] bcast_S256x50x4x1x51_S256x50x4x51x51_0_1_2_3_4 (broadcastInDim S256x50x4x1x51 ![0, 1, 2, 4] bcast_S256x50x4x51_S256x50x4x1x51_0_1_2_4 (mx1 e))))
/-- The attention weights. -/
def alp1 (e : FVec Ideal S256x50x4x51x51 .f32) : FVec Ideal S256x50x4x51x51 .f32 :=
  Host.divf (pex1 e) (broadcastInDim S256x50x4x51x51 ![0, 1, 2, 3, 4] bcast_S256x50x4x1x51_S256x50x4x51x51_0_1_2_3_4 (broadcastInDim S256x50x4x1x51 ![0, 1, 2, 4] bcast_S256x50x4x51_S256x50x4x1x51_0_1_2_4 (Host.reduceAdd (pex1 e) (constant S_ .f32 0x00000000#32) reducesTo_S256x50x4x51x51_S256x50x4x51_d3 h_S_)))
/-- The attended features. -/
def att1 (a : FVec Ideal S256x50x4x51x51 .f32) (z : FVec Ideal S256x50x51x4x64 .f32) : FVec Ideal S256x50x4x51x64 .f32 :=
  Host.dotGeneral dot_S256x50x4x51x51_S256x50x51x4x64_S256x50x4x51x64_4_2_3_4_012_013 none (transpose S256x50x4x51x51 [0, 1, 2, 4, 3] a transposes_S256x50x4x51x51_S256x50x4x51x51_0_1_2_4_3) z
/-- The heads side by side. -/
def cat1 (o : FVec Ideal S256x50x4x51x64 .f32) : FVec Ideal S256x50x51x256 .f32 :=
  shapeCast S256x50x51x256 (transpose S256x50x51x4x64 [0, 1, 3, 2, 4] o transposes_S256x50x4x51x64_S256x50x51x4x64_0_1_3_2_4) shapeCasts_S256x50x51x4x64_S256x50x51x256

/-! ## The second layer's stages -/

def prj2 (h : FVec Ideal S256x50x51x256 .f32) (w : FVec Ideal S128x256 .f32) : FVec Ideal S256x50x51x128 .f32 :=
  Host.dotGeneral dot_S256x50x51x256_S256x128_S256x50x51x128_3_0_012_1_n_n none h (transpose S256x128 [1, 0] w transposes_S128x256_S256x128_1_0)
def src2 (z : FVec Ideal S256x50x51x128 .f32) (a : FVec Ideal S1x256 .f32) : FVec Ideal S256x50x51 .f32 :=
  Host.dotGeneral dot_S256x50x51x128_S128_S256x50x51_3_0_012_n_n_n none z (shapeCast S128 (extractStridedSlice S1x128 ![0, 0] a slices_S1x256_S1x128_0_0) shapeCasts_S1x128_S128)
def dst2 (z : FVec Ideal S256x50x51x128 .f32) (a : FVec Ideal S1x256 .f32) : FVec Ideal S256x50x51 .f32 :=
  Host.dotGeneral dot_S256x50x51x128_S128_S256x50x51_3_0_012_n_n_n none z (shapeCast S128 (extractStridedSlice S1x128 ![0, 128] a slices_S1x256_S1x128_0_128) shapeCasts_S1x128_S128)
def pair2 (s d : FVec Ideal S256x50x51 .f32) : FVec Ideal S256x50x51x51 .f32 :=
  addf (broadcastInDim S256x50x51x51 ![0, 1, 2, 3] bcast_S256x50x51x1_S256x50x51x51_0_1_2_3 (broadcastInDim S256x50x51x1 ![0, 1, 2] bcast_S256x50x51_S256x50x51x1_0_1_2 s))
    (broadcastInDim S256x50x51x51 ![0, 1, 2, 3] bcast_S256x50x1x51_S256x50x51x51_0_1_2_3 (broadcastInDim S256x50x1x51 ![0, 1, 3] bcast_S256x50x51_S256x50x1x51_0_1_3 d))
def leak2 (s : FVec Ideal S_ .f32) (t : FVec Ideal S256x50x51x51 .f32) : FVec Ideal S256x50x51x51 .f32 :=
  select (cmpf .oge t (broadcastInDim S256x50x51x51 ![] bcast_S_S256x50x51x51 (constant S_ .f32 0x00000000#32))) t (mulf (broadcastInDim S256x50x51x51 ![] bcast_S_S256x50x51x51 s) t)
def mask2 (q : IVec S51x51 1) (s : FVec Ideal S_ .f32) (t : FVec Ideal S256x50x51x51 .f32) : FVec Ideal S256x50x51x51 .f32 :=
  select (broadcastInDim S256x50x51x51 ![1, 2, 3] bcast_S50x51x51_S256x50x51x51_1_2_3 (broadcastInDim S50x51x51 ![1, 2] bcast_S51x51_S50x51x51_1_2 q))
    (broadcastInDim S256x50x51x51 ![1, 2, 3] bcast_S50x51x51_S256x50x51x51_1_2_3 (broadcastInDim S50x51x51 ![1, 2] bcast_S51x51_S50x51x51_1_2 (broadcastInDim S51x51 ![] bcast_S_S51x51 s))) t
def mx2 (e : FVec Ideal S256x50x51x51 .f32) : FVec Ideal S256x50x51 .f32 :=
  maximumf (broadcastInDim S256x50x51 ![] bcast_S_S256x50x51 (constant S_ .f32 0xFF800000#32)) (Host.reduce FloatOps.maximumf e (constant S_ .f32 0xFF800000#32) reducesTo_S256x50x51x51_S256x50x51_d2 h_S_)
def pex2 (e : FVec Ideal S256x50x51x51 .f32) : FVec Ideal S256x50x51x51 .f32 :=
  Host.exp (subf e (broadcastInDim S256x50x51x51 ![0, 1, 2, 3] bcast_S256x50x1x51_S256x50x51x51_0_1_2_3 (broadcastInDim S256x50x1x51 ![0, 1, 3] bcast_S256x50x51_S256x50x1x51_0_1_3 (mx2 e))))
def alp2 (e : FVec Ideal S256x50x51x51 .f32) : FVec Ideal S256x50x51x51 .f32 :=
  Host.divf (pex2 e) (broadcastInDim S256x50x51x51 ![0, 1, 2, 3] bcast_S256x50x1x51_S256x50x51x51_0_1_2_3 (broadcastInDim S256x50x1x51 ![0, 1, 3] bcast_S256x50x51_S256x50x1x51_0_1_3 (Host.reduceAdd (pex2 e) (constant S_ .f32 0x00000000#32) reducesTo_S256x50x51x51_S256x50x51_d2 h_S_)))
def att2 (a : FVec Ideal S256x50x51x51 .f32) (z : FVec Ideal S256x50x51x128 .f32) : FVec Ideal S256x50x51x128 .f32 :=
  Host.dotGeneral dot_S256x50x51x51_S256x50x51x128_S256x50x51x128_3_2_2_3_01_01 none (transpose S256x50x51x51 [0, 1, 3, 2] a transposes_S256x50x51x51_S256x50x51x51_0_1_3_2) z
/-- The mean over the output features. -/
def mean2 (o : FVec Ideal S256x50x51x128 .f32) : FVec Ideal S256x50x51 .f32 :=
  Host.divf (Host.reduceAdd o (constant S_ .f32 0x00000000#32) reducesTo_S256x50x51x128_S256x50x51_d3 h_S_) (broadcastInDim S256x50x51 ![] bcast_S_S256x50x51 (constant S_ .f32 0x43000000#32))
/-- The reshaping before the recurrent layers: there and back. -/
def turn (o : FVec Ideal S256x50x51 .f32) : FVec Ideal S256x50x51 .f32 :=
  transpose S256x50x51 [1, 0, 2] (transpose S50x256x51 [1, 0, 2] o transposes_S256x50x51_S50x256x51_1_0_2) transposes_S50x256x51_S256x50x51_1_0_2

section
variable (b : Fin 256) (t : Fin 50)

theorem prj1_at (x w) (n : Fin 51) (h : Fin 4) (d : Fin 64) : prj1 x w (ix5 b t n h d) = ∑ c : Fin 2, x (ix4 b t n c) * w (ix3 h d c) := by
  unfold prj1
  pointwise
theorem src1_at (z a) (h : Fin 4) (i : Fin 51) : src1 z a (ix4 b t h i) = ∑ d : Fin 64, z (ix5 b t i h d) * a (ix3 h 0 ⟨d.1, by omega⟩) := by
  unfold src1
  pointwise
theorem dst1_at (z a) (h : Fin 4) (i : Fin 51) : dst1 z a (ix4 b t h i) = ∑ d : Fin 64, z (ix5 b t i h d) * a (ix3 h 0 ⟨64 + d.1, by omega⟩) := by
  unfold dst1
  pointwise
theorem pair1_at (s d) (h : Fin 4) (i k : Fin 51) : pair1 s d (ix5 b t h i k) = s (ix4 b t h i) + d (ix4 b t h k) := by
  unfold pair1
  pointwise
theorem leak1_at (s e) (h : Fin 4) (i k : Fin 51) : leak1 s e (ix5 b t h i k) = (if (0 : EReal) ≤ e (ix5 b t h i k) then e (ix5 b t h i k) else s ix0 * e (ix5 b t h i k)) := by
  unfold leak1
  pointwise
theorem same_at (i k : Fin 51) : same (ix2 i k) = if i = k then 1#1 else 0#1 := by
  have h : IntOp.cmpi .eq (IntOp.addi (BitVec.ofNat 32 i.1) 0#32) (BitVec.ofNat 32 k.1) = if i = k then 1#1 else 0#1 := by
    revert i k; decide +kernel
  rw [← h]
  unfold same
  pointwise
theorem mask1_at (q s e) (h : Fin 4) (i k : Fin 51) : mask1 q s e (ix5 b t h i k) = Scalar.select (q (ix2 i k)) (s ix0) (e (ix5 b t h i k)) := by
  unfold mask1
  pointwise
theorem max_at {S : Shape} (x y : FVec Ideal S .f32) (i : S.Idx) (p : EReal) (hx : x i = p) : maximumf x y i = max p (show EReal from y i) := by
  rw [← hx]
  rfl
theorem red1_at (e : FVec Ideal S256x50x4x51x51 .f32) (z : FVec Ideal S_ .f32) (h : Fin 4) (k : Fin 51) (hr : S256x50x4x51x51.ReducesTo [3] S256x50x4x51) (hu : 0 < S_.numel) : (Host.reduce FloatOps.maximumf e z hr hu : FVec Ideal _ .f32) (ix4 b t h k) = (Finset.fold max (z (Shape.Idx.first hu)) (fun i => e (ix5 b t h i k)) Finset.univ) := by
  rw [Host.reduce_eq_fold]
  simp only [pointwise]
theorem mx1_at (e) (h : Fin 4) (k : Fin 51) : mx1 e (ix4 b t h k) = max (Ideal.ofBits .f32 0xFF800000#32) (Finset.fold max (Ideal.ofBits .f32 0xFF800000#32) (fun i => e (ix5 b t h i k)) Finset.univ) := by
  have hz : (constant S_ .f32 0xFF800000#32 : FVec Ideal S_ .f32) (Shape.Idx.first h_S_) = Ideal.ofBits .f32 0xFF800000#32 := rfl
  have hr := red1_at b t e (constant S_ .f32 0xFF800000#32) h k reducesTo_S256x50x4x51x51_S256x50x4x51_d3 h_S_
  rw [hz] at hr
  rw [← hr]
  have hb : (broadcastInDim S256x50x4x51 ![] bcast_S_S256x50x4x51 (constant S_ .f32 0xFF800000#32 : FVec Ideal S_ .f32)) (ix4 b t h k) = Ideal.ofBits .f32 0xFF800000#32 := by pointwise
  unfold mx1
  exact max_at _ _ _ _ hb
theorem pex1_at (e) (h : Fin 4) (i k : Fin 51) : pex1 e (ix5 b t h i k) = Ideal.exp (e (ix5 b t h i k) - mx1 e (ix4 b t h k)) := by
  unfold pex1
  pointwise
theorem alp1_at (e) (h : Fin 4) (i k : Fin 51) : alp1 e (ix5 b t h i k) = Ideal.div (pex1 e (ix5 b t h i k)) (∑ x : Fin 51, pex1 e (ix5 b t h x k)) := by
  unfold alp1
  pointwise
theorem att1_at (a z) (h : Fin 4) (k : Fin 51) (d : Fin 64) : att1 a z (ix5 b t h k d) = ∑ i : Fin 51, a (ix5 b t h i k) * z (ix5 b t i h d) := by
  unfold att1
  pointwise
theorem cat1_at (o) (k : Fin 51) (j : Fin 256) : cat1 o (ix4 b t k j) = o (ix5 b t ⟨j.val / 64, by omega⟩ k ⟨j.val % 64, by omega⟩) := by
  unfold cat1
  pointwise

theorem prj2_at (x w) (n : Fin 51) (o : Fin 128) : prj2 x w (ix4 b t n o) = ∑ j : Fin 256, x (ix4 b t n j) * w (ix2 o j) := by
  unfold prj2
  pointwise
theorem src2_at (z a) (i : Fin 51) : src2 z a (ix3 b t i) = ∑ d : Fin 128, z (ix4 b t i d) * a (ix2 0 ⟨d.1, by omega⟩) := by
  unfold src2
  pointwise
theorem dst2_at (z a) (i : Fin 51) : dst2 z a (ix3 b t i) = ∑ d : Fin 128, z (ix4 b t i d) * a (ix2 0 ⟨128 + d.1, by omega⟩) := by
  unfold dst2
  pointwise
theorem pair2_at (s d) (i k : Fin 51) : pair2 s d (ix4 b t i k) = s (ix3 b t i) + d (ix3 b t k) := by
  unfold pair2
  pointwise
theorem leak2_at (s e) (i k : Fin 51) : leak2 s e (ix4 b t i k) = (if (0 : EReal) ≤ e (ix4 b t i k) then e (ix4 b t i k) else s ix0 * e (ix4 b t i k)) := by
  unfold leak2
  pointwise
theorem mask2_at (q s e) (i k : Fin 51) : mask2 q s e (ix4 b t i k) = Scalar.select (q (ix2 i k)) (s ix0) (e (ix4 b t i k)) := by
  unfold mask2
  pointwise
theorem red2_at (e : FVec Ideal S256x50x51x51 .f32) (z : FVec Ideal S_ .f32) (k : Fin 51) (hr : S256x50x51x51.ReducesTo [2] S256x50x51) (hu : 0 < S_.numel) : (Host.reduce FloatOps.maximumf e z hr hu : FVec Ideal _ .f32) (ix3 b t k) = (Finset.fold max (z (Shape.Idx.first hu)) (fun i => e (ix4 b t i k)) Finset.univ) := by
  rw [Host.reduce_eq_fold]
  simp only [pointwise]
theorem mx2_at (e) (k : Fin 51) : mx2 e (ix3 b t k) = max (Ideal.ofBits .f32 0xFF800000#32) (Finset.fold max (Ideal.ofBits .f32 0xFF800000#32) (fun i => e (ix4 b t i k)) Finset.univ) := by
  have hz : (constant S_ .f32 0xFF800000#32 : FVec Ideal S_ .f32) (Shape.Idx.first h_S_) = Ideal.ofBits .f32 0xFF800000#32 := rfl
  have hr := red2_at b t e (constant S_ .f32 0xFF800000#32) k reducesTo_S256x50x51x51_S256x50x51_d2 h_S_
  rw [hz] at hr
  rw [← hr]
  have hb : (broadcastInDim S256x50x51 ![] bcast_S_S256x50x51 (constant S_ .f32 0xFF800000#32 : FVec Ideal S_ .f32)) (ix3 b t k) = Ideal.ofBits .f32 0xFF800000#32 := by pointwise
  unfold mx2
  exact max_at _ _ _ _ hb
theorem pex2_at (e) (i k : Fin 51) : pex2 e (ix4 b t i k) = Ideal.exp (e (ix4 b t i k) - mx2 e (ix3 b t k)) := by
  unfold pex2
  pointwise
theorem alp2_at (e) (i k : Fin 51) : alp2 e (ix4 b t i k) = Ideal.div (pex2 e (ix4 b t i k)) (∑ x : Fin 51, pex2 e (ix4 b t x k)) := by
  unfold alp2
  pointwise
theorem att2_at (a z) (k : Fin 51) (d : Fin 128) : att2 a z (ix4 b t k d) = ∑ i : Fin 51, a (ix4 b t i k) * z (ix4 b t i d) := by
  unfold att2
  pointwise
theorem mean2_at (o) (k : Fin 51) : mean2 o (ix3 b t k) = Ideal.div (∑ x : Fin 128, o (ix4 b t k x)) (Ideal.ofBits .f32 0x43000000#32) := by
  unfold mean2
  pointwise
theorem turn_at (o) (k : Fin 51) : turn o (ix3 b t k) = o (ix3 b t k) := by
  unfold turn
  pointwise
end

/-! ## The stretches -/

section
variable (W : Valuation τ sig (Elt Ideal))

theorem st_v1 : (after hostOps0 W (Proc.devRef .tc main_v1) : FVec Ideal S256x50x51x4x64 .f32) = prj1 (W (Proc.devRef .tc main_arg0)) (W (Proc.devRef .tc main_arg1)) := by
  unfold hostOps0
  after_reads_simp
  rfl
theorem st_v14 : (after hostOps0 W (Proc.devRef .tc main_v14) : FVec Ideal S256x50x4x51x51 .f32)
    = pair1 (src1 (prj1 (W (Proc.devRef .tc main_arg0)) (W (Proc.devRef .tc main_arg1))) (W (Proc.devRef .tc main_arg2))) (dst1 (prj1 (W (Proc.devRef .tc main_arg0)) (W (Proc.devRef .tc main_arg1))) (W (Proc.devRef .tc main_arg2))) := by
  unfold hostOps0
  after_reads_simp
  rfl
theorem st_cst : (after hostOps0 W (Proc.devRef .tc main_cst) : FVec Ideal S_ .f32) = (constant S_ .f32 0x3C23D70A#32 : FVec Ideal S_ .f32) := by
  unfold hostOps0
  after_reads_simp
theorem st_v15 : (after hostOps0_1 W (Proc.devRef .tc main_v15) : FVec Ideal S256x50x4x51x51 .f32) = leak1 (W (Proc.devRef .tc main_cst)) (W (Proc.devRef .tc main_v14)) := by
  unfold hostOps0_1
  after_reads_simp
  rfl
theorem st_v20 : (after hostOps0_2 W (Proc.devRef .tc main_v20) : IVec S51x51 1) = same := by
  unfold hostOps0_2
  after_reads_simp
  rfl
theorem st_cst0 : (after hostOps0_2 W (Proc.devRef .tc main_cst_0) : FVec Ideal S_ .f32) = (constant S_ .f32 0xFF800000#32 : FVec Ideal S_ .f32) := by
  unfold hostOps0_2
  after_reads_simp
theorem st_v21 : (after hostOps0_3 W (Proc.devRef .tc main_v21) : FVec Ideal S256x50x4x51x51 .f32) = mask1 (W (Proc.devRef .tc main_v20)) (W (Proc.devRef .tc main_cst_0)) (W (Proc.devRef .tc main_v15)) := by
  unfold hostOps0_3
  after_reads_simp
  rfl
theorem st_v36 : (after hostOps0_4 W (Proc.devRef .tc main_v36) : FVec Ideal S256x50x51x256 .f32) = cat1 (att1 (alp1 (W (Proc.devRef .tc main_v21))) (W (Proc.devRef .tc main_v1))) := by
  unfold hostOps0_4
  after_reads_simp
  rfl
theorem st_v37 (b : Fin 256) (t : Fin 50) (n : Fin 51) (j : Fin 256) : (show EReal from (after hostOps0_5 W (Proc.devRef .tc main_v37) : FVec Ideal S256x50x51x256 .f32) (ix4 b t n j))
    = (if (0 : EReal) < (W (Proc.devRef .tc main_v36) : FVec Ideal S256x50x51x256 .f32) (ix4 b t n j) then (W (Proc.devRef .tc main_v36) : FVec Ideal S256x50x51x256 .f32) (ix4 b t n j)
      else Ideal.exp (if (0 : EReal) < (W (Proc.devRef .tc main_v36) : FVec Ideal S256x50x51x256 .f32) (ix4 b t n j) then 0 else (W (Proc.devRef .tc main_v36) : FVec Ideal S256x50x51x256 .f32) (ix4 b t n j)) - 1) := by
  show _ = _
  unfold hostOps0_5
  after_reads_at
  simp only [id]
  pointwise
theorem st_v39 : (after hostOps0_6 W (Proc.devRef .tc main_v39) : FVec Ideal S256x50x51x128 .f32) = prj2 (W (Proc.devRef .tc main_v37)) (W (Proc.devRef .tc main_arg3)) := by
  unfold hostOps0_6
  after_reads_simp
  rfl
theorem st_v50 : (after hostOps0_6 W (Proc.devRef .tc main_v50) : FVec Ideal S256x50x51x51 .f32)
    = pair2 (src2 (prj2 (W (Proc.devRef .tc main_v37)) (W (Proc.devRef .tc main_arg3))) (W (Proc.devRef .tc main_arg4))) (dst2 (prj2 (W (Proc.devRef .tc main_v37)) (W (Proc.devRef .tc main_arg3))) (W (Proc.devRef .tc main_arg4))) := by
  unfold hostOps0_6
  after_reads_simp
  rfl
theorem st_cst4 : (after hostOps0_6 W (Proc.devRef .tc main_cst_4) : FVec Ideal S_ .f32) = (constant S_ .f32 0x3C23D70A#32 : FVec Ideal S_ .f32) := by
  unfold hostOps0_6
  after_reads_simp
theorem st_v51 : (after hostOps0_7 W (Proc.devRef .tc main_v51) : FVec Ideal S256x50x51x51 .f32) = leak2 (W (Proc.devRef .tc main_cst_4)) (W (Proc.devRef .tc main_v50)) := by
  unfold hostOps0_7
  after_reads_simp
  rfl
theorem st_v56 : (after hostOps0_8 W (Proc.devRef .tc main_v56) : IVec S51x51 1) = same := by
  unfold hostOps0_8
  after_reads_simp
  rfl
theorem st_cst6 : (after hostOps0_8 W (Proc.devRef .tc main_cst_6) : FVec Ideal S_ .f32) = (constant S_ .f32 0xFF800000#32 : FVec Ideal S_ .f32) := by
  unfold hostOps0_8
  after_reads_simp
theorem st_v57 : (after hostOps0_9 W (Proc.devRef .tc main_v57) : FVec Ideal S256x50x51x51 .f32) = mask2 (W (Proc.devRef .tc main_v56)) (W (Proc.devRef .tc main_cst_6)) (W (Proc.devRef .tc main_v51)) := by
  unfold hostOps0_9
  after_reads_simp
  rfl
theorem st_x : (after hostOps0_10 W (Proc.devRef .tc main_v79_0) : FVec Ideal S256x50x51 .f32) = turn (mean2 (att2 (alp2 (W (Proc.devRef .tc main_v57))) (W (Proc.devRef .tc main_v39)))) := by
  unfold hostOps0_10
  after_reads_simp
  rfl
theorem st_h : (after hostOps0_10 W (Proc.devRef .tc main_v79_6) : FVec Ideal S50x32 .f32) = broadcastInDim S50x32 ![] bcast_S_S50x32 (constant S_ .f32 0x00000000#32 : FVec Ideal S_ .f32) := by
  unfold hostOps0_10
  after_reads_simp
  rfl
theorem st_c : (after hostOps0_10 W (Proc.devRef .tc main_v79_7) : FVec Ideal S50x32 .f32) = broadcastInDim S50x32 ![] bcast_S_S50x32 (constant S_ .f32 0x00000000#32 : FVec Ideal S_ .f32) := by
  unfold hostOps0_10
  after_reads_simp
  rfl
theorem st_wi : (after hostOps0_10 W (Proc.devRef .tc main_v79_1) : FVec Ideal S128x51 .f32) = W (Proc.devRef .tc main_arg5) := by
  unfold hostOps0_10
  after_reads_simp
  rfl
theorem st_wh : (after hostOps0_10 W (Proc.devRef .tc main_v79_2) : FVec Ideal S128x32 .f32) = W (Proc.devRef .tc main_arg6) := by
  unfold hostOps0_10
  after_reads_simp
  rfl
theorem st_bi : (after hostOps0_10 W (Proc.devRef .tc main_v79_3) : FVec Ideal S128 .f32) = W (Proc.devRef .tc main_arg7) := by
  unfold hostOps0_10
  after_reads_simp
  rfl
theorem st_bh : (after hostOps0_10 W (Proc.devRef .tc main_v79_4) : FVec Ideal S128 .f32) = W (Proc.devRef .tc main_arg8) := by
  unfold hostOps0_10
  after_reads_simp
  rfl
end
end Cert.ReferenceIdeal.Hand
-- ==== Proof.RefGatReal.lean ====
module
public import proofs.«01_k».proof.Proof.RefGat
public import proofs.«01_k».proof.Proof.RefRun

/-!
The reference program's attention layers on real arguments: the array its first loop reads holds the second layer's mean at every graph and node.
-/

@[expose] public section
noncomputable section
namespace Cert.ReferenceIdeal.Hand
open Cert.ReferenceIdeal Cert.ReferenceIdeal.Gen
open Idealize.ShloMosaic Idealize.ShloMosaic.TcCoe Idealize.ShloMosaic.StableHlo Idealize.ShloMosaic.Pointwise

section
variable (X : Fin 51 → Fin 2 → ℝ) (w1 : Fin 4 → Fin 64 → Fin 2 → ℝ) (a1 : Fin 4 → Fin 128 → ℝ) (w2 : Fin 128 → Fin 256 → ℝ) (a2 : Fin 256 → ℝ)
variable (b : Fin 256) (t : Fin 50)

theorem sel_mask (i k : Fin 51) (x y : EReal) : Scalar.select (if i = k then 1#1 else 0#1) x y = if i = k then x else y := by
  by_cases h : i = k
  · rw [if_pos h, if_pos h]; rfl
  · rw [if_neg h, if_neg h]; rfl

theorem slope_at : (constant S_ .f32 0x3C23D70A#32 : FVec Ideal S_ .f32) ix0 = Ideal.ofBits .f32 0x3C23D70A#32 := rfl
theorem ninf_at : (constant S_ .f32 0xFF800000#32 : FVec Ideal S_ .f32) ix0 = (⊥ : EReal) := Gat.neg_inf_bits

/-- The first layer's projection. -/
theorem prj1_real {x : FVec Ideal S256x50x51x2 .f32} {w : FVec Ideal S4x64x2 .f32} (hx : ∀ n c, x (ix4 b t n c) = ((X n c : ℝ) : EReal)) (hw : ∀ h d c, w (ix3 h d c) = ((w1 h d c : ℝ) : EReal))
    (n : Fin 51) (h : Fin 4) (d : Fin 64) : prj1 x w (ix5 b t n h d) = ((Gat.z1 X w1 h n d : ℝ) : EReal) := by
  rw [prj1_at]
  unfold Gat.z1
  rw [Gat.coe_sum]
  exact Finset.sum_congr rfl fun c _ => by rw [hx, hw, EReal.coe_mul]

/-- The first layer's logits. -/
theorem leak1_real {z : FVec Ideal S256x50x51x4x64 .f32} {a : FVec Ideal S4x1x128 .f32} (hz : ∀ n h d, z (ix5 b t n h d) = ((Gat.z1 X w1 h n d : ℝ) : EReal)) (ha : ∀ h d, a (ix3 h 0 d) = ((a1 h d : ℝ) : EReal))
    (h : Fin 4) (i k : Fin 51) : leak1 (constant S_ .f32 0x3C23D70A#32) (pair1 (src1 z a) (dst1 z a)) (ix5 b t h i k) = ((Gat.e1 X w1 a1 h i k : ℝ) : EReal) := by
  have hs : src1 z a (ix4 b t h i) = ((∑ d : Fin 64, Gat.z1 X w1 h i d * a1 h ⟨d.1, by omega⟩ : ℝ) : EReal) := by
    rw [src1_at, Gat.coe_sum]
    exact Finset.sum_congr rfl fun d _ => by rw [hz, ha, EReal.coe_mul]
  have hd : dst1 z a (ix4 b t h k) = ((∑ d : Fin 64, Gat.z1 X w1 h k d * a1 h ⟨64 + d.1, by omega⟩ : ℝ) : EReal) := by
    rw [dst1_at, Gat.coe_sum]
    exact Finset.sum_congr rfl fun d _ => by rw [hz, ha, EReal.coe_mul]
  rw [leak1_at, pair1_at, hs, hd, slope_at, ← EReal.coe_add, Gat.leaky_ite]
  rfl

/-- The first layer's attention. -/
theorem alp1_real {e : FVec Ideal S256x50x4x51x51 .f32} (he : ∀ h i k, e (ix5 b t h i k) = ((Gat.e1 X w1 a1 h i k : ℝ) : EReal)) (h : Fin 4) (i k : Fin 51) :
    alp1 (mask1 same (constant S_ .f32 0xFF800000#32) e) (ix5 b t h i k) = ((Gat.att (Gat.e1 X w1 a1 h) i k : ℝ) : EReal) := by
  have hm : ∀ i k, mask1 same (constant S_ .f32 0xFF800000#32) e (ix5 b t h i k) = if i = k then (⊥ : EReal) else ((Gat.e1 X w1 a1 h i k : ℝ) : EReal) := fun i k => by
    rw [mask1_at, same_at, sel_mask, ninf_at, he]
  rw [alp1_at]
  refine Gat.softmax_col (Gat.e1 X w1 a1 h) i k (mx1 (mask1 same (constant S_ .f32 0xFF800000#32) e) (ix4 b t h k)) (fun i => pex1 (mask1 same (constant S_ .f32 0xFF800000#32) e) (ix5 b t h i k)) ?_ fun i => ?_
  · rw [mx1_at]
    simp only [hm]
  · rw [pex1_at, hm]

/-- The first layer's outputs. -/
theorem cat1_real {al : FVec Ideal S256x50x4x51x51 .f32} {z : FVec Ideal S256x50x51x4x64 .f32} (hal : ∀ h i k, al (ix5 b t h i k) = ((Gat.att (Gat.e1 X w1 a1 h) i k : ℝ) : EReal))
    (hz : ∀ n h d, z (ix5 b t n h d) = ((Gat.z1 X w1 h n d : ℝ) : EReal)) (k : Fin 51) (j : Fin 256) :
    cat1 (att1 al z) (ix4 b t k j) = ((Gat.o1 X w1 a1 ⟨j.1 / 64, by omega⟩ k ⟨j.1 % 64, by omega⟩ : ℝ) : EReal) := by
  rw [cat1_at, att1_at]
  unfold Gat.o1
  rw [Gat.coe_sum]
  exact Finset.sum_congr rfl fun i _ => by rw [hal, hz, EReal.coe_mul]

/-- The second layer's projection. -/
theorem prj2_real {x : FVec Ideal S256x50x51x256 .f32} {w : FVec Ideal S128x256 .f32} (hx : ∀ n j, x (ix4 b t n j) = ((Gat.h1 X w1 a1 n j : ℝ) : EReal)) (hw : ∀ o j, w (ix2 o j) = ((w2 o j : ℝ) : EReal))
    (n : Fin 51) (o : Fin 128) : prj2 x w (ix4 b t n o) = ((Gat.z2 X w1 a1 w2 n o : ℝ) : EReal) := by
  rw [prj2_at]
  unfold Gat.z2
  rw [Gat.coe_sum]
  exact Finset.sum_congr rfl fun c _ => by rw [hx, hw, EReal.coe_mul]

/-- The second layer's logits. -/
theorem leak2_real {z : FVec Ideal S256x50x51x128 .f32} {a : FVec Ideal S1x256 .f32} (hz : ∀ n o, z (ix4 b t n o) = ((Gat.z2 X w1 a1 w2 n o : ℝ) : EReal)) (ha : ∀ j, a (ix2 0 j) = ((a2 j : ℝ) : EReal))
    (i k : Fin 51) : leak2 (constant S_ .f32 0x3C23D70A#32) (pair2 (src2 z a) (dst2 z a)) (ix4 b t i k) = ((Gat.e2 X w1 a1 w2 a2 i k : ℝ) : EReal) := by
  have hs : src2 z a (ix3 b t i) = ((∑ o : Fin 128, Gat.z2 X w1 a1 w2 i o * a2 ⟨o.1, by omega⟩ : ℝ) : EReal) := by
    rw [src2_at, Gat.coe_sum]
    exact Finset.sum_congr rfl fun d _ => by rw [hz, ha, EReal.coe_mul]
  have hd : dst2 z a (ix3 b t k) = ((∑ o : Fin 128, Gat.z2 X w1 a1 w2 k o * a2 ⟨128 + o.1, by omega⟩ : ℝ) : EReal) := by
    rw [dst2_at, Gat.coe_sum]
    exact Finset.sum_congr rfl fun d _ => by rw [hz, ha, EReal.coe_mul]
  rw [leak2_at, pair2_at, hs, hd, slope_at, ← EReal.coe_add, Gat.leaky_ite]
  rfl

/-- The second layer's attention. -/
theorem alp2_real {e : FVec Ideal S256x50x51x51 .f32} (he : ∀ i k, e (ix4 b t i k) = ((Gat.e2 X w1 a1 w2 a2 i k : ℝ) : EReal)) (i k : Fin 51) :
    alp2 (mask2 same (constant S_ .f32 0xFF800000#32) e) (ix4 b t i k) = ((Gat.att (Gat.e2 X w1 a1 w2 a2) i k : ℝ) : EReal) := by
  have hm : ∀ i k, mask2 same (constant S_ .f32 0xFF800000#32) e (ix4 b t i k) = if i = k then (⊥ : EReal) else ((Gat.e2 X w1 a1 w2 a2 i k : ℝ) : EReal) := fun i k => by
    rw [mask2_at, same_at, sel_mask, ninf_at, he]
  rw [alp2_at]
  refine Gat.softmax_col (Gat.e2 X w1 a1 w2 a2) i k (mx2 (mask2 same (constant S_ .f32 0xFF800000#32) e) (ix3 b t k)) (fun i => pex2 (mask2 same (constant S_ .f32 0xFF800000#32) e) (ix4 b t i k)) ?_ fun i => ?_
  · rw [mx2_at]
    simp only [hm]
  · rw [pex2_at, hm]

/-- The second layer's mean. -/
theorem mean2_real {al : FVec Ideal S256x50x51x51 .f32} {z : FVec Ideal S256x50x51x128 .f32} (hal : ∀ i k, al (ix4 b t i k) = ((Gat.att (Gat.e2 X w1 a1 w2 a2) i k : ℝ) : EReal))
    (hz : ∀ n o, z (ix4 b t n o) = ((Gat.z2 X w1 a1 w2 n o : ℝ) : EReal)) (k : Fin 51) :
    turn (mean2 (att2 al z)) (ix3 b t k) = ((Gat.ext X w1 a1 w2 a2 k : ℝ) : EReal) := by
  have ho : ∀ o, att2 al z (ix4 b t k o) = ((Gat.h2 X w1 a1 w2 a2 k o : ℝ) : EReal) := fun o => by
    rw [att2_at]
    unfold Gat.h2
    rw [Gat.coe_sum]
    exact Finset.sum_congr rfl fun i _ => by rw [hal, hz, EReal.coe_mul]
  rw [turn_at, mean2_at]
  simp only [ho]
  rw [← Gat.coe_sum, Gat.w128_bits, Gat.div_real _ _ (by norm_num)]
  rfl
end

section
variable (W : Valuation τ sig (Elt Ideal))
variable (X : Fin 51 → Fin 2 → ℝ) (w1 : Fin 4 → Fin 64 → Fin 2 → ℝ) (a1 : Fin 4 → Fin 128 → ℝ) (w2 : Fin 128 → Fin 256 → ℝ) (a2 : Fin 256 → ℝ)
variable (b : Fin 256) (t : Fin 50)

/-- The stretches up to the first layer's activation. -/
abbrev pre5 : Valuation τ sig (Elt Ideal) := after hostOps0_5 (after hostOps0_4 (after hostOps0_3 (after hostOps0_2 (after hostOps0_1 (after hostOps0 W)))))

theorem v1_keep : after hostOps0_3 (after hostOps0_2 (after hostOps0_1 (after hostOps0 W))) (Proc.devRef .tc main_v1) = after hostOps0 W (Proc.devRef .tc main_v1) := by
  rw [after_of_writes_sub hostOps0_3 _ hostOps0_3_writes (by decide +kernel), after_of_writes_sub hostOps0_2 _ hostOps0_2_writes (by decide +kernel), after_of_writes_sub hostOps0_1 _ hostOps0_1_writes (by decide +kernel)]

theorem h1_real (h0 : ∀ n c, (W (Proc.devRef .tc main_arg0) : FVec Ideal S256x50x51x2 .f32) (ix4 b t n c) = ((X n c : ℝ) : EReal))
    (h1 : ∀ h d c, (W (Proc.devRef .tc main_arg1) : FVec Ideal S4x64x2 .f32) (ix3 h d c) = ((w1 h d c : ℝ) : EReal))
    (h2 : ∀ h d, (W (Proc.devRef .tc main_arg2) : FVec Ideal S4x1x128 .f32) (ix3 h 0 d) = ((a1 h d : ℝ) : EReal)) (n : Fin 51) (j : Fin 256) :
    (pre5 W (Proc.devRef .tc main_v37) : FVec Ideal S256x50x51x256 .f32) (ix4 b t n j) = ((Gat.h1 X w1 a1 n j : ℝ) : EReal) := by
  have e15 : (after hostOps0_1 (after hostOps0 W) (Proc.devRef .tc main_v15) : FVec Ideal S256x50x4x51x51 .f32)
      = leak1 (constant S_ .f32 0x3C23D70A#32) (pair1 (src1 (prj1 (W (Proc.devRef .tc main_arg0)) (W (Proc.devRef .tc main_arg1))) (W (Proc.devRef .tc main_arg2))) (dst1 (prj1 (W (Proc.devRef .tc main_arg0)) (W (Proc.devRef .tc main_arg1))) (W (Proc.devRef .tc main_arg2)))) := by
    rw [st_v15, st_cst, st_v14]
  have e21 : (after hostOps0_3 (after hostOps0_2 (after hostOps0_1 (after hostOps0 W))) (Proc.devRef .tc main_v21) : FVec Ideal S256x50x4x51x51 .f32)
      = mask1 same (constant S_ .f32 0xFF800000#32) (after hostOps0_1 (after hostOps0 W) (Proc.devRef .tc main_v15)) := by
    rw [st_v21, st_v20, st_cst0, after_of_writes_sub hostOps0_2 _ hostOps0_2_writes (by decide +kernel)]
  have e36 := st_v36 (after hostOps0_3 (after hostOps0_2 (after hostOps0_1 (after hostOps0 W))))
  rw [v1_keep, st_v1, e21, e15] at e36
  have hz := prj1_real X w1 b t (x := W (Proc.devRef .tc main_arg0)) (w := W (Proc.devRef .tc main_arg1)) h0 h1
  have hv : (after hostOps0_4 (after hostOps0_3 (after hostOps0_2 (after hostOps0_1 (after hostOps0 W)))) (Proc.devRef .tc main_v36) : FVec Ideal S256x50x51x256 .f32) (ix4 b t n j)
      = ((Gat.o1 X w1 a1 ⟨j.1 / 64, by omega⟩ n ⟨j.1 % 64, by omega⟩ : ℝ) : EReal) := by
    rw [e36]
    exact cat1_real X w1 a1 b t (alp1_real X w1 a1 b t (leak1_real X w1 a1 b t hz h2)) hz n j
  refine (st_v37 (after hostOps0_4 (after hostOps0_3 (after hostOps0_2 (after hostOps0_1 (after hostOps0 W))))) b t n j).trans ?_
  rw [hv]
  exact Gat.elu_ite _ _

theorem ext_real (Y : Valuation τ sig (Elt Ideal)) (hv : ∀ n j, (Y (Proc.devRef .tc main_v37) : FVec Ideal S256x50x51x256 .f32) (ix4 b t n j) = ((Gat.h1 X w1 a1 n j : ℝ) : EReal))
    (h3 : ∀ o j, (Y (Proc.devRef .tc main_arg3) : FVec Ideal S128x256 .f32) (ix2 o j) = ((w2 o j : ℝ) : EReal))
    (h4 : ∀ j, (Y (Proc.devRef .tc main_arg4) : FVec Ideal S1x256 .f32) (ix2 0 j) = ((a2 j : ℝ) : EReal)) (k : Fin 51) :
    (after hostOps0_10 (after hostOps0_9 (after hostOps0_8 (after hostOps0_7 (after hostOps0_6 Y)))) (Proc.devRef .tc main_v79_0) : FVec Ideal S256x50x51 .f32) (ix3 b t k) = ((Gat.ext X w1 a1 w2 a2 k : ℝ) : EReal) := by
  have e51 : (after hostOps0_7 (after hostOps0_6 Y) (Proc.devRef .tc main_v51) : FVec Ideal S256x50x51x51 .f32)
      = leak2 (constant S_ .f32 0x3C23D70A#32) (pair2 (src2 (prj2 (Y (Proc.devRef .tc main_v37)) (Y (Proc.devRef .tc main_arg3))) (Y (Proc.devRef .tc main_arg4))) (dst2 (prj2 (Y (Proc.devRef .tc main_v37)) (Y (Proc.devRef .tc main_arg3))) (Y (Proc.devRef .tc main_arg4)))) := by
    rw [st_v51, st_cst4, st_v50]
  have e57 : (after hostOps0_9 (after hostOps0_8 (after hostOps0_7 (after hostOps0_6 Y))) (Proc.devRef .tc main_v57) : FVec Ideal S256x50x51x51 .f32)
      = mask2 same (constant S_ .f32 0xFF800000#32) (after hostOps0_7 (after hostOps0_6 Y) (Proc.devRef .tc main_v51)) := by
    rw [st_v57, st_v56, st_cst6, after_of_writes_sub hostOps0_8 _ hostOps0_8_writes (by decide +kernel)]
  have e39 : (after hostOps0_9 (after hostOps0_8 (after hostOps0_7 (after hostOps0_6 Y))) (Proc.devRef .tc main_v39) : FVec Ideal S256x50x51x128 .f32) = prj2 (Y (Proc.devRef .tc main_v37)) (Y (Proc.devRef .tc main_arg3)) := by
    rw [after_of_writes_sub hostOps0_9 _ hostOps0_9_writes (by decide +kernel), after_of_writes_sub hostOps0_8 _ hostOps0_8_writes (by decide +kernel), after_of_writes_sub hostOps0_7 _ hostOps0_7_writes (by decide +kernel), st_v39]
  have hz := prj2_real X w1 a1 w2 b t (x := Y (Proc.devRef .tc main_v37)) (w := Y (Proc.devRef .tc main_arg3)) hv h3
  rw [st_x, e39, e57, e51]
  exact mean2_real X w1 a1 w2 a2 b t (alp2_real X w1 a1 w2 a2 b t (leak2_real X w1 a1 w2 a2 b t hz h4)) hz k

theorem pre5_arg {r : Ref sig .tc} (hr : r ∈ argRefs) : pre5 W (Proc.devRef .tc r) = W (Proc.devRef .tc r) := by
  unfold pre5
  rw [after_of_writes_sub hostOps0_5 _ hostOps0_5_writes (keep_mem hr (by decide +kernel)), after_of_writes_sub hostOps0_4 _ hostOps0_4_writes (keep_mem hr (by decide +kernel)),
    after_of_writes_sub hostOps0_3 _ hostOps0_3_writes (keep_mem hr (by decide +kernel)), after_of_writes_sub hostOps0_2 _ hostOps0_2_writes (keep_mem hr (by decide +kernel)),
    after_of_writes_sub hostOps0_1 _ hostOps0_1_writes (keep_mem hr (by decide +kernel)), after_of_writes_sub hostOps0 _ hostOps0_writes (keep_mem hr (by decide +kernel))]

/-- What the first loop reads, on real arguments. -/
theorem entry_real (h0 : ∀ n c, (W (Proc.devRef .tc main_arg0) : FVec Ideal S256x50x51x2 .f32) (ix4 b t n c) = ((X n c : ℝ) : EReal))
    (h1 : ∀ h d c, (W (Proc.devRef .tc main_arg1) : FVec Ideal S4x64x2 .f32) (ix3 h d c) = ((w1 h d c : ℝ) : EReal))
    (h2 : ∀ h d, (W (Proc.devRef .tc main_arg2) : FVec Ideal S4x1x128 .f32) (ix3 h 0 d) = ((a1 h d : ℝ) : EReal))
    (h3 : ∀ o j, (W (Proc.devRef .tc main_arg3) : FVec Ideal S128x256 .f32) (ix2 o j) = ((w2 o j : ℝ) : EReal))
    (h4 : ∀ j, (W (Proc.devRef .tc main_arg4) : FVec Ideal S1x256 .f32) (ix2 0 j) = ((a2 j : ℝ) : EReal)) (k : Fin 51) :
    (afterL preI W (Proc.devRef .tc main_v79_0) : FVec Ideal S256x50x51 .f32) (ix3 b t k) = ((Gat.ext X w1 a1 w2 a2 k : ℝ) : EReal) := by
  simp only [afterL_cons, afterL_nil]
  refine ext_real X w1 a1 w2 a2 b t (pre5 W) (h1_real W X w1 a1 b t h0 h1 h2) (fun o j => ?_) (fun j => ?_) k
  · rw [pre5_arg W (r := main_arg3) (by decide +kernel)]; exact h3 o j
  · rw [pre5_arg W (r := main_arg4) (by decide +kernel)]; exact h4 j
end
end Cert.ReferenceIdeal.Hand
-- ==== Proof.RefLstm.lean ====
module
public import proofs.«01_k».proof.Proof.RefRun
public import proofs.«01_k».proof.Proof.Lstm
public import Idealize.ShloMosaic.PureOps.Ideal
public import Idealize.ShloMosaic.Lib.Pointwise
public import Idealize.ShloMosaic.Lib.StableHlo.ReadAt
public import Idealize.ShloMosaic.Lib.DynamicIndex
public import Idealize.ShloMosaic.Lib.Pipeline.Value

/-!
The reference program's two recurrent loops read one batch row at a time: what a trip does to the carried buffers, and the recurrence they hold before each trip.
-/

@[expose] public section
noncomputable section
namespace Cert.ReferenceIdeal.Hand
open Cert.ReferenceIdeal Cert.ReferenceIdeal.Gen
open Idealize.ShloMosaic Idealize.ShloMosaic.TcCoe Idealize.ShloMosaic.StableHlo Idealize.ShloMosaic.Pointwise

/-! ## One step -/

/-- Where a step's row starts. -/
def starts (i : IVec S_ 32) (k : Fin 3) : ℤ := match k with
  | 0 => (i (Shape.Idx.first h_S_)).toInt
  | _ => 0

/-- One over one plus the exponential of the negation. -/
def sgm (x : FVec Ideal S50x32 .f32) : FVec Ideal S50x32 .f32 :=
  Host.divf (broadcastInDim S50x32 ![] bcast_S_S50x32 (constant S_ .f32 0x3F800000#32)) (addf (broadcastInDim S50x32 ![] bcast_S_S50x32 (constant S_ .f32 0x3F800000#32)) (Host.exp (Host.negf x)))
/-- The next cell state from the gates. -/
def cel (g : FVec Ideal S50x128 .f32) (c : FVec Ideal S50x32 .f32) : FVec Ideal S50x32 .f32 :=
  addf (mulf (sgm (extractStridedSlice S50x32 ![0, 32] g slices_S50x128_S50x32_0_32)) c) (mulf (sgm (extractStridedSlice S50x32 ![0, 0] g slices_S50x128_S50x32_0_0)) (Host.tanh (extractStridedSlice S50x32 ![0, 64] g slices_S50x128_S50x32_0_64)))
/-- The next hidden state from the gates. -/
def hdn (g : FVec Ideal S50x128 .f32) (c : FVec Ideal S50x32 .f32) : FVec Ideal S50x32 .f32 :=
  mulf (sgm (extractStridedSlice S50x32 ![0, 96] g slices_S50x128_S50x32_0_96)) (Host.tanh (cel g c))
/-- The two biases added. -/
def bsum (x y : FVec Ideal S128 .f32) (j : Fin 128) : EReal := x (ix1 j) + y (ix1 j)
/-- A row written at a step. -/
def upd (x : FVec Ideal S256x50x32 .f32) (v : FVec Ideal S50x32 .f32) (i : IVec S_ 32) : FVec Ideal S256x50x32 .f32 :=
  Host.dynamicUpdateSlice x (broadcastInDim S1x50x32 ![1, 2] bcast_S50x32_S1x50x32_1_2 v) (starts i) updateFits_S256x50x32_S1x50x32

theorem sgm_at (x) (b : Fin 50) (u : Fin 32) : sgm x (ix2 b u) = Ideal.logistic (x (ix2 b u)) := by
  unfold sgm Ideal.logistic
  pointwise
theorem cel_at (g c) (b : Fin 50) (u : Fin 32) : cel g c (ix2 b u) = Gat.cellN (fun j => g (ix2 b j)) (fun u => c (ix2 b u)) u := by
  unfold Gat.cellN
  have e1 : (extractStridedSlice S50x32 ![0, 32] g slices_S50x128_S50x32_0_32) (ix2 b u) = g (ix2 b ⟨32 + u.1, by omega⟩) := by pointwise
  have e2 : (extractStridedSlice S50x32 ![0, 0] g slices_S50x128_S50x32_0_0) (ix2 b u) = g (ix2 b ⟨u.1, by omega⟩) := by pointwise
  have e3 : (extractStridedSlice S50x32 ![0, 64] g slices_S50x128_S50x32_0_64) (ix2 b u) = g (ix2 b ⟨64 + u.1, by omega⟩) := by pointwise
  beta_reduce
  rw [← e1, ← e2, ← e3, ← sgm_at, ← sgm_at]
  rfl
theorem hdn_at (g c) (b : Fin 50) (u : Fin 32) : hdn g c (ix2 b u) = Gat.hidN (fun j => g (ix2 b j)) (fun u => c (ix2 b u)) u := by
  unfold Gat.hidN
  have e1 : (extractStridedSlice S50x32 ![0, 96] g slices_S50x128_S50x32_0_96) (ix2 b u) = g (ix2 b ⟨96 + u.1, by omega⟩) := by pointwise
  rw [← cel_at]
  beta_reduce
  rw [← e1, ← sgm_at]
  rfl
theorem upd_at (x v) (n : ℕ) (hn : n < 256) (s : Fin 256) (b : Fin 50) (u : Fin 32) :
    upd x v (fun _ => BitVec.ofNat 32 n) (ix3 s b u) = if s.1 = n then v (ix2 b u) else x (ix3 s b u) := by
  have h' : S256x50x32.Slices ![n, 0, 0] S1x50x32 := ⟨rfl, fun a => match a with
    | ⟨0, _⟩ => (show n + 1 ≤ 256 by omega)
    | ⟨1, _⟩ => (show 0 + 50 ≤ 50 by omega)
    | ⟨2, _⟩ => (show 0 + 32 ≤ 32 by omega)⟩
  unfold upd
  rw [Host.dynamicUpdateSlice_eq_updateSlice (adj := ![n, 0, 0]) (h' := h')]
  · pointwise
    by_cases e : s.1 = n
    · rw [if_pos e, dif_pos (by omega)]
    · rw [if_neg e, dif_neg (by omega)]
  · intro a
    match a with
    | ⟨0, _⟩ =>
      show (min (max ((BitVec.ofNat 32 n).toInt) 0) ((256 - 1 : ℕ) : ℤ)).toNat = n
      rw [toInt_ofNat_of_lt (by omega)]; omega
    | ⟨1, _⟩ => rfl
    | ⟨2, _⟩ => rfl

/-! ## The loop of layer 0 -/

/-- The inputs of a step. -/
def row0 (x : FVec Ideal S256x50x51 .f32) (i : IVec S_ 32) : FVec Ideal S50x51 .f32 :=
  shapeCast S50x51 (Host.dynamicSlice S1x50x51 x (starts i) sliceFits_S256x50x51_S1x50x51) shapeCasts_S1x50x51_S50x51
/-- The gates before their nonlinearities. -/
def gat0 (x : FVec Ideal S50x51 .f32) (h : FVec Ideal S50x32 .f32) (wi : FVec Ideal S128x51 .f32) (wh : FVec Ideal S128x32 .f32) (bi bh : FVec Ideal S128 .f32) : FVec Ideal S50x128 .f32 :=
  addf (addf (addf (Host.dotGeneral dot_S50x51_S51x128_S50x128_1_0_0_1_n_n none x (transpose S51x128 [1, 0] wi transposes_S128x51_S51x128_1_0))
    (Host.dotGeneral dot_S50x32_S32x128_S50x128_1_0_0_1_n_n none h (transpose S32x128 [1, 0] wh transposes_S128x32_S32x128_1_0)))
    (broadcastInDim S50x128 ![0, 1] bcast_S1x128_S50x128_0_1 (broadcastInDim S1x128 ![1] bcast_S128_S1x128_1 bi)))
    (broadcastInDim S50x128 ![0, 1] bcast_S1x128_S50x128_0_1 (broadcastInDim S1x128 ![1] bcast_S128_S1x128_1 bh))

theorem row0_at (x) (n : ℕ) (hn : n < 256) (b : Fin 50) (c : Fin 51) : row0 x (fun _ => BitVec.ofNat 32 n) (ix2 b c) = x (ix3 ⟨n, hn⟩ b c) := by
  have h' : S256x50x51.Slices ![n, 0, 0] S1x50x51 := ⟨rfl, fun a => match a with
    | ⟨0, _⟩ => (show n + 1 ≤ 256 by omega)
    | ⟨1, _⟩ => (show 0 + 50 ≤ 50 by omega)
    | ⟨2, _⟩ => (show 0 + 51 ≤ 51 by omega)⟩
  unfold row0
  rw [Host.dynamicSlice_eq_extractStridedSlice (off := ![n, 0, 0]) (hoff := h') (hs := fun a => match a with
    | ⟨0, _⟩ => toInt_ofNat_of_lt (by omega)
    | ⟨1, _⟩ => rfl
    | ⟨2, _⟩ => rfl)]
  pointwise
theorem gat0_at (x h wi wh bi bh) (b : Fin 50) (j : Fin 128) :
    gat0 x h wi wh bi bh (ix2 b j) = Gat.pre (fun c => x (ix2 b c)) (fun c => h (ix2 b c)) (fun j c => wi (ix2 j c)) (fun j c => wh (ix2 j c)) (bsum bi bh) j := by
  unfold Gat.pre bsum
  rw [← add_assoc]
  unfold gat0
  pointwise

section
variable (X : Valuation τ sig (Elt Ideal))
theorem in0 : (after while0Ops0 X (Proc.devRef .tc main_while0b_v94) : FVec Ideal S50x51 .f32) = row0 (X (Proc.devRef .tc main_v79_0)) (X (Proc.devRef .tc main_v79_5)) := by
  unfold while0Ops0
  after_reads_simp
  refine congrArg (fun s => shapeCast S50x51 (Host.dynamicSlice S1x50x51 (X (Proc.devRef .tc main_v79_0) : FVec Ideal S256x50x51 .f32) s sliceFits_S256x50x51_S1x50x51) shapeCasts_S1x50x51_S50x51) (funext fun k => ?_)
  match k with
  | 0 => simp only [Matrix.cons_val_zero]; after_reads_simp; rfl
  | 1 => simp only [Matrix.cons_val_one]; after_reads_simp; rfl
  | 2 => simp only [Matrix.cons_val]; after_reads_simp; rfl
theorem cell0 : (after while0Ops0_1 X (Proc.devRef .tc main_while0b_v131) : FVec Ideal S50x32 .f32)
    = cel (gat0 (X (Proc.devRef .tc main_while0b_v94)) (X (Proc.devRef .tc main_v79_6)) (X (Proc.devRef .tc main_v79_1)) (X (Proc.devRef .tc main_v79_2)) (X (Proc.devRef .tc main_v79_3)) (X (Proc.devRef .tc main_v79_4))) (X (Proc.devRef .tc main_v79_7)) := by
  unfold while0Ops0_1
  after_reads_simp
  rfl
theorem hidden0 : (after while0Ops0_1 X (Proc.devRef .tc main_while0b_v133) : FVec Ideal S50x32 .f32)
    = hdn (gat0 (X (Proc.devRef .tc main_while0b_v94)) (X (Proc.devRef .tc main_v79_6)) (X (Proc.devRef .tc main_v79_1)) (X (Proc.devRef .tc main_v79_2)) (X (Proc.devRef .tc main_v79_3)) (X (Proc.devRef .tc main_v79_4))) (X (Proc.devRef .tc main_v79_7)) := by
  unfold while0Ops0_1
  after_reads_simp
  rfl
theorem out0 : (after while0Ops0_2 X (Proc.devRef .tc main_while0b_v134) : FVec Ideal S256x50x32 .f32)
    = upd (X (Proc.devRef .tc main_v79_8)) (X (Proc.devRef .tc main_while0b_v133)) (X (Proc.devRef .tc main_v79_5)) := by
  unfold while0Ops0_2
  after_reads_simp
  refine congrArg (fun s => Host.dynamicUpdateSlice (X (Proc.devRef .tc main_v79_8) : FVec Ideal S256x50x32 .f32) (broadcastInDim S1x50x32 ![1, 2] bcast_S50x32_S1x50x32_1_2 (X (Proc.devRef .tc main_while0b_v133) : FVec Ideal S50x32 .f32)) s updateFits_S256x50x32_S1x50x32) (funext fun k => ?_)
  match k with
  | 0 => simp only [Matrix.cons_val_zero]; after_reads_simp; rfl
  | 1 => simp only [Matrix.cons_val_one]; after_reads_simp; rfl
  | 2 => simp only [Matrix.cons_val]; after_reads_simp; rfl
theorem copyH0 : (after while0Ops0_3 X (Proc.devRef .tc main_v79_6) : FVec Ideal S50x32 .f32) = X (Proc.devRef .tc main_while0b_v133) := by
  unfold while0Ops0_3
  after_reads_simp
  rfl
theorem copyC0 : (after while0Ops0_3 X (Proc.devRef .tc main_v79_7) : FVec Ideal S50x32 .f32) = X (Proc.devRef .tc main_while0b_v131) := by
  unfold while0Ops0_3
  after_reads_simp
  rfl
theorem copyO0 : (after while0Ops0_3 X (Proc.devRef .tc main_v79_8) : FVec Ideal S256x50x32 .f32) = X (Proc.devRef .tc main_while0b_v134) := by
  unfold while0Ops0_3
  after_reads_simp
  rfl

/-- A buffer no stretch of the trip writes stays. -/
theorem trip0_keep {b : Ref sig .tc} (hc : b ∉ condOps0_W) (h0 : b ∉ while0Ops0_W) (h1 : b ∉ while0Ops0_1_W) (h2 : b ∉ while0Ops0_2_W) (h3 : b ∉ while0Ops0_3_W) :
    afterL bodyI0 (after condOps0 X) (Proc.devRef .tc b) = X (Proc.devRef .tc b) := by
  simp only [afterL_cons, afterL_nil]
  rw [after_of_writes_sub while0Ops0_3 _ while0Ops0_3_writes h3, after_of_writes_sub while0Ops0_2 _ while0Ops0_2_writes h2, after_of_writes_sub while0Ops0_1 _ while0Ops0_1_writes h1,
    after_of_writes_sub while0Ops0 _ while0Ops0_writes h0, after_of_writes_sub condOps0 _ condOps0_writes hc]
/-- A buffer the trip's first part does not write stays through it. -/
theorem head0_keep {b : Ref sig .tc} (hc : b ∉ condOps0_W) (h0 : b ∉ while0Ops0_W) : after while0Ops0 (after condOps0 X) (Proc.devRef .tc b) = X (Proc.devRef .tc b) := by
  rw [after_of_writes_sub while0Ops0 _ while0Ops0_writes h0, after_of_writes_sub condOps0 _ condOps0_writes hc]

/-- The trip's gates. -/
def trip0_gat : FVec Ideal S50x128 .f32 :=
  gat0 (row0 (X (Proc.devRef .tc main_v79_0)) (X (Proc.devRef .tc main_v79_5))) (X (Proc.devRef .tc main_v79_6)) (X (Proc.devRef .tc main_v79_1)) (X (Proc.devRef .tc main_v79_2)) (X (Proc.devRef .tc main_v79_3)) (X (Proc.devRef .tc main_v79_4))
theorem trip0_h : (afterL bodyI0 (after condOps0 X) (Proc.devRef .tc main_v79_6) : FVec Ideal S50x32 .f32) = hdn (trip0_gat X) (X (Proc.devRef .tc main_v79_7)) := by
  simp only [afterL_cons, afterL_nil]
  rw [copyH0, after_of_writes_sub while0Ops0_2 _ while0Ops0_2_writes (by decide +kernel), hidden0, in0,
    head0_keep X (by decide +kernel) (by decide +kernel), head0_keep X (by decide +kernel) (by decide +kernel), head0_keep X (by decide +kernel) (by decide +kernel), head0_keep X (by decide +kernel) (by decide +kernel), head0_keep X (by decide +kernel) (by decide +kernel), head0_keep X (by decide +kernel) (by decide +kernel),
    after_of_writes_sub condOps0 _ condOps0_writes (by decide +kernel), after_of_writes_sub condOps0 _ condOps0_writes (by decide +kernel)]
  rfl
theorem trip0_c : (afterL bodyI0 (after condOps0 X) (Proc.devRef .tc main_v79_7) : FVec Ideal S50x32 .f32) = cel (trip0_gat X) (X (Proc.devRef .tc main_v79_7)) := by
  simp only [afterL_cons, afterL_nil]
  rw [copyC0, after_of_writes_sub while0Ops0_2 _ while0Ops0_2_writes (by decide +kernel), cell0, in0,
    head0_keep X (by decide +kernel) (by decide +kernel), head0_keep X (by decide +kernel) (by decide +kernel), head0_keep X (by decide +kernel) (by decide +kernel), head0_keep X (by decide +kernel) (by decide +kernel), head0_keep X (by decide +kernel) (by decide +kernel), head0_keep X (by decide +kernel) (by decide +kernel),
    after_of_writes_sub condOps0 _ condOps0_writes (by decide +kernel), after_of_writes_sub condOps0 _ condOps0_writes (by decide +kernel)]
  rfl
theorem trip0_o : (afterL bodyI0 (after condOps0 X) (Proc.devRef .tc main_v79_8) : FVec Ideal S256x50x32 .f32) = upd (X (Proc.devRef .tc main_v79_8)) (hdn (trip0_gat X) (X (Proc.devRef .tc main_v79_7))) (X (Proc.devRef .tc main_v79_5)) := by
  simp only [afterL_cons, afterL_nil]
  rw [copyO0, out0, hidden0, in0, after_of_writes_sub while0Ops0_1 _ while0Ops0_1_writes (by decide +kernel), after_of_writes_sub while0Ops0_1 _ while0Ops0_1_writes (by decide +kernel),
    head0_keep X (by decide +kernel) (by decide +kernel), head0_keep X (by decide +kernel) (by decide +kernel), head0_keep X (by decide +kernel) (by decide +kernel), head0_keep X (by decide +kernel) (by decide +kernel), head0_keep X (by decide +kernel) (by decide +kernel), head0_keep X (by decide +kernel) (by decide +kernel),
    head0_keep X (by decide +kernel) (by decide +kernel), head0_keep X (by decide +kernel) (by decide +kernel),
    after_of_writes_sub condOps0 _ condOps0_writes (by decide +kernel), after_of_writes_sub condOps0 _ condOps0_writes (by decide +kernel)]
  rfl
end

section
variable (W₀ : Dev nD → Valuation τ sig (Elt Ideal)) (c : Dev nD)

/-- The layer's inputs at a batch row. -/
def seqIn0 (x : FVec Ideal S256x50x51 .f32) (b : Fin 50) (n : ℕ) (c : Fin 51) : EReal := if h : n < 256 then x (ix3 ⟨n, h⟩ b c) else 0
/-- The layer's states at a batch row. -/
def lay0 (x : FVec Ideal S256x50x51 .f32) (wi : FVec Ideal S128x51 .f32) (wh : FVec Ideal S128x32 .f32) (bi bh : FVec Ideal S128 .f32) (b : Fin 50) : ℕ → (Fin 32 → EReal) × (Fin 32 → EReal) :=
  Gat.rec (seqIn0 x b) (fun j c => wi (ix2 j c)) (fun j c => wh (ix2 j c)) (bsum bi bh)
/-- The layer's states from the loop's entry. -/
def layAt0 (b : Fin 50) : ℕ → (Fin 32 → EReal) × (Fin 32 → EReal) :=
  lay0 (W₀ c (Proc.devRef .tc main_v79_0)) (W₀ c (Proc.devRef .tc main_v79_1)) (W₀ c (Proc.devRef .tc main_v79_2)) (W₀ c (Proc.devRef .tc main_v79_3)) (W₀ c (Proc.devRef .tc main_v79_4)) b

theorem keep0 {b : Ref sig .tc} (hc : b ∉ condOps0_W) (h0 : b ∉ while0Ops0_W) (h1 : b ∉ while0Ops0_1_W) (h2 : b ∉ while0Ops0_2_W) (h3 : b ∉ while0Ops0_3_W) :
    ∀ k, atTrip condOps0 bodyI0 W₀ k c (Proc.devRef .tc b) = W₀ c (Proc.devRef .tc b)
  | 0 => rfl
  | k + 1 => by rw [atTrip_succ, trip0_keep _ hc h0 h1 h2 h3, keep0 hc h0 h1 h2 h3 k]

theorem inv0 (hz : W₀ c (Proc.devRef .tc main_v79_5) = fun _ => (0#32 : BitVec 32))
    (hh : ∀ (b : Fin 50) (u : Fin 32), (W₀ c (Proc.devRef .tc main_v79_6) : FVec Ideal S50x32 .f32) (ix2 b u) = (0 : EReal))
    (hc : ∀ (b : Fin 50) (u : Fin 32), (W₀ c (Proc.devRef .tc main_v79_7) : FVec Ideal S50x32 .f32) (ix2 b u) = (0 : EReal)) (n : ℕ) (hn : n ≤ 256) :
    (∀ b : Fin 50, (fun u => (atTrip condOps0 bodyI0 W₀ n c (Proc.devRef .tc main_v79_6) : FVec Ideal S50x32 .f32) (ix2 b u)) = (layAt0 W₀ c b n).1)
    ∧ (∀ b : Fin 50, (fun u => (atTrip condOps0 bodyI0 W₀ n c (Proc.devRef .tc main_v79_7) : FVec Ideal S50x32 .f32) (ix2 b u)) = (layAt0 W₀ c b n).2)
    ∧ (∀ (t : Fin 256) (b : Fin 50) (u : Fin 32), t.1 < n → (atTrip condOps0 bodyI0 W₀ n c (Proc.devRef .tc main_v79_8) : FVec Ideal S256x50x32 .f32) (ix3 t b u) = (layAt0 W₀ c b (t.1 + 1)).1 u) := by
  induction n with
  | zero => exact ⟨fun b => funext fun u => hh b u, fun b => funext fun u => hc b u, fun t b u h => absurd h (Nat.not_lt_zero _)⟩
  | succ n ih =>
    obtain ⟨i1, i2, i3⟩ := ih (by omega)
    have k0 := keep0 W₀ c (b := main_v79_0) (by decide +kernel) (by decide +kernel) (by decide +kernel) (by decide +kernel) (by decide +kernel) n
    have k1 := keep0 W₀ c (b := main_v79_1) (by decide +kernel) (by decide +kernel) (by decide +kernel) (by decide +kernel) (by decide +kernel) n
    have k2 := keep0 W₀ c (b := main_v79_2) (by decide +kernel) (by decide +kernel) (by decide +kernel) (by decide +kernel) (by decide +kernel) n
    have k3 := keep0 W₀ c (b := main_v79_3) (by decide +kernel) (by decide +kernel) (by decide +kernel) (by decide +kernel) (by decide +kernel) n
    have k4 := keep0 W₀ c (b := main_v79_4) (by decide +kernel) (by decide +kernel) (by decide +kernel) (by decide +kernel) (by decide +kernel) n
    have k5 : atTrip condOps0 bodyI0 W₀ n c (Proc.devRef .tc main_v79_5) = fun _ => BitVec.ofNat 32 n := by
      rw [ctr_at0 W₀ c hz n]; funext _; simp [Scf.iv]
    have hg : ∀ b : Fin 50, (fun j => trip0_gat (atTrip condOps0 bodyI0 W₀ n c) (ix2 b j))
        = Gat.pre (seqIn0 (W₀ c (Proc.devRef .tc main_v79_0)) b n) (layAt0 W₀ c b n).1 (fun j c' => (W₀ c (Proc.devRef .tc main_v79_1) : FVec Ideal S128x51 .f32) (ix2 j c'))
          (fun j c' => (W₀ c (Proc.devRef .tc main_v79_2) : FVec Ideal S128x32 .f32) (ix2 j c')) (bsum (W₀ c (Proc.devRef .tc main_v79_3)) (W₀ c (Proc.devRef .tc main_v79_4))) := fun b => by
      funext j
      unfold trip0_gat
      rw [gat0_at, k0, k1, k2, k3, k4, k5, i1]
      congr 1
      funext c'
      refine (row0_at _ n (by omega) b c').trans ?_
      unfold seqIn0
      rw [dif_pos (show n < 256 by omega)]
    have hH : ∀ b : Fin 50, (fun u => hdn (trip0_gat (atTrip condOps0 bodyI0 W₀ n c)) (atTrip condOps0 bodyI0 W₀ n c (Proc.devRef .tc main_v79_7)) (ix2 b u)) = (layAt0 W₀ c b (n + 1)).1 := fun b => by
      funext u
      rw [hdn_at, hg, i2]
      rfl
    refine ⟨fun b => ?_, fun b => ?_, fun t b u ht => ?_⟩
    · rw [atTrip_succ, trip0_h]
      exact hH b
    · rw [atTrip_succ, trip0_c]
      funext u
      rw [cel_at, hg, i2]
      rfl
    · rw [atTrip_succ, trip0_o, k5]
      refine (upd_at _ _ n (by omega) t b u).trans ?_
      by_cases e : t.1 = n
      · rw [if_pos e, e]
        exact congrFun (hH b) u
      · rw [if_neg e]
        exact i3 t b u (by omega)
end

/-! ## The loop of layer 1 -/

/-- The inputs of a step. -/
def row1 (x : FVec Ideal S256x50x32 .f32) (i : IVec S_ 32) : FVec Ideal S50x32 .f32 :=
  shapeCast S50x32 (Host.dynamicSlice S1x50x32 x (starts i) sliceFits_S256x50x32_S1x50x32) shapeCasts_S1x50x32_S50x32
/-- The gates before their nonlinearities. -/
def gat1 (x : FVec Ideal S50x32 .f32) (h : FVec Ideal S50x32 .f32) (wi : FVec Ideal S128x32 .f32) (wh : FVec Ideal S128x32 .f32) (bi bh : FVec Ideal S128 .f32) : FVec Ideal S50x128 .f32 :=
  addf (addf (addf (Host.dotGeneral dot_S50x32_S32x128_S50x128_1_0_0_1_n_n none x (transpose S32x128 [1, 0] wi transposes_S128x32_S32x128_1_0))
    (Host.dotGeneral dot_S50x32_S32x128_S50x128_1_0_0_1_n_n none h (transpose S32x128 [1, 0] wh transposes_S128x32_S32x128_1_0)))
    (broadcastInDim S50x128 ![0, 1] bcast_S1x128_S50x128_0_1 (broadcastInDim S1x128 ![1] bcast_S128_S1x128_1 bi)))
    (broadcastInDim S50x128 ![0, 1] bcast_S1x128_S50x128_0_1 (broadcastInDim S1x128 ![1] bcast_S128_S1x128_1 bh))

theorem row1_at (x) (n : ℕ) (hn : n < 256) (b : Fin 50) (c : Fin 32) : row1 x (fun _ => BitVec.ofNat 32 n) (ix2 b c) = x (ix3 ⟨n, hn⟩ b c) := by
  have h' : S256x50x32.Slices ![n, 0, 0] S1x50x32 := ⟨rfl, fun a => match a with
    | ⟨0, _⟩ => (show n + 1 ≤ 256 by omega)
    | ⟨1, _⟩ => (show 0 + 50 ≤ 50 by omega)
    | ⟨2, _⟩ => (show 0 + 32 ≤ 32 by omega)⟩
  unfold row1
  rw [Host.dynamicSlice_eq_extractStridedSlice (off := ![n, 0, 0]) (hoff := h') (hs := fun a => match a with
    | ⟨0, _⟩ => toInt_ofNat_of_lt (by omega)
    | ⟨1, _⟩ => rfl
    | ⟨2, _⟩ => rfl)]
  pointwise
theorem gat1_at (x h wi wh bi bh) (b : Fin 50) (j : Fin 128) :
    gat1 x h wi wh bi bh (ix2 b j) = Gat.pre (fun c => x (ix2 b c)) (fun c => h (ix2 b c)) (fun j c => wi (ix2 j c)) (fun j c => wh (ix2 j c)) (bsum bi bh) j := by
  unfold Gat.pre bsum
  rw [← add_assoc]
  unfold gat1
  pointwise

section
variable (X : Valuation τ sig (Elt Ideal))
theorem in1 : (after while1Ops0 X (Proc.devRef .tc main_while1b_v94) : FVec Ideal S50x32 .f32) = row1 (X (Proc.devRef .tc main_v85_0)) (X (Proc.devRef .tc main_v85_5)) := by
  unfold while1Ops0
  after_reads_simp
  refine congrArg (fun s => shapeCast S50x32 (Host.dynamicSlice S1x50x32 (X (Proc.devRef .tc main_v85_0) : FVec Ideal S256x50x32 .f32) s sliceFits_S256x50x32_S1x50x32) shapeCasts_S1x50x32_S50x32) (funext fun k => ?_)
  match k with
  | 0 => simp only [Matrix.cons_val_zero]; after_reads_simp; rfl
  | 1 => simp only [Matrix.cons_val_one]; after_reads_simp; rfl
  | 2 => simp only [Matrix.cons_val]; after_reads_simp; rfl
theorem cell1 : (after while1Ops0_1 X (Proc.devRef .tc main_while1b_v131) : FVec Ideal S50x32 .f32)
    = cel (gat1 (X (Proc.devRef .tc main_while1b_v94)) (X (Proc.devRef .tc main_v85_6)) (X (Proc.devRef .tc main_v85_1)) (X (Proc.devRef .tc main_v85_2)) (X (Proc.devRef .tc main_v85_3)) (X (Proc.devRef .tc main_v85_4))) (X (Proc.devRef .tc main_v85_7)) := by
  unfold while1Ops0_1
  after_reads_simp
  rfl
theorem hidden1 : (after while1Ops0_1 X (Proc.devRef .tc main_while1b_v133) : FVec Ideal S50x32 .f32)
    = hdn (gat1 (X (Proc.devRef .tc main_while1b_v94)) (X (Proc.devRef .tc main_v85_6)) (X (Proc.devRef .tc main_v85_1)) (X (Proc.devRef .tc main_v85_2)) (X (Proc.devRef .tc main_v85_3)) (X (Proc.devRef .tc main_v85_4))) (X (Proc.devRef .tc main_v85_7)) := by
  unfold while1Ops0_1
  after_reads_simp
  rfl
theorem out1 : (after while1Ops0_2 X (Proc.devRef .tc main_while1b_v134) : FVec Ideal S256x50x32 .f32)
    = upd (X (Proc.devRef .tc main_v85_8)) (X (Proc.devRef .tc main_while1b_v133)) (X (Proc.devRef .tc main_v85_5)) := by
  unfold while1Ops0_2
  after_reads_simp
  refine congrArg (fun s => Host.dynamicUpdateSlice (X (Proc.devRef .tc main_v85_8) : FVec Ideal S256x50x32 .f32) (broadcastInDim S1x50x32 ![1, 2] bcast_S50x32_S1x50x32_1_2 (X (Proc.devRef .tc main_while1b_v133) : FVec Ideal S50x32 .f32)) s updateFits_S256x50x32_S1x50x32) (funext fun k => ?_)
  match k with
  | 0 => simp only [Matrix.cons_val_zero]; after_reads_simp; rfl
  | 1 => simp only [Matrix.cons_val_one]; after_reads_simp; rfl
  | 2 => simp only [Matrix.cons_val]; after_reads_simp; rfl
theorem copyH1 : (after while1Ops0_3 X (Proc.devRef .tc main_v85_6) : FVec Ideal S50x32 .f32) = X (Proc.devRef .tc main_while1b_v133) := by
  unfold while1Ops0_3
  after_reads_simp
  rfl
theorem copyC1 : (after while1Ops0_3 X (Proc.devRef .tc main_v85_7) : FVec Ideal S50x32 .f32) = X (Proc.devRef .tc main_while1b_v131) := by
  unfold while1Ops0_3
  after_reads_simp
  rfl
theorem copyO1 : (after while1Ops0_3 X (Proc.devRef .tc main_v85_8) : FVec Ideal S256x50x32 .f32) = X (Proc.devRef .tc main_while1b_v134) := by
  unfold while1Ops0_3
  after_reads_simp
  rfl

/-- A buffer no stretch of the trip writes stays. -/
theorem trip1_keep {b : Ref sig .tc} (hc : b ∉ condOps1_W) (h0 : b ∉ while1Ops0_W) (h1 : b ∉ while1Ops0_1_W) (h2 : b ∉ while1Ops0_2_W) (h3 : b ∉ while1Ops0_3_W) :
    afterL bodyI1 (after condOps1 X) (Proc.devRef .tc b) = X (Proc.devRef .tc b) := by
  simp only [afterL_cons, afterL_nil]
  rw [after_of_writes_sub while1Ops0_3 _ while1Ops0_3_writes h3, after_of_writes_sub while1Ops0_2 _ while1Ops0_2_writes h2, after_of_writes_sub while1Ops0_1 _ while1Ops0_1_writes h1,
    after_of_writes_sub while1Ops0 _ while1Ops0_writes h0, after_of_writes_sub condOps1 _ condOps1_writes hc]
/-- A buffer the trip's first part does not write stays through it. -/
theorem head1_keep {b : Ref sig .tc} (hc : b ∉ condOps1_W) (h0 : b ∉ while1Ops0_W) : after while1Ops0 (after condOps1 X) (Proc.devRef .tc b) = X (Proc.devRef .tc b) := by
  rw [after_of_writes_sub while1Ops0 _ while1Ops0_writes h0, after_of_writes_sub condOps1 _ condOps1_writes hc]

/-- The trip's gates. -/
def trip1_gat : FVec Ideal S50x128 .f32 :=
  gat1 (row1 (X (Proc.devRef .tc main_v85_0)) (X (Proc.devRef .tc main_v85_5))) (X (Proc.devRef .tc main_v85_6)) (X (Proc.devRef .tc main_v85_1)) (X (Proc.devRef .tc main_v85_2)) (X (Proc.devRef .tc main_v85_3)) (X (Proc.devRef .tc main_v85_4))
theorem trip1_h : (afterL bodyI1 (after condOps1 X) (Proc.devRef .tc main_v85_6) : FVec Ideal S50x32 .f32) = hdn (trip1_gat X) (X (Proc.devRef .tc main_v85_7)) := by
  simp only [afterL_cons, afterL_nil]
  rw [copyH1, after_of_writes_sub while1Ops0_2 _ while1Ops0_2_writes (by decide +kernel), hidden1, in1,
    head1_keep X (by decide +kernel) (by decide +kernel), head1_keep X (by decide +kernel) (by decide +kernel), head1_keep X (by decide +kernel) (by decide +kernel), head1_keep X (by decide +kernel) (by decide +kernel), head1_keep X (by decide +kernel) (by decide +kernel), head1_keep X (by decide +kernel) (by decide +kernel),
    after_of_writes_sub condOps1 _ condOps1_writes (by decide +kernel), after_of_writes_sub condOps1 _ condOps1_writes (by decide +kernel)]
  rfl
theorem trip1_c : (afterL bodyI1 (after condOps1 X) (Proc.devRef .tc main_v85_7) : FVec Ideal S50x32 .f32) = cel (trip1_gat X) (X (Proc.devRef .tc main_v85_7)) := by
  simp only [afterL_cons, afterL_nil]
  rw [copyC1, after_of_writes_sub while1Ops0_2 _ while1Ops0_2_writes (by decide +kernel), cell1, in1,
    head1_keep X (by decide +kernel) (by decide +kernel), head1_keep X (by decide +kernel) (by decide +kernel), head1_keep X (by decide +kernel) (by decide +kernel), head1_keep X (by decide +kernel) (by decide +kernel), head1_keep X (by decide +kernel) (by decide +kernel), head1_keep X (by decide +kernel) (by decide +kernel),
    after_of_writes_sub condOps1 _ condOps1_writes (by decide +kernel), after_of_writes_sub condOps1 _ condOps1_writes (by decide +kernel)]
  rfl
theorem trip1_o : (afterL bodyI1 (after condOps1 X) (Proc.devRef .tc main_v85_8) : FVec Ideal S256x50x32 .f32) = upd (X (Proc.devRef .tc main_v85_8)) (hdn (trip1_gat X) (X (Proc.devRef .tc main_v85_7))) (X (Proc.devRef .tc main_v85_5)) := by
  simp only [afterL_cons, afterL_nil]
  rw [copyO1, out1, hidden1, in1, after_of_writes_sub while1Ops0_1 _ while1Ops0_1_writes (by decide +kernel), after_of_writes_sub while1Ops0_1 _ while1Ops0_1_writes (by decide +kernel),
    head1_keep X (by decide +kernel) (by decide +kernel), head1_keep X (by decide +kernel) (by decide +kernel), head1_keep X (by decide +kernel) (by decide +kernel), head1_keep X (by decide +kernel) (by decide +kernel), head1_keep X (by decide +kernel) (by decide +kernel), head1_keep X (by decide +kernel) (by decide +kernel),
    head1_keep X (by decide +kernel) (by decide +kernel), head1_keep X (by decide +kernel) (by decide +kernel),
    after_of_writes_sub condOps1 _ condOps1_writes (by decide +kernel), after_of_writes_sub condOps1 _ condOps1_writes (by decide +kernel)]
  rfl
end

section
variable (W₀ : Dev nD → Valuation τ sig (Elt Ideal)) (c : Dev nD)

/-- The layer's inputs at a batch row. -/
def seqIn1 (x : FVec Ideal S256x50x32 .f32) (b : Fin 50) (n : ℕ) (c : Fin 32) : EReal := if h : n < 256 then x (ix3 ⟨n, h⟩ b c) else 0
/-- The layer's states at a batch row. -/
def lay1 (x : FVec Ideal S256x50x32 .f32) (wi : FVec Ideal S128x32 .f32) (wh : FVec Ideal S128x32 .f32) (bi bh : FVec Ideal S128 .f32) (b : Fin 50) : ℕ → (Fin 32 → EReal) × (Fin 32 → EReal) :=
  Gat.rec (seqIn1 x b) (fun j c => wi (ix2 j c)) (fun j c => wh (ix2 j c)) (bsum bi bh)
/-- The layer's states from the loop's entry. -/
def layAt1 (b : Fin 50) : ℕ → (Fin 32 → EReal) × (Fin 32 → EReal) :=
  lay1 (W₀ c (Proc.devRef .tc main_v85_0)) (W₀ c (Proc.devRef .tc main_v85_1)) (W₀ c (Proc.devRef .tc main_v85_2)) (W₀ c (Proc.devRef .tc main_v85_3)) (W₀ c (Proc.devRef .tc main_v85_4)) b

theorem keep1 {b : Ref sig .tc} (hc : b ∉ condOps1_W) (h0 : b ∉ while1Ops0_W) (h1 : b ∉ while1Ops0_1_W) (h2 : b ∉ while1Ops0_2_W) (h3 : b ∉ while1Ops0_3_W) :
    ∀ k, atTrip condOps1 bodyI1 W₀ k c (Proc.devRef .tc b) = W₀ c (Proc.devRef .tc b)
  | 0 => rfl
  | k + 1 => by rw [atTrip_succ, trip1_keep _ hc h0 h1 h2 h3, keep1 hc h0 h1 h2 h3 k]

theorem inv1 (hz : W₀ c (Proc.devRef .tc main_v85_5) = fun _ => (0#32 : BitVec 32))
    (hh : ∀ (b : Fin 50) (u : Fin 32), (W₀ c (Proc.devRef .tc main_v85_6) : FVec Ideal S50x32 .f32) (ix2 b u) = (0 : EReal))
    (hc : ∀ (b : Fin 50) (u : Fin 32), (W₀ c (Proc.devRef .tc main_v85_7) : FVec Ideal S50x32 .f32) (ix2 b u) = (0 : EReal)) (n : ℕ) (hn : n ≤ 256) :
    (∀ b : Fin 50, (fun u => (atTrip condOps1 bodyI1 W₀ n c (Proc.devRef .tc main_v85_6) : FVec Ideal S50x32 .f32) (ix2 b u)) = (layAt1 W₀ c b n).1)
    ∧ (∀ b : Fin 50, (fun u => (atTrip condOps1 bodyI1 W₀ n c (Proc.devRef .tc main_v85_7) : FVec Ideal S50x32 .f32) (ix2 b u)) = (layAt1 W₀ c b n).2)
    ∧ (∀ (t : Fin 256) (b : Fin 50) (u : Fin 32), t.1 < n → (atTrip condOps1 bodyI1 W₀ n c (Proc.devRef .tc main_v85_8) : FVec Ideal S256x50x32 .f32) (ix3 t b u) = (layAt1 W₀ c b (t.1 + 1)).1 u) := by
  induction n with
  | zero => exact ⟨fun b => funext fun u => hh b u, fun b => funext fun u => hc b u, fun t b u h => absurd h (Nat.not_lt_zero _)⟩
  | succ n ih =>
    obtain ⟨i1, i2, i3⟩ := ih (by omega)
    have k0 := keep1 W₀ c (b := main_v85_0) (by decide +kernel) (by decide +kernel) (by decide +kernel) (by decide +kernel) (by decide +kernel) n
    have k1 := keep1 W₀ c (b := main_v85_1) (by decide +kernel) (by decide +kernel) (by decide +kernel) (by decide +kernel) (by decide +kernel) n
    have k2 := keep1 W₀ c (b := main_v85_2) (by decide +kernel) (by decide +kernel) (by decide +kernel) (by decide +kernel) (by decide +kernel) n
    have k3 := keep1 W₀ c (b := main_v85_3) (by decide +kernel) (by decide +kernel) (by decide +kernel) (by decide +kernel) (by decide +kernel) n
    have k4 := keep1 W₀ c (b := main_v85_4) (by decide +kernel) (by decide +kernel) (by decide +kernel) (by decide +kernel) (by decide +kernel) n
    have k5 : atTrip condOps1 bodyI1 W₀ n c (Proc.devRef .tc main_v85_5) = fun _ => BitVec.ofNat 32 n := by
      rw [ctr_at1 W₀ c hz n]; funext _; simp [Scf.iv]
    have hg : ∀ b : Fin 50, (fun j => trip1_gat (atTrip condOps1 bodyI1 W₀ n c) (ix2 b j))
        = Gat.pre (seqIn1 (W₀ c (Proc.devRef .tc main_v85_0)) b n) (layAt1 W₀ c b n).1 (fun j c' => (W₀ c (Proc.devRef .tc main_v85_1) : FVec Ideal S128x32 .f32) (ix2 j c'))
          (fun j c' => (W₀ c (Proc.devRef .tc main_v85_2) : FVec Ideal S128x32 .f32) (ix2 j c')) (bsum (W₀ c (Proc.devRef .tc main_v85_3)) (W₀ c (Proc.devRef .tc main_v85_4))) := fun b => by
      funext j
      unfold trip1_gat
      rw [gat1_at, k0, k1, k2, k3, k4, k5, i1]
      congr 1
      funext c'
      refine (row1_at _ n (by omega) b c').trans ?_
      unfold seqIn1
      rw [dif_pos (show n < 256 by omega)]
    have hH : ∀ b : Fin 50, (fun u => hdn (trip1_gat (atTrip condOps1 bodyI1 W₀ n c)) (atTrip condOps1 bodyI1 W₀ n c (Proc.devRef .tc main_v85_7)) (ix2 b u)) = (layAt1 W₀ c b (n + 1)).1 := fun b => by
      funext u
      rw [hdn_at, hg, i2]
      rfl
    refine ⟨fun b => ?_, fun b => ?_, fun t b u ht => ?_⟩
    · rw [atTrip_succ, trip1_h]
      exact hH b
    · rw [atTrip_succ, trip1_c]
      funext u
      rw [cel_at, hg, i2]
      rfl
    · rw [atTrip_succ, trip1_o, k5]
      refine (upd_at _ _ n (by omega) t b u).trans ?_
      by_cases e : t.1 = n
      · rw [if_pos e, e]
        exact congrFun (hH b) u
      · rw [if_neg e]
        exact i3 t b u (by omega)
end

end Cert.ReferenceIdeal.Hand
-- ==== Proof.RefEnd.lean ====
module
public import proofs.«01_k».proof.Proof.RefGatReal
public import proofs.«01_k».proof.Proof.RefLstm
public import proofs.«01_k».proof.Proof.Net

/-!
The reference program's answer: its two loops chained, and the last sum.
-/

@[expose] public section
noncomputable section
namespace Cert.ReferenceIdeal.Hand
open Cert.ReferenceIdeal Cert.ReferenceIdeal.Gen
open Idealize.ShloMosaic Idealize.ShloMosaic.TcCoe Idealize.ShloMosaic.StableHlo Idealize.ShloMosaic.Pointwise

/-! ## The stretches around the loops -/

/-- The first layer's hidden states, turned there and back. -/
def turnB (x : FVec Ideal S256x50x32 .f32) : FVec Ideal S256x50x32 .f32 :=
  transpose S256x50x32 [1, 0, 2] (transpose S50x256x32 [1, 0, 2] x transposes_S256x50x32_S50x256x32_1_0_2) transposes_S50x256x32_S256x50x32_1_0_2
theorem turnB_at (x) (s : Fin 256) (b : Fin 50) (u : Fin 32) : turnB x (ix3 s b u) = x (ix3 s b u) := by
  unfold turnB
  pointwise
/-- Zero states. -/
def zst : FVec Ideal S50x32 .f32 := broadcastInDim S50x32 ![] bcast_S_S50x32 (constant S_ .f32 0x00000000#32)
theorem zst_at (b : Fin 50) (u : Fin 32) : zst (ix2 b u) = (0 : EReal) := by
  unfold zst
  pointwise

section
variable (W : Valuation τ sig (Elt Ideal))

theorem mid_x : (after hostOps0_11 W (Proc.devRef .tc main_v85_0) : FVec Ideal S256x50x32 .f32) = turnB (W (Proc.devRef .tc main_v79_8)) := by
  unfold hostOps0_11
  after_reads_simp
  rfl
theorem mid_wi : (after hostOps0_11 W (Proc.devRef .tc main_v85_1) : FVec Ideal S128x32 .f32) = W (Proc.devRef .tc main_arg9) := by
  unfold hostOps0_11
  after_reads_simp
  rfl
theorem mid_wh : (after hostOps0_11 W (Proc.devRef .tc main_v85_2) : FVec Ideal S128x32 .f32) = W (Proc.devRef .tc main_arg10) := by
  unfold hostOps0_11
  after_reads_simp
  rfl
theorem mid_bi : (after hostOps0_11 W (Proc.devRef .tc main_v85_3) : FVec Ideal S128 .f32) = W (Proc.devRef .tc main_arg11) := by
  unfold hostOps0_11
  after_reads_simp
  rfl
theorem mid_bh : (after hostOps0_11 W (Proc.devRef .tc main_v85_4) : FVec Ideal S128 .f32) = W (Proc.devRef .tc main_arg12) := by
  unfold hostOps0_11
  after_reads_simp
  rfl
theorem mid_h : (after hostOps0_11 W (Proc.devRef .tc main_v85_6) : FVec Ideal S50x32 .f32) = zst := by
  unfold hostOps0_11
  after_reads_simp
  rfl
theorem mid_c : (after hostOps0_11 W (Proc.devRef .tc main_v85_7) : FVec Ideal S50x32 .f32) = zst := by
  unfold hostOps0_11
  after_reads_simp
  rfl
theorem last_at (t : Fin 256) (q : Fin 8) : (show EReal from (after hostOps0_12 W (Proc.devRef .tc main_v93) : FVec Ideal S256x8 .f32) (ix2 t q))
    = ∑ x : Fin 1600, (show EReal from (W (Proc.devRef .tc main_v85_8) : FVec Ideal S256x50x32 .f32) (ix3 t ⟨x.1 / 32, by omega⟩ ⟨x.1 % 32, by omega⟩)) * (show EReal from (W (Proc.devRef .tc main_arg13) : FVec Ideal S8x1600 .f32) (ix2 q x))
      + (show EReal from (W (Proc.devRef .tc main_arg14) : FVec Ideal S8 .f32) (ix1 q)) := by
  show _ = _
  unfold hostOps0_12
  after_reads_at

theorem pre9_arg {r : Ref sig .tc} (hr : r ∈ argRefs) : after hostOps0_9 (after hostOps0_8 (after hostOps0_7 (after hostOps0_6 (pre5 W)))) (Proc.devRef .tc r) = W (Proc.devRef .tc r) := by
  rw [after_of_writes_sub hostOps0_9 _ hostOps0_9_writes (keep_mem hr (by decide +kernel)), after_of_writes_sub hostOps0_8 _ hostOps0_8_writes (keep_mem hr (by decide +kernel)),
    after_of_writes_sub hostOps0_7 _ hostOps0_7_writes (keep_mem hr (by decide +kernel)), after_of_writes_sub hostOps0_6 _ hostOps0_6_writes (keep_mem hr (by decide +kernel)), pre5_arg W hr]
end

section
variable (m : (ℓ : Loc nD τ sig) → Buf (Elt Ideal) ℓ) (c : Dev nD)

/-- The arguments. -/
abbrev ar5 : FVec Ideal S128x51 .f32 := m ((c.tc : Thread nD τ).loc main_arg5)
abbrev ar6 : FVec Ideal S128x32 .f32 := m ((c.tc : Thread nD τ).loc main_arg6)
abbrev ar7 : FVec Ideal S128 .f32 := m ((c.tc : Thread nD τ).loc main_arg7)
abbrev ar8 : FVec Ideal S128 .f32 := m ((c.tc : Thread nD τ).loc main_arg8)
abbrev ar9 : FVec Ideal S128x32 .f32 := m ((c.tc : Thread nD τ).loc main_arg9)
abbrev ar10 : FVec Ideal S128x32 .f32 := m ((c.tc : Thread nD τ).loc main_arg10)
abbrev ar11 : FVec Ideal S128 .f32 := m ((c.tc : Thread nD τ).loc main_arg11)
abbrev ar12 : FVec Ideal S128 .f32 := m ((c.tc : Thread nD τ).loc main_arg12)
abbrev ar13 : FVec Ideal S8x1600 .f32 := m ((c.tc : Thread nD τ).loc main_arg13)
abbrev ar14 : FVec Ideal S8 .f32 := m ((c.tc : Thread nD τ).loc main_arg14)

/-- The first layer's states from the launch. -/
def first (b : Fin 50) : ℕ → (Fin 32 → EReal) × (Fin 32 → EReal) :=
  lay0 (entry0 m c (Proc.devRef .tc main_v79_0)) (ar5 m c) (ar6 m c) (ar7 m c) (ar8 m c) b

theorem entry0_wi : (entry0 m c (Proc.devRef .tc main_v79_1) : FVec Ideal S128x51 .f32) = ar5 m c :=
  (st_wi (after hostOps0_9 (after hostOps0_8 (after hostOps0_7 (after hostOps0_6 (pre5 (launchContents m c))))))).trans (pre9_arg (launchContents m c) (r := main_arg5) (by decide +kernel))
theorem entry0_wh : (entry0 m c (Proc.devRef .tc main_v79_2) : FVec Ideal S128x32 .f32) = ar6 m c :=
  (st_wh (after hostOps0_9 (after hostOps0_8 (after hostOps0_7 (after hostOps0_6 (pre5 (launchContents m c))))))).trans (pre9_arg (launchContents m c) (r := main_arg6) (by decide +kernel))
theorem entry0_bi : (entry0 m c (Proc.devRef .tc main_v79_3) : FVec Ideal S128 .f32) = ar7 m c :=
  (st_bi (after hostOps0_9 (after hostOps0_8 (after hostOps0_7 (after hostOps0_6 (pre5 (launchContents m c))))))).trans (pre9_arg (launchContents m c) (r := main_arg7) (by decide +kernel))
theorem entry0_bh : (entry0 m c (Proc.devRef .tc main_v79_4) : FVec Ideal S128 .f32) = ar8 m c :=
  (st_bh (after hostOps0_9 (after hostOps0_8 (after hostOps0_7 (after hostOps0_6 (pre5 (launchContents m c))))))).trans (pre9_arg (launchContents m c) (r := main_arg8) (by decide +kernel))
theorem entry0_h : (entry0 m c (Proc.devRef .tc main_v79_6) : FVec Ideal S50x32 .f32) = zst :=
  st_h (after hostOps0_9 (after hostOps0_8 (after hostOps0_7 (after hostOps0_6 (pre5 (launchContents m c))))))
theorem entry0_c : (entry0 m c (Proc.devRef .tc main_v79_7) : FVec Ideal S50x32 .f32) = zst :=
  st_c (after hostOps0_9 (after hostOps0_8 (after hostOps0_7 (after hostOps0_6 (pre5 (launchContents m c))))))

theorem layAt0_eq (b : Fin 50) : layAt0 (entry0 m) c b = first m c b := by
  unfold layAt0 first
  rw [entry0_wi, entry0_wh, entry0_bi, entry0_bh]

theorem exit0_out (t : Fin 256) (b : Fin 50) (u : Fin 32) : (exit0 m c (Proc.devRef .tc main_v79_8) : FVec Ideal S256x50x32 .f32) (ix3 t b u) = (first m c b (t.1 + 1)).1 u := by
  have hi := (inv0 (entry0 m) c (ctr_entry0 m c) (fun b u => by rw [entry0_h]; exact zst_at b u) (fun b u => by rw [entry0_c]; exact zst_at b u) 256 le_rfl).2.2 t b u t.2
  rw [layAt0_eq] at hi
  rw [← hi]
  show (after condOps0 (atTrip condOps0 bodyI0 (entry0 m) 256 c) (Proc.devRef .tc main_v79_8) : FVec Ideal S256x50x32 .f32) (ix3 t b u) = _
  rw [after_of_writes_sub condOps0 _ condOps0_writes (by decide +kernel)]

theorem exit0_arg {r : Ref sig .tc} (hr : r ∈ argRefs) : exit0 m c (Proc.devRef .tc r) = m ((c.tc : Thread nD τ).loc r) := by
  show after condOps0 (atTrip condOps0 bodyI0 (entry0 m) 256 c) (Proc.devRef .tc r) = _
  rw [after_of_writes_sub condOps0 _ condOps0_writes (keep_mem hr (by decide +kernel)), atTrip0_arg (entry0 m) c hr, entry0_arg m c hr]

/-- The second layer's states from the launch. -/
def second (b : Fin 50) : ℕ → (Fin 32 → EReal) × (Fin 32 → EReal) :=
  Gat.rec (fun n => (first m c b (n + 1)).1) (fun j c' => ar9 m c (ix2 j c')) (fun j c' => ar10 m c (ix2 j c')) (bsum (ar11 m c) (ar12 m c))

theorem layAt1_eq (b : Fin 50) (n : ℕ) (hn : n ≤ 256) : layAt1 (entry1 m) c b n = second m c b n := by
  have e1 : (entry1 m c (Proc.devRef .tc main_v85_1) : FVec Ideal S128x32 .f32) = ar9 m c := (mid_wi (exit0 m c)).trans (exit0_arg m c (r := main_arg9) (by decide +kernel))
  have e2 : (entry1 m c (Proc.devRef .tc main_v85_2) : FVec Ideal S128x32 .f32) = ar10 m c := (mid_wh (exit0 m c)).trans (exit0_arg m c (r := main_arg10) (by decide +kernel))
  have e3 : (entry1 m c (Proc.devRef .tc main_v85_3) : FVec Ideal S128 .f32) = ar11 m c := (mid_bi (exit0 m c)).trans (exit0_arg m c (r := main_arg11) (by decide +kernel))
  have e4 : (entry1 m c (Proc.devRef .tc main_v85_4) : FVec Ideal S128 .f32) = ar12 m c := (mid_bh (exit0 m c)).trans (exit0_arg m c (r := main_arg12) (by decide +kernel))
  unfold layAt1 lay1 second
  rw [e1, e2, e3, e4]
  refine Gat.rec_congr _ _ _ _ _ n fun i hi => ?_
  funext u
  unfold seqIn1
  rw [dif_pos (show i < 256 by omega)]
  have e0 : (entry1 m c (Proc.devRef .tc main_v85_0) : FVec Ideal S256x50x32 .f32) = turnB (exit0 m c (Proc.devRef .tc main_v79_8)) := mid_x (exit0 m c)
  rw [e0, turnB_at]
  exact exit0_out m c ⟨i, by omega⟩ b u

theorem exit1_out (t : Fin 256) (b : Fin 50) (u : Fin 32) : (exit1 m c (Proc.devRef .tc main_v85_8) : FVec Ideal S256x50x32 .f32) (ix3 t b u) = (second m c b (t.1 + 1)).1 u := by
  have hi := (inv1 (entry1 m) c (ctr_entry1 m c) (fun b u => (congrFun (mid_h (exit0 m c)) (ix2 b u)).trans (zst_at b u)) (fun b u => (congrFun (mid_c (exit0 m c)) (ix2 b u)).trans (zst_at b u)) 256 le_rfl).2.2 t b u t.2
  rw [layAt1_eq m c b (t.1 + 1) (by omega)] at hi
  rw [← hi]
  show (after condOps1 (atTrip condOps1 bodyI1 (entry1 m) 256 c) (Proc.devRef .tc main_v85_8) : FVec Ideal S256x50x32 .f32) (ix3 t b u) = _
  rw [after_of_writes_sub condOps1 _ condOps1_writes (by decide +kernel)]

/-- The inputs of the recurrent layers. -/
def feed (n : ℕ) (b : Fin 50) (k : Fin 51) : EReal := if h : n < 256 then (entry0 m c (Proc.devRef .tc main_v79_0) : FVec Ideal S256x50x51 .f32) (ix3 ⟨n, h⟩ b k) else 0

/-- The reference's answer. -/
theorem end_net (t : Fin 256) (q : Fin 8) : (endContents m c (Proc.devRef .tc main_v93) : FVec Ideal S256x8 .f32) (ix2 t q)
    = Gat.net (feed m c) (fun j k => ar5 m c (ix2 j k)) (fun j k => ar6 m c (ix2 j k)) (bsum (ar7 m c) (ar8 m c)) (fun j k => ar9 m c (ix2 j k)) (fun j k => ar10 m c (ix2 j k)) (bsum (ar11 m c) (ar12 m c))
      (fun q x => ar13 m c (ix2 q x)) (fun q => ar14 m c (ix1 q)) t q := by
  refine (last_at (exit1 m c) t q).trans ?_
  unfold Gat.net
  rw [Gat.sum_rows]
  have e13 := exit1_arg m c (b := main_arg13) (by decide +kernel)
  have e14 := exit1_arg m c (b := main_arg14) (by decide +kernel)
  refine congrArg₂ (· + ·) (Finset.sum_congr rfl fun p _ => Finset.sum_congr rfl fun u _ => congrArg₂ (· * ·) ?_ ?_) (congrFun e14 (ix1 q))
  · have h1 : (⟨(p.1 * 32 + u.1) / 32, by omega⟩ : Fin 50) = p := Fin.ext (by show (p.1 * 32 + u.1) / 32 = p.1; omega)
    have h2 : (⟨(p.1 * 32 + u.1) % 32, by omega⟩ : Fin 32) = u := Fin.ext (by show (p.1 * 32 + u.1) % 32 = u.1; omega)
    refine Eq.trans ?_ (exit1_out m c t p u)
    exact congrArg₂ (fun (a : Fin 50) (b : Fin 32) => (exit1 m c (Proc.devRef .tc main_v85_8) : FVec Ideal S256x50x32 .f32) (ix3 t a b)) h1 h2
  · exact congrFun e13 (ix2 q ⟨p.1 * 32 + u.1, by omega⟩)
end
end Cert.ReferenceIdeal.Hand
-- ==== Proof.Finite.lean ====
module
public import proofs.«01_k».proof.Defs
public import Idealize.ShloMosaic.PureOps.Ideal
public import Idealize.ShloMosaic.Lib.Pointwise

/-!
The precondition read: every entry of the features and of the graph layers' weights is a real number.
-/

@[expose] public section
noncomputable section
namespace Cert.Pre_finite.Hand
open Cert.Pre_finite
open Idealize.ShloMosaic Idealize.ShloMosaic.Pointwise

/-- The shape relations the predicate states. -/
theorem facts : Facts where
  bcast_S_S256x50x51x2 := by decide
  reducesTo_S256x50x51x2_S_d0_1_2_3 := by decide
  h_S_ := by decide
  bcast_S_S4x64x2 := by decide
  reducesTo_S4x64x2_S_d0_1_2 := by decide
  bcast_S_S4x1x128 := by decide
  reducesTo_S4x1x128_S_d0_1_2 := by decide
  bcast_S_S128x256 := by decide
  reducesTo_S128x256_S_d0_1 := by decide
  bcast_S_S1x256 := by decide
  reducesTo_S1x256_S_d0_1 := by decide

theorem and_one (a b : BitVec 1) (h : IntOp.andi a b = 1#1) : a = 1#1 ∧ b = 1#1 := by
  revert a b
  unfold IntOp.andi
  decide

instance : Std.Commutative (IntOp.andi (w := 1)) := ⟨by unfold IntOp.andi; decide⟩
instance : Std.Associative (IntOp.andi (w := 1)) := ⟨by unfold IntOp.andi; decide⟩

theorem fold_one {ι : Type} [DecidableEq ι] (s : Finset ι) (f : ι → BitVec 1) (b : BitVec 1) (h : Finset.fold IntOp.andi b f s = 1#1) : ∀ i ∈ s, f i = 1#1 := by
  induction s using Finset.induction_on with
  | empty => intro i hi; exact absurd hi (Finset.notMem_empty i)
  | insert a s ha ih =>
    rw [Finset.fold_insert ha] at h
    have h2 := and_one _ _ h
    intro i hi
    rcases Finset.mem_insert.mp hi with e | e
    · rw [e]; exact h2.1
    · exact ih h2.2 i e

theorem all_one {s : Shape} {axes : List (Fin s.rank)} (x : IVec s 1) (z : IVec S_ 1) (hr : s.ReducesTo axes S_) (hu : 0 < S_.numel) (j : S_.Idx)
    (h : Host.reduce IntOp.andi x z hr hu j = 1#1) (i : s.Idx) : x i = 1#1 := by
  rw [Host.reduce_eq_fold] at h
  exact fold_one _ x _ h i (Finset.mem_filter.mpr ⟨Finset.mem_univ i, funext fun a => a.elim0⟩)

theorem inf_top : Ideal.ofBits .f32 0x7F800000#32 = (⊤ : EReal) := by
  simp [Ideal.ofBits, Ideal.ieee]

theorem real_of_lt (x : EReal) (h : max x (-x) < ⊤) : ((x.toReal : ℝ) : EReal) = x := by
  refine EReal.coe_toReal ?_ ?_ <;> rintro rfl <;> simp at h

theorem entry {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : x i = (((x i : EReal).toReal : ℝ) : EReal) := by
  have h1 : Ideal.cmp .olt (max (x i : EReal) (-(x i : EReal))) (Ideal.ofBits .f32 0x7F800000#32) = 1 := h
  rw [Ideal.cmp_olt_eq_one, inf_top] at h1
  exact (real_of_lt _ h1).symm

section
variable [Facts]
open Facts

theorem finite_entries (a0 : FVec Ideal S256x50x51x2 .f32) (a1 : FVec Ideal S4x64x2 .f32) (a2 : FVec Ideal S4x1x128 .f32) (a3 : FVec Ideal S128x256 .f32) (a4 : FVec Ideal S1x256 .f32)
    (a5 : FVec Ideal S128x51 .f32) (a6 : FVec Ideal S128x32 .f32) (a7 a8 : FVec Ideal S128 .f32) (a9 a10 : FVec Ideal S128x32 .f32) (a11 a12 : FVec Ideal S128 .f32) (a13 : FVec Ideal S8x1600 .f32) (a14 : FVec Ideal S8 .f32)
    (h : fn (F := Ideal) a0 a1 a2 a3 a4 a5 a6 a7 a8 a9 a10 a11 a12 a13 a14 = fun _ => 1#1) :
    (∀ i, a0 i = (((a0 i : EReal).toReal : ℝ) : EReal)) ∧ (∀ i, a1 i = (((a1 i : EReal).toReal : ℝ) : EReal)) ∧ (∀ i, a2 i = (((a2 i : EReal).toReal : ℝ) : EReal))
      ∧ (∀ i, a3 i = (((a3 i : EReal).toReal : ℝ) : EReal)) ∧ (∀ i, a4 i = (((a4 i : EReal).toReal : ℝ) : EReal)) := by
  have hj := congrFun h (fun a => a.elim0)
  unfold fn fn_part1 at hj
  dsimp only at hj
  obtain ⟨h3, h4⟩ := and_one _ _ hj
  obtain ⟨h2, h3⟩ := and_one _ _ h3
  obtain ⟨h1, h2⟩ := and_one _ _ h2
  obtain ⟨h0, h1⟩ := and_one _ _ h1
  exact ⟨fun i => entry a0 _ i (all_one _ _ _ _ _ h0 i), fun i => entry a1 _ i (all_one _ _ _ _ _ h1 i), fun i => entry a2 _ i (all_one _ _ _ _ _ h2 i),
    fun i => entry a3 _ i (all_one _ _ _ _ _ h3 i), fun i => entry a4 _ i (all_one _ _ _ _ _ h4 i)⟩
end
end Cert.Pre_finite.Hand
-- ==== Proof.Agree.lean ====
module
public import proofs.«01_k».proof.Proof.KRead
public import proofs.«01_k».proof.Proof.RefEnd
public import proofs.«01_k».proof.Proof.Finite

/-!
The kernel's answer and the reference's are the same array.
-/

@[expose] public section
noncomputable section
namespace Cert.Agree
open Idealize.ShloMosaic Idealize.ShloMosaic.TcCoe Idealize.ShloMosaic.StableHlo Idealize.ShloMosaic.Pointwise

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference memory's arguments are the kernel memory's on a device. -/
structure Same : Prop where
  e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

open Cert.KernelIdeal.Hand Cert.ReferenceIdeal.Hand

/-- On real arguments the recurrent layers are fed the same sequences. -/
theorem feeds (hs : Same m m' c) (f0 : ∀ i, kr0 m c i = (((kr0 m c i : EReal).toReal : ℝ) : EReal)) (f1 : ∀ i, kr1 m c i = (((kr1 m c i : EReal).toReal : ℝ) : EReal)) (f2 : ∀ i, kr2 m c i = (((kr2 m c i : EReal).toReal : ℝ) : EReal))
    (f3 : ∀ i, kr3 m c i = (((kr3 m c i : EReal).toReal : ℝ) : EReal)) (f4 : ∀ i, kr4 m c i = (((kr4 m c i : EReal).toReal : ℝ) : EReal)) : feed m' c = kfeed m ρ c := by
  funext n b k
  unfold feed kfeed
  by_cases h : n < 256
  · rw [dif_pos h, dif_pos h]
    refine Eq.trans ?_ (graphs_real m ρ c (fun s b n x => (kr0 m c (ix4 s b n x) : EReal).toReal) (fun h d x => (kr1 m c (ix3 h d x) : EReal).toReal) (fun h d => (kr2 m c (ix3 h 0 d) : EReal).toReal)
      (fun o j => (kr3 m c (ix2 o j) : EReal).toReal) (fun j => (kr4 m c (ix2 0 j) : EReal).toReal) (fun _ _ _ _ => f0 _) (fun _ _ _ => f1 _) (fun _ _ => f2 _) (fun _ _ => f3 _) (fun _ => f4 _) ⟨n, h⟩ b k).symm
    exact entry_real (launchContents m' c) _ _ _ _ _ ⟨n, h⟩ b (fun n x => (congrFun hs.e0 _).trans (f0 _)) (fun h d x => (congrFun hs.e1 _).trans (f1 _)) (fun h d => (congrFun hs.e2 _).trans (f2 _))
      (fun o j => (congrFun hs.e3 _).trans (f3 _)) (fun j => (congrFun hs.e4 _).trans (f4 _)) k
  · rw [dif_neg h, dif_neg h]

theorem answers (hs : Same m m' c) (f0 : ∀ i, kr0 m c i = (((kr0 m c i : EReal).toReal : ℝ) : EReal)) (f1 : ∀ i, kr1 m c i = (((kr1 m c i : EReal).toReal : ℝ) : EReal)) (f2 : ∀ i, kr2 m c i = (((kr2 m c i : EReal).toReal : ℝ) : EReal))
    (f3 : ∀ i, kr3 m c i = (((kr3 m c i : EReal).toReal : ℝ) : EReal)) (f4 : ∀ i, kr4 m c i = (((kr4 m c i : EReal).toReal : ℝ) : EReal)) (t : Fin 256) (q : Fin 8) :
    (endContents m' c (Proc.devRef .tc Cert.ReferenceIdeal.main_v93) : FVec Ideal Cert.ReferenceIdeal.S256x8 .f32) (ix2 t q)
      = (W4 m ρ c (Proc.devRef .tc Cert.KernelIdeal.main_v62) : FVec Ideal Cert.KernelIdeal.S256x8 .f32) (ix2 t q) := by
  refine (end_net m' c t q).trans (Eq.trans ?_ (kernel_net m ρ c t q).symm)
  rw [feeds m ρ m' c hs f0 f1 f2 f3 f4]
  have e5 : ar5 m' c = kr5 m c := hs.e5
  have e6 : ar6 m' c = kr6 m c := hs.e6
  have e7 : ar7 m' c = kr7 m c := hs.e7
  have e8 : ar8 m' c = kr8 m c := hs.e8
  have e9 : ar9 m' c = kr9 m c := hs.e9
  have e10 : ar10 m' c = kr10 m c := hs.e10
  have e11 : ar11 m' c = kr11 m c := hs.e11
  have e12 : ar12 m' c = kr12 m c := hs.e12
  have e13 : ar13 m' c = kr13 m c := hs.e13
  have e14 : ar14 m' c = kr14 m c := hs.e14
  rw [e5, e6, e7, e8, e9, e10, e11, e12, e13, e14]
  rfl

theorem arrays (hs : Same m m' c) (f0 : ∀ i, kr0 m c i = (((kr0 m c i : EReal).toReal : ℝ) : EReal)) (f1 : ∀ i, kr1 m c i = (((kr1 m c i : EReal).toReal : ℝ) : EReal)) (f2 : ∀ i, kr2 m c i = (((kr2 m c i : EReal).toReal : ℝ) : EReal))
    (f3 : ∀ i, kr3 m c i = (((kr3 m c i : EReal).toReal : ℝ) : EReal)) (f4 : ∀ i, kr4 m c i = (((kr4 m c i : EReal).toReal : ℝ) : EReal)) :
    (endContents m' c (Proc.devRef .tc Cert.ReferenceIdeal.main_v93) : FVec Ideal Cert.KernelIdeal.S256x8 .f32) = (W4 m ρ c (Proc.devRef .tc Cert.KernelIdeal.main_v62) : FVec Ideal Cert.KernelIdeal.S256x8 .f32) := by
  funext i
  rw [eq_ix2 i]
  exact answers m ρ m' c hs f0 f1 f2 f3 f4 _ _
end
end Cert.Agree
-- ==== Proof.lean ====
/- The certificate: the runs' end states read against each claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KerRun
public import proofs.«01_k».proof.Proof.KerIRun
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem

/-- From memories agreeing on the arguments, whose graph-layer arguments are real, both programs end with the same array. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Hand.facts) := by
  intro m ρ m' ρ' hpre hsame
  refine ⟨fun c => Cert.KernelIdeal.Hand.W4 m ρ c (Proc.devRef .tc Cert.KernelIdeal.main_v62), ?_, ?_⟩
  · exact (θ_run Cert.KernelIdeal.defs _ _).mono (fun r h c => ⟨h.1 c Cert.KernelIdeal.main_v62 (by decide),
      (h.1 c Cert.KernelIdeal.main_arg0 (by decide)).trans (Cert.KernelIdeal.Hand.W4_main_arg0 m ρ c),
      (h.1 c Cert.KernelIdeal.main_arg1 (by decide)).trans (Cert.KernelIdeal.Hand.W4_main_arg1 m ρ c),
      (h.1 c Cert.KernelIdeal.main_arg2 (by decide)).trans (Cert.KernelIdeal.Hand.W4_main_arg2 m ρ c),
      (h.1 c Cert.KernelIdeal.main_arg3 (by decide)).trans (Cert.KernelIdeal.Hand.W4_main_arg3 m ρ c),
      (h.1 c Cert.KernelIdeal.main_arg4 (by decide)).trans (Cert.KernelIdeal.Hand.W4_main_arg4 m ρ c),
      (h.1 c Cert.KernelIdeal.main_arg5 (by decide)).trans (Cert.KernelIdeal.Hand.W4_main_arg5 m ρ c),
      (h.1 c Cert.KernelIdeal.main_arg6 (by decide)).trans (Cert.KernelIdeal.Hand.W4_main_arg6 m ρ c),
      (h.1 c Cert.KernelIdeal.main_arg7 (by decide)).trans (Cert.KernelIdeal.Hand.W4_main_arg7 m ρ c),
      (h.1 c Cert.KernelIdeal.main_arg8 (by decide)).trans (Cert.KernelIdeal.Hand.W4_main_arg8 m ρ c),
      (h.1 c Cert.KernelIdeal.main_arg9 (by decide)).trans (Cert.KernelIdeal.Hand.W4_main_arg9 m ρ c),
      (h.1 c Cert.KernelIdeal.main_arg10 (by decide)).trans (Cert.KernelIdeal.Hand.W4_main_arg10 m ρ c),
      (h.1 c Cert.KernelIdeal.main_arg11 (by decide)).trans (Cert.KernelIdeal.Hand.W4_main_arg11 m ρ c),
      (h.1 c Cert.KernelIdeal.main_arg12 (by decide)).trans (Cert.KernelIdeal.Hand.W4_main_arg12 m ρ c),
      (h.1 c Cert.KernelIdeal.main_arg13 (by decide)).trans (Cert.KernelIdeal.Hand.W4_main_arg13 m ρ c),
      (h.1 c Cert.KernelIdeal.main_arg14 (by decide)).trans (Cert.KernelIdeal.Hand.W4_main_arg14 m ρ c)⟩) (Cert.KernelIdeal.Hand.run_end m ρ)
  · refine (θ_run Cert.ReferenceIdeal.defs _ _).mono (fun r h c => ⟨(h.1 c Cert.ReferenceIdeal.main_v93 (by decide)).trans ?_,
      (h.1 c Cert.ReferenceIdeal.main_arg0 (by decide)).trans (Cert.ReferenceIdeal.Hand.end_arg m' c (by decide)),
      (h.1 c Cert.ReferenceIdeal.main_arg1 (by decide)).trans (Cert.ReferenceIdeal.Hand.end_arg m' c (by decide)),
      (h.1 c Cert.ReferenceIdeal.main_arg2 (by decide)).trans (Cert.ReferenceIdeal.Hand.end_arg m' c (by decide)),
      (h.1 c Cert.ReferenceIdeal.main_arg3 (by decide)).trans (Cert.ReferenceIdeal.Hand.end_arg m' c (by decide)),
      (h.1 c Cert.ReferenceIdeal.main_arg4 (by decide)).trans (Cert.ReferenceIdeal.Hand.end_arg m' c (by decide)),
      (h.1 c Cert.ReferenceIdeal.main_arg5 (by decide)).trans (Cert.ReferenceIdeal.Hand.end_arg m' c (by decide)),
      (h.1 c Cert.ReferenceIdeal.main_arg6 (by decide)).trans (Cert.ReferenceIdeal.Hand.end_arg m' c (by decide)),
      (h.1 c Cert.ReferenceIdeal.main_arg7 (by decide)).trans (Cert.ReferenceIdeal.Hand.end_arg m' c (by decide)),
      (h.1 c Cert.ReferenceIdeal.main_arg8 (by decide)).trans (Cert.ReferenceIdeal.Hand.end_arg m' c (by decide)),
      (h.1 c Cert.ReferenceIdeal.main_arg9 (by decide)).trans (Cert.ReferenceIdeal.Hand.end_arg m' c (by decide)),
      (h.1 c Cert.ReferenceIdeal.main_arg10 (by decide)).trans (Cert.ReferenceIdeal.Hand.end_arg m' c (by decide)),
      (h.1 c Cert.ReferenceIdeal.main_arg11 (by decide)).trans (Cert.ReferenceIdeal.Hand.end_arg m' c (by decide)),
      (h.1 c Cert.ReferenceIdeal.main_arg12 (by decide)).trans (Cert.ReferenceIdeal.Hand.end_arg m' c (by decide)),
      (h.1 c Cert.ReferenceIdeal.main_arg13 (by decide)).trans (Cert.ReferenceIdeal.Hand.end_arg m' c (by decide)),
      (h.1 c Cert.ReferenceIdeal.main_arg14 (by decide)).trans (Cert.ReferenceIdeal.Hand.end_arg m' c (by decide))⟩) (Cert.ReferenceIdeal.Hand.run_fold m' ρ')
    obtain ⟨f0, f1, f2, f3, f4⟩ := @Cert.Pre_finite.Hand.finite_entries Cert.Pre_finite.Hand.facts _ _ _ _ _ _ _ _ _ _ _ _ _ _ _ (hpre c)
    obtain ⟨h0, h1, h2, h3, h4, h5, h6, h7, h8, h9, h10, h11, h12, h13, h14⟩ := hsame c
    exact Cert.Agree.arrays m ρ m' c ⟨h0, h1, h2, h3, h4, h5, h6, h7, h8, h9, h10, h11, h12, h13, h14⟩ f0 f1 f2 f3 f4

theorem claim : Cert.Claim := ⟨Cert.Kernel.Gen.facts, Cert.KernelIdeal.Gen.facts, Cert.ReferenceIdeal.Gen.facts, Cert.Pre_finite.Hand.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Hand.frame m ρ, fun m ρ _ => Cert.ReferenceIdeal.Hand.frame m ρ, trivial, algebraic⟩

end Cert.Proof

end
